-- ==== Defs.lean ====
def Pre_Da2 (m : (ℓ : Loc Cert.Da2.nD Cert.Da2.τ Cert.Da2.sig) → Buf (Elt Bits) ℓ) : Prop :=
  True

def Pre_Da2Ideal (m : (ℓ : Loc Cert.Da2Ideal.nD Cert.Da2Ideal.τ Cert.Da2Ideal.sig) → Buf (Elt Ideal) ℓ) : Prop :=
  True

def Pre_Da2RefIdeal (m : (ℓ : Loc Cert.Da2RefIdeal.nD Cert.Da2RefIdeal.τ Cert.Da2RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Act1 (m : (ℓ : Loc Cert.Act1.nD Cert.Act1.τ Cert.Act1.sig) → Buf (Elt Bits) ℓ) : Prop :=
  True

def Pre_Act1Ideal (m : (ℓ : Loc Cert.Act1Ideal.nD Cert.Act1Ideal.τ Cert.Act1Ideal.sig) → Buf (Elt Ideal) ℓ) : Prop :=
  True

def Pre_Act1RefIdeal (m : (ℓ : Loc Cert.Act1RefIdeal.nD Cert.Act1RefIdeal.τ Cert.Act1RefIdeal.sig) → Buf (Elt Ideal) ℓ) : Prop :=
  True

def Pre_Conv1 (m : (ℓ : Loc Cert.Conv1.nD Cert.Conv1.τ Cert.Conv1.sig) → Buf (Elt Bits) ℓ) : Prop :=
  True

def Pre_Conv1Ideal (m : (ℓ : Loc Cert.Conv1Ideal.nD Cert.Conv1Ideal.τ Cert.Conv1Ideal.sig) → Buf (Elt Ideal) ℓ) : Prop :=
  True

def Pre_Conv1RefIdeal (m : (ℓ : Loc Cert.Conv1RefIdeal.nD Cert.Conv1RefIdeal.τ Cert.Conv1RefIdeal.sig) → Buf (Elt Ideal) ℓ) : Prop :=
  True

def quiescent_Da2 [hDa2 : Cert.Da2.Facts] : Prop :=
  ∀ (m : (ℓ : Loc Cert.Da2.nD Cert.Da2.τ Cert.Da2.sig) → Buf (Elt Bits) ℓ) (g : Dev Cert.Da2.nD → PrngReg), Pre_Da2 m →
    θ_run (Cert.Da2.defs (F := Bits)) (onTc (τ := Cert.Da2.τ) (Cert.Da2.main (F := Bits))) ⟨m, fun _ => 0, g⟩ (fun r => (∀ c : Dev Cert.Da2.nD,
      r.2.mem ((c.tc : Thread Cert.Da2.nD Cert.Da2.τ).loc Cert.Da2.main_arg0) = m ((c.tc : Thread Cert.Da2.nD Cert.Da2.τ).loc Cert.Da2.main_arg0)
      ∧ r.2.mem ((c.tc : Thread Cert.Da2.nD Cert.Da2.τ).loc Cert.Da2.main_arg1) = m ((c.tc : Thread Cert.Da2.nD Cert.Da2.τ).loc Cert.Da2.main_arg1)
      ∧ r.2.mem ((c.tc : Thread Cert.Da2.nD Cert.Da2.τ).loc Cert.Da2.main_arg2) = m ((c.tc : Thread Cert.Da2.nD Cert.Da2.τ).loc Cert.Da2.main_arg2)
      ∧ r.2.mem ((c.tc : Thread Cert.Da2.nD Cert.Da2.τ).loc Cert.Da2.main_arg3) = m ((c.tc : Thread Cert.Da2.nD Cert.Da2.τ).loc Cert.Da2.main_arg3))
      ∧ r.2.sem = fun _ => 0)

def quiescent_Da2Ideal [hDa2Ideal : Cert.Da2Ideal.Facts] : Prop :=
  ∀ (m : (ℓ : Loc Cert.Da2Ideal.nD Cert.Da2Ideal.τ Cert.Da2Ideal.sig) → Buf (Elt Ideal) ℓ) (g : Dev Cert.Da2Ideal.nD → PrngReg), Pre_Da2Ideal m →
    θ_run (Cert.Da2Ideal.defs (F := Ideal)) (onTc (τ := Cert.Da2Ideal.τ) (Cert.Da2Ideal.main (F := Ideal))) ⟨m, fun _ => 0, g⟩ (fun r => (∀ c : Dev Cert.Da2Ideal.nD,
      r.2.mem ((c.tc : Thread Cert.Da2Ideal.nD Cert.Da2Ideal.τ).loc Cert.Da2Ideal.main_arg0) = m ((c.tc : Thread Cert.Da2Ideal.nD Cert.Da2Ideal.τ).loc Cert.Da2Ideal.main_arg0)
      ∧ r.2.mem ((c.tc : Thread Cert.Da2Ideal.nD Cert.Da2Ideal.τ).loc Cert.Da2Ideal.main_arg1) = m ((c.tc : Thread Cert.Da2Ideal.nD Cert.Da2Ideal.τ).loc Cert.Da2Ideal.main_arg1)
      ∧ r.2.mem ((c.tc : Thread Cert.Da2Ideal.nD Cert.Da2Ideal.τ).loc Cert.Da2Ideal.main_arg2) = m ((c.tc : Thread Cert.Da2Ideal.nD Cert.Da2Ideal.τ).loc Cert.Da2Ideal.main_arg2)
      ∧ r.2.mem ((c.tc : Thread Cert.Da2Ideal.nD Cert.Da2Ideal.τ).loc Cert.Da2Ideal.main_arg3) = m ((c.tc : Thread Cert.Da2Ideal.nD Cert.Da2Ideal.τ).loc Cert.Da2Ideal.main_arg3))
      ∧ r.2.sem = fun _ => 0)

def quiescent_Da2RefIdeal [hDa2RefIdeal : Cert.Da2RefIdeal.Facts] : Prop :=
  ∀ (m : (ℓ : Loc Cert.Da2RefIdeal.nD Cert.Da2RefIdeal.τ Cert.Da2RefIdeal.sig) → Buf (Elt Ideal) ℓ) (g : Dev Cert.Da2RefIdeal.nD → PrngReg), Pre_Da2RefIdeal m →
    θ_run (Cert.Da2RefIdeal.defs (F := Ideal)) (onTc (τ := Cert.Da2RefIdeal.τ) (Cert.Da2RefIdeal.main (F := Ideal))) ⟨m, fun _ => 0, g⟩ (fun r => (∀ c : Dev Cert.Da2RefIdeal.nD,
      r.2.mem ((c.tc : Thread Cert.Da2RefIdeal.nD Cert.Da2RefIdeal.τ).loc Cert.Da2RefIdeal.main_arg0) = m ((c.tc : Thread Cert.Da2RefIdeal.nD Cert.Da2RefIdeal.τ).loc Cert.Da2RefIdeal.main_arg0)
      ∧ r.2.mem ((c.tc : Thread Cert.Da2RefIdeal.nD Cert.Da2RefIdeal.τ).loc Cert.Da2RefIdeal.main_arg1) = m ((c.tc : Thread Cert.Da2RefIdeal.nD Cert.Da2RefIdeal.τ).loc Cert.Da2RefIdeal.main_arg1)
      ∧ r.2.mem ((c.tc : Thread Cert.Da2RefIdeal.nD Cert.Da2RefIdeal.τ).loc Cert.Da2RefIdeal.main_arg2) = m ((c.tc : Thread Cert.Da2RefIdeal.nD Cert.Da2RefIdeal.τ).loc Cert.Da2RefIdeal.main_arg2)
      ∧ r.2.mem ((c.tc : Thread Cert.Da2RefIdeal.nD Cert.Da2RefIdeal.τ).loc Cert.Da2RefIdeal.main_arg3) = m ((c.tc : Thread Cert.Da2RefIdeal.nD Cert.Da2RefIdeal.τ).loc Cert.Da2RefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2)
      ∧ r.2.mem ((c.tc : Thread Cert.Dw2.nD Cert.Dw2.τ).loc Cert.Dw2.main_arg3) = m ((c.tc : Thread Cert.Dw2.nD Cert.Dw2.τ).loc Cert.Dw2.main_arg3))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
      ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2)
      ∧ r.2.mem ((c.tc : Thread Cert.Dw2RefIdeal.nD Cert.Dw2RefIdeal.τ).loc Cert.Dw2RefIdeal.main_arg3) = m ((c.tc : Thread Cert.Dw2RefIdeal.nD Cert.Dw2RefIdeal.τ).loc Cert.Dw2RefIdeal.main_arg3))
      ∧ r.2.sem = fun _ => 0)

def quiescent_Act1 [hAct1 : Cert.Act1.Facts] : Prop :=
  ∀ (m : (ℓ : Loc Cert.Act1.nD Cert.Act1.τ Cert.Act1.sig) → Buf (Elt Bits) ℓ) (g : Dev Cert.Act1.nD → PrngReg), Pre_Act1 m →
    θ_run (Cert.Act1.defs (F := Bits)) (onTc (τ := Cert.Act1.τ) (Cert.Act1.main (F := Bits))) ⟨m, fun _ => 0, g⟩ (fun r => (∀ c : Dev Cert.Act1.nD,
      r.2.mem ((c.tc : Thread Cert.Act1.nD Cert.Act1.τ).loc Cert.Act1.main_arg0) = m ((c.tc : Thread Cert.Act1.nD Cert.Act1.τ).loc Cert.Act1.main_arg0)
      ∧ r.2.mem ((c.tc : Thread Cert.Act1.nD Cert.Act1.τ).loc Cert.Act1.main_arg1) = m ((c.tc : Thread Cert.Act1.nD Cert.Act1.τ).loc Cert.Act1.main_arg1)
      ∧ r.2.mem ((c.tc : Thread Cert.Act1.nD Cert.Act1.τ).loc Cert.Act1.main_arg2) = m ((c.tc : Thread Cert.Act1.nD Cert.Act1.τ).loc Cert.Act1.main_arg2)
      ∧ r.2.mem ((c.tc : Thread Cert.Act1.nD Cert.Act1.τ).loc Cert.Act1.main_arg3) = m ((c.tc : Thread Cert.Act1.nD Cert.Act1.τ).loc Cert.Act1.main_arg3)
      ∧ r.2.mem ((c.tc : Thread Cert.Act1.nD Cert.Act1.τ).loc Cert.Act1.main_arg4) = m ((c.tc : Thread Cert.Act1.nD Cert.Act1.τ).loc Cert.Act1.main_arg4)
      ∧ r.2.mem ((c.tc : Thread Cert.Act1.nD Cert.Act1.τ).loc Cert.Act1.main_arg5) = m ((c.tc : Thread Cert.Act1.nD Cert.Act1.τ).loc Cert.Act1.main_arg5))
      ∧ r.2.sem = fun _ => 0)

def quiescent_Act1Ideal [hAct1Ideal : Cert.Act1Ideal.Facts] : Prop :=
  ∀ (m : (ℓ : Loc Cert.Act1Ideal.nD Cert.Act1Ideal.τ Cert.Act1Ideal.sig) → Buf (Elt Ideal) ℓ) (g : Dev Cert.Act1Ideal.nD → PrngReg), Pre_Act1Ideal m →
    θ_run (Cert.Act1Ideal.defs (F := Ideal)) (onTc (τ := Cert.Act1Ideal.τ) (Cert.Act1Ideal.main (F := Ideal))) ⟨m, fun _ => 0, g⟩ (fun r => (∀ c : Dev Cert.Act1Ideal.nD,
      r.2.mem ((c.tc : Thread Cert.Act1Ideal.nD Cert.Act1Ideal.τ).loc Cert.Act1Ideal.main_arg0) = m ((c.tc : Thread Cert.Act1Ideal.nD Cert.Act1Ideal.τ).loc Cert.Act1Ideal.main_arg0)
      ∧ r.2.mem ((c.tc : Thread Cert.Act1Ideal.nD Cert.Act1Ideal.τ).loc Cert.Act1Ideal.main_arg1) = m ((c.tc : Thread Cert.Act1Ideal.nD Cert.Act1Ideal.τ).loc Cert.Act1Ideal.main_arg1)
      ∧ r.2.mem ((c.tc : Thread Cert.Act1Ideal.nD Cert.Act1Ideal.τ).loc Cert.Act1Ideal.main_arg2) = m ((c.tc : Thread Cert.Act1Ideal.nD Cert.Act1Ideal.τ).loc Cert.Act1Ideal.main_arg2)
      ∧ r.2.mem ((c.tc : Thread Cert.Act1Ideal.nD Cert.Act1Ideal.τ).loc Cert.Act1Ideal.main_arg3) = m ((c.tc : Thread Cert.Act1Ideal.nD Cert.Act1Ideal.τ).loc Cert.Act1Ideal.main_arg3)
      ∧ r.2.mem ((c.tc : Thread Cert.Act1Ideal.nD Cert.Act1Ideal.τ).loc Cert.Act1Ideal.main_arg4) = m ((c.tc : Thread Cert.Act1Ideal.nD Cert.Act1Ideal.τ).loc Cert.Act1Ideal.main_arg4)
      ∧ r.2.mem ((c.tc : Thread Cert.Act1Ideal.nD Cert.Act1Ideal.τ).loc Cert.Act1Ideal.main_arg5) = m ((c.tc : Thread Cert.Act1Ideal.nD Cert.Act1Ideal.τ).loc Cert.Act1Ideal.main_arg5))
      ∧ r.2.sem = fun _ => 0)

def quiescent_Act1RefIdeal [hAct1RefIdeal : Cert.Act1RefIdeal.Facts] : Prop :=
  ∀ (m : (ℓ : Loc Cert.Act1RefIdeal.nD Cert.Act1RefIdeal.τ Cert.Act1RefIdeal.sig) → Buf (Elt Ideal) ℓ) (g : Dev Cert.Act1RefIdeal.nD → PrngReg), Pre_Act1RefIdeal m →
    θ_run (Cert.Act1RefIdeal.defs (F := Ideal)) (onTc (τ := Cert.Act1RefIdeal.τ) (Cert.Act1RefIdeal.main (F := Ideal))) ⟨m, fun _ => 0, g⟩ (fun r => (∀ c : Dev Cert.Act1RefIdeal.nD,
      r.2.mem ((c.tc : Thread Cert.Act1RefIdeal.nD Cert.Act1RefIdeal.τ).loc Cert.Act1RefIdeal.main_arg0) = m ((c.tc : Thread Cert.Act1RefIdeal.nD Cert.Act1RefIdeal.τ).loc Cert.Act1RefIdeal.main_arg0)
      ∧ r.2.mem ((c.tc : Thread Cert.Act1RefIdeal.nD Cert.Act1RefIdeal.τ).loc Cert.Act1RefIdeal.main_arg1) = m ((c.tc : Thread Cert.Act1RefIdeal.nD Cert.Act1RefIdeal.τ).loc Cert.Act1RefIdeal.main_arg1)
      ∧ r.2.mem ((c.tc : Thread Cert.Act1RefIdeal.nD Cert.Act1RefIdeal.τ).loc Cert.Act1RefIdeal.main_arg2) = m ((c.tc : Thread Cert.Act1RefIdeal.nD Cert.Act1RefIdeal.τ).loc Cert.Act1RefIdeal.main_arg2)
      ∧ r.2.mem ((c.tc : Thread Cert.Act1RefIdeal.nD Cert.Act1RefIdeal.τ).loc Cert.Act1RefIdeal.main_arg3) = m ((c.tc : Thread Cert.Act1RefIdeal.nD Cert.Act1RefIdeal.τ).loc Cert.Act1RefIdeal.main_arg3)
      ∧ r.2.mem ((c.tc : Thread Cert.Act1RefIdeal.nD Cert.Act1RefIdeal.τ).loc Cert.Act1RefIdeal.main_arg4) = m ((c.tc : Thread Cert.Act1RefIdeal.nD Cert.Act1RefIdeal.τ).loc Cert.Act1RefIdeal.main_arg4)
      ∧ r.2.mem ((c.tc : Thread Cert.Act1RefIdeal.nD Cert.Act1RefIdeal.τ).loc Cert.Act1RefIdeal.main_arg5) = m ((c.tc : Thread Cert.Act1RefIdeal.nD Cert.Act1RefIdeal.τ).loc Cert.Act1RefIdeal.main_arg5))
      ∧ r.2.sem = fun _ => 0)

def quiescent_Conv1 [hConv1 : Cert.Conv1.Facts] : Prop :=
  ∀ (m : (ℓ : Loc Cert.Conv1.nD Cert.Conv1.τ Cert.Conv1.sig) → Buf (Elt Bits) ℓ) (g : Dev Cert.Conv1.nD → PrngReg), Pre_Conv1 m →
    θ_run (Cert.Conv1.defs (F := Bits)) (onTc (τ := Cert.Conv1.τ) (Cert.Conv1.main (F := Bits))) ⟨m, fun _ => 0, g⟩ (fun r => (∀ c : Dev Cert.Conv1.nD,
      r.2.mem ((c.tc : Thread Cert.Conv1.nD Cert.Conv1.τ).loc Cert.Conv1.main_arg0) = m ((c.tc : Thread Cert.Conv1.nD Cert.Conv1.τ).loc Cert.Conv1.main_arg0)
      ∧ r.2.mem ((c.tc : Thread Cert.Conv1.nD Cert.Conv1.τ).loc Cert.Conv1.main_arg1) = m ((c.tc : Thread Cert.Conv1.nD Cert.Conv1.τ).loc Cert.Conv1.main_arg1)
      ∧ r.2.mem ((c.tc : Thread Cert.Conv1.nD Cert.Conv1.τ).loc Cert.Conv1.main_arg2) = m ((c.tc : Thread Cert.Conv1.nD Cert.Conv1.τ).loc Cert.Conv1.main_arg2)
      ∧ r.2.mem ((c.tc : Thread Cert.Conv1.nD Cert.Conv1.τ).loc Cert.Conv1.main_arg3) = m ((c.tc : Thread Cert.Conv1.nD Cert.Conv1.τ).loc Cert.Conv1.main_arg3)
      ∧ r.2.mem ((c.tc : Thread Cert.Conv1.nD Cert.Conv1.τ).loc Cert.Conv1.main_arg4) = m ((c.tc : Thread Cert.Conv1.nD Cert.Conv1.τ).loc Cert.Conv1.main_arg4)
      ∧ r.2.mem ((c.tc : Thread Cert.Conv1.nD Cert.Conv1.τ).loc Cert.Conv1.main_arg5) = m ((c.tc : Thread Cert.Conv1.nD Cert.Conv1.τ).loc Cert.Conv1.main_arg5)
      ∧ r.2.mem ((c.tc : Thread Cert.Conv1.nD Cert.Conv1.τ).loc Cert.Conv1.main_arg6) = m ((c.tc : Thread Cert.Conv1.nD Cert.Conv1.τ).loc Cert.Conv1.main_arg6)
      ∧ r.2.mem ((c.tc : Thread Cert.Conv1.nD Cert.Conv1.τ).loc Cert.Conv1.main_arg7) = m ((c.tc : Thread Cert.Conv1.nD Cert.Conv1.τ).loc Cert.Conv1.main_arg7)
      ∧ r.2.mem ((c.tc : Thread Cert.Conv1.nD Cert.Conv1.τ).loc Cert.Conv1.main_arg8) = m ((c.tc : Thread Cert.Conv1.nD Cert.Conv1.τ).loc Cert.Conv1.main_arg8)
      ∧ r.2.mem ((c.tc : Thread Cert.Conv1.nD Cert.Conv1.τ).loc Cert.Conv1.main_arg9) = m ((c.tc : Thread Cert.Conv1.nD Cert.Conv1.τ).loc Cert.Conv1.main_arg9))
      ∧ r.2.sem = fun _ => 0)

def quiescent_Conv1Ideal [hConv1Ideal : Cert.Conv1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg), Pre_Conv1Ideal m →
    θ_run (Cert.Conv1Ideal.defs (F := Ideal)) (onTc (τ := Cert.Conv1Ideal.τ) (Cert.Conv1Ideal.main (F := Ideal))) ⟨m, fun _ => 0, g⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
      ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2)
      ∧ r.2.mem ((c.tc : Thread Cert.Conv1Ideal.nD Cert.Conv1Ideal.τ).loc Cert.Conv1Ideal.main_arg3) = m ((c.tc : Thread Cert.Conv1Ideal.nD Cert.Conv1Ideal.τ).loc Cert.Conv1Ideal.main_arg3)
      ∧ r.2.mem ((c.tc : Thread Cert.Conv1Ideal.nD Cert.Conv1Ideal.τ).loc Cert.Conv1Ideal.main_arg4) = m ((c.tc : Thread Cert.Conv1Ideal.nD Cert.Conv1Ideal.τ).loc Cert.Conv1Ideal.main_arg4)
      ∧ r.2.mem ((c.tc : Thread Cert.Conv1Ideal.nD Cert.Conv1Ideal.τ).loc Cert.Conv1Ideal.main_arg5) = m ((c.tc : Thread Cert.Conv1Ideal.nD Cert.Conv1Ideal.τ).loc Cert.Conv1Ideal.main_arg5)
      ∧ r.2.mem ((c.tc : Thread Cert.Conv1Ideal.nD Cert.Conv1Ideal.τ).loc Cert.Conv1Ideal.main_arg6) = m ((c.tc : Thread Cert.Conv1Ideal.nD Cert.Conv1Ideal.τ).loc Cert.Conv1Ideal.main_arg6)
      ∧ r.2.mem ((c.tc : Thread Cert.Conv1Ideal.nD Cert.Conv1Ideal.τ).loc Cert.Conv1Ideal.main_arg7) = m ((c.tc : Thread Cert.Conv1Ideal.nD Cert.Conv1Ideal.τ).loc Cert.Conv1Ideal.main_arg7)
      ∧ r.2.mem ((c.tc : Thread Cert.Conv1Ideal.nD Cert.Conv1Ideal.τ).loc Cert.Conv1Ideal.main_arg8) = m ((c.tc : Thread Cert.Conv1Ideal.nD Cert.Conv1Ideal.τ).loc Cert.Conv1Ideal.main_arg8)
      ∧ r.2.mem ((c.tc : Thread Cert.Conv1Ideal.nD Cert.Conv1Ideal.τ).loc Cert.Conv1Ideal.main_arg9) = m ((c.tc : Thread Cert.Conv1Ideal.nD Cert.Conv1Ideal.τ).loc Cert.Conv1Ideal.main_arg9))
      ∧ r.2.sem = fun _ => 0)

def quiescent_Conv1RefIdeal [hConv1RefIdeal : Cert.Conv1RefIdeal.Facts] : Prop :=
  ∀ (m : (ℓ : Loc Cert.Conv1RefIdeal.nD Cert.Conv1RefIdeal.τ Cert.Conv1RefIdeal.sig) → Buf (Elt Ideal) ℓ) (g : Dev Cert.Conv1RefIdeal.nD → PrngReg), Pre_Conv1RefIdeal m →
    θ_run (Cert.Conv1RefIdeal.defs (F := Ideal)) (onTc (τ := Cert.Conv1RefIdeal.τ) (Cert.Conv1RefIdeal.main (F := Ideal))) ⟨m, fun _ => 0, g⟩ (fun r => (∀ c : Dev Cert.Conv1RefIdeal.nD,
      r.2.mem ((c.tc : Thread Cert.Conv1RefIdeal.nD Cert.Conv1RefIdeal.τ).loc Cert.Conv1RefIdeal.main_arg0) = m ((c.tc : Thread Cert.Conv1RefIdeal.nD Cert.Conv1RefIdeal.τ).loc Cert.Conv1RefIdeal.main_arg0)
      ∧ r.2.mem ((c.tc : Thread Cert.Conv1RefIdeal.nD Cert.Conv1RefIdeal.τ).loc Cert.Conv1RefIdeal.main_arg1) = m ((c.tc : Thread Cert.Conv1RefIdeal.nD Cert.Conv1RefIdeal.τ).loc Cert.Conv1RefIdeal.main_arg1)
      ∧ r.2.mem ((c.tc : Thread Cert.Conv1RefIdeal.nD Cert.Conv1RefIdeal.τ).loc Cert.Conv1RefIdeal.main_arg2) = m ((c.tc : Thread Cert.Conv1RefIdeal.nD Cert.Conv1RefIdeal.τ).loc Cert.Conv1RefIdeal.main_arg2)
      ∧ r.2.mem ((c.tc : Thread Cert.Conv1RefIdeal.nD Cert.Conv1RefIdeal.τ).loc Cert.Conv1RefIdeal.main_arg3) = m ((c.tc : Thread Cert.Conv1RefIdeal.nD Cert.Conv1RefIdeal.τ).loc Cert.Conv1RefIdeal.main_arg3)
      ∧ r.2.mem ((c.tc : Thread Cert.Conv1RefIdeal.nD Cert.Conv1RefIdeal.τ).loc Cert.Conv1RefIdeal.main_arg4) = m ((c.tc : Thread Cert.Conv1RefIdeal.nD Cert.Conv1RefIdeal.τ).loc Cert.Conv1RefIdeal.main_arg4)
      ∧ r.2.mem ((c.tc : Thread Cert.Conv1RefIdeal.nD Cert.Conv1RefIdeal.τ).loc Cert.Conv1RefIdeal.main_arg5) = m ((c.tc : Thread Cert.Conv1RefIdeal.nD Cert.Conv1RefIdeal.τ).loc Cert.Conv1RefIdeal.main_arg5)
      ∧ r.2.mem ((c.tc : Thread Cert.Conv1RefIdeal.nD Cert.Conv1RefIdeal.τ).loc Cert.Conv1RefIdeal.main_arg6) = m ((c.tc : Thread Cert.Conv1RefIdeal.nD Cert.Conv1RefIdeal.τ).loc Cert.Conv1RefIdeal.main_arg6)
      ∧ r.2.mem ((c.tc : Thread Cert.Conv1RefIdeal.nD Cert.Conv1RefIdeal.τ).loc Cert.Conv1RefIdeal.main_arg7) = m ((c.tc : Thread Cert.Conv1RefIdeal.nD Cert.Conv1RefIdeal.τ).loc Cert.Conv1RefIdeal.main_arg7)
      ∧ r.2.mem ((c.tc : Thread Cert.Conv1RefIdeal.nD Cert.Conv1RefIdeal.τ).loc Cert.Conv1RefIdeal.main_arg8) = m ((c.tc : Thread Cert.Conv1RefIdeal.nD Cert.Conv1RefIdeal.τ).loc Cert.Conv1RefIdeal.main_arg8)
      ∧ r.2.mem ((c.tc : Thread Cert.Conv1RefIdeal.nD Cert.Conv1RefIdeal.τ).loc Cert.Conv1RefIdeal.main_arg9) = m ((c.tc : Thread Cert.Conv1RefIdeal.nD Cert.Conv1RefIdeal.τ).loc Cert.Conv1RefIdeal.main_arg9))
      ∧ r.2.sem = fun _ => 0)

def preserves_Da2_Da2Ideal : Prop :=
  IdealRules.bf16_pair.Statement Cert.Da2Ideal.S1280x512 Cert.Da2Ideal.S640x512

def algebraic_Da2Ideal_Da2RefIdeal [hDa2Ideal : Cert.Da2Ideal.Facts] [hDa2RefIdeal : Cert.Da2RefIdeal.Facts] : Prop :=
  ∀ (m : (ℓ : Loc Cert.Da2Ideal.nD Cert.Da2Ideal.τ Cert.Da2Ideal.sig) → Buf (Elt Ideal) ℓ) (g : Dev Cert.Da2Ideal.nD → PrngReg)
    (m' : (ℓ : Loc Cert.Da2RefIdeal.nD Cert.Da2RefIdeal.τ Cert.Da2RefIdeal.sig) → Buf (Elt Ideal) ℓ) (g' : Dev Cert.Da2RefIdeal.nD → PrngReg), Pre_Da2Ideal m →
    (∀ c : Dev Cert.Da2Ideal.nD,
      m' ((c.tc : Thread Cert.Da2RefIdeal.nD Cert.Da2RefIdeal.τ).loc Cert.Da2RefIdeal.main_arg0) = m ((c.tc : Thread Cert.Da2Ideal.nD Cert.Da2Ideal.τ).loc Cert.Da2Ideal.main_arg0)
      ∧ m' ((c.tc : Thread Cert.Da2RefIdeal.nD Cert.Da2RefIdeal.τ).loc Cert.Da2RefIdeal.main_arg1) = m ((c.tc : Thread Cert.Da2Ideal.nD Cert.Da2Ideal.τ).loc Cert.Da2Ideal.main_arg1)
      ∧ m' ((c.tc : Thread Cert.Da2RefIdeal.nD Cert.Da2RefIdeal.τ).loc Cert.Da2RefIdeal.main_arg2) = m ((c.tc : Thread Cert.Da2Ideal.nD Cert.Da2Ideal.τ).loc Cert.Da2Ideal.main_arg2)
      ∧ m' ((c.tc : Thread Cert.Da2RefIdeal.nD Cert.Da2RefIdeal.τ).loc Cert.Da2RefIdeal.main_arg3) = m ((c.tc : Thread Cert.Da2Ideal.nD Cert.Da2Ideal.τ).loc Cert.Da2Ideal.main_arg3)) →
    ∃ (v0 : (c : Dev Cert.Da2Ideal.nD) → Buf (Elt Ideal) ((c.tc : Thread Cert.Da2Ideal.nD Cert.Da2Ideal.τ).loc Cert.Da2Ideal.main_v4)),
      θ_run (Cert.Da2Ideal.defs (F := Ideal)) (onTc (τ := Cert.Da2Ideal.τ) (Cert.Da2Ideal.main (F := Ideal))) ⟨m, fun _ => 0, g⟩ (fun r => ∀ c : Dev Cert.Da2Ideal.nD,
          r.2.mem ((c.tc : Thread Cert.Da2Ideal.nD Cert.Da2Ideal.τ).loc Cert.Da2Ideal.main_v4) = v0 c
          ∧ r.2.mem ((c.tc : Thread Cert.Da2Ideal.nD Cert.Da2Ideal.τ).loc Cert.Da2Ideal.main_arg0) = m ((c.tc : Thread Cert.Da2Ideal.nD Cert.Da2Ideal.τ).loc Cert.Da2Ideal.main_arg0)
          ∧ r.2.mem ((c.tc : Thread Cert.Da2Ideal.nD Cert.Da2Ideal.τ).loc Cert.Da2Ideal.main_arg1) = m ((c.tc : Thread Cert.Da2Ideal.nD Cert.Da2Ideal.τ).loc Cert.Da2Ideal.main_arg1)
          ∧ r.2.mem ((c.tc : Thread Cert.Da2Ideal.nD Cert.Da2Ideal.τ).loc Cert.Da2Ideal.main_arg2) = m ((c.tc : Thread Cert.Da2Ideal.nD Cert.Da2Ideal.τ).loc Cert.Da2Ideal.main_arg2)
          ∧ r.2.mem ((c.tc : Thread Cert.Da2Ideal.nD Cert.Da2Ideal.τ).loc Cert.Da2Ideal.main_arg3) = m ((c.tc : Thread Cert.Da2Ideal.nD Cert.Da2Ideal.τ).loc Cert.Da2Ideal.main_arg3))
      ∧ θ_run (Cert.Da2RefIdeal.defs (F := Ideal)) (onTc (τ := Cert.Da2RefIdeal.τ) (Cert.Da2RefIdeal.main (F := Ideal))) ⟨m', fun _ => 0, g'⟩ (fun r => ∀ c : Dev Cert.Da2RefIdeal.nD,
          r.2.mem ((c.tc : Thread Cert.Da2RefIdeal.nD Cert.Da2RefIdeal.τ).loc Cert.Da2RefIdeal.main_v3) = v0 c
          ∧ r.2.mem ((c.tc : Thread Cert.Da2RefIdeal.nD Cert.Da2RefIdeal.τ).loc Cert.Da2RefIdeal.main_arg0) = m' ((c.tc : Thread Cert.Da2RefIdeal.nD Cert.Da2RefIdeal.τ).loc Cert.Da2RefIdeal.main_arg0)
          ∧ r.2.mem ((c.tc : Thread Cert.Da2RefIdeal.nD Cert.Da2RefIdeal.τ).loc Cert.Da2RefIdeal.main_arg1) = m' ((c.tc : Thread Cert.Da2RefIdeal.nD Cert.Da2RefIdeal.τ).loc Cert.Da2RefIdeal.main_arg1)
          ∧ r.2.mem ((c.tc : Thread Cert.Da2RefIdeal.nD Cert.Da2RefIdeal.τ).loc Cert.Da2RefIdeal.main_arg2) = m' ((c.tc : Thread Cert.Da2RefIdeal.nD Cert.Da2RefIdeal.τ).loc Cert.Da2RefIdeal.main_arg2)
          ∧ r.2.mem ((c.tc : Thread Cert.Da2RefIdeal.nD Cert.Da2RefIdeal.τ).loc Cert.Da2RefIdeal.main_arg3) = m' ((c.tc : Thread Cert.Da2RefIdeal.nD Cert.Da2RefIdeal.τ).loc Cert.Da2RefIdeal.main_arg3))

def preserves_Dw2_Dw2Ideal : Prop :=
  IdealRules.bf16_pair.Statement Cert.Dw2Ideal.S256x3072 Cert.Dw2Ideal.S128x3072

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)
      ∧ m' ((c.tc : Thread Cert.Dw2RefIdeal.nD Cert.Dw2RefIdeal.τ).loc Cert.Dw2RefIdeal.main_arg3) = m ((c.tc : Thread Cert.Dw2Ideal.nD Cert.Dw2Ideal.τ).loc Cert.Dw2Ideal.main_arg3)) →
    ∃ (v0 : (c : Dev Cert.Dw2Ideal.nD) → Buf (Elt Ideal) ((c.tc : Thread Cert.Dw2Ideal.nD Cert.Dw2Ideal.τ).loc Cert.Dw2Ideal.main_v2)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
          ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v2) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)
          ∧ r.2.mem ((c.tc : Thread Cert.Dw2RefIdeal.nD Cert.Dw2RefIdeal.τ).loc Cert.Dw2RefIdeal.main_arg3) = m' ((c.tc : Thread Cert.Dw2RefIdeal.nD Cert.Dw2RefIdeal.τ).loc Cert.Dw2RefIdeal.main_arg3))

def preserves_Act1_Act1Ideal : Prop :=
  True

def algebraic_Act1Ideal_Act1RefIdeal [hAct1Ideal : Cert.Act1Ideal.Facts] [hAct1RefIdeal : Cert.Act1RefIdeal.Facts] : Prop :=
  ∀ (m : (ℓ : Loc Cert.Act1Ideal.nD Cert.Act1Ideal.τ Cert.Act1Ideal.sig) → Buf (Elt Ideal) ℓ) (g : Dev Cert.Act1Ideal.nD → PrngReg)
    (m' : (ℓ : Loc Cert.Act1RefIdeal.nD Cert.Act1RefIdeal.τ Cert.Act1RefIdeal.sig) → Buf (Elt Ideal) ℓ) (g' : Dev Cert.Act1RefIdeal.nD → PrngReg), Pre_Act1Ideal m →
    (∀ c : Dev Cert.Act1Ideal.nD,
      m' ((c.tc : Thread Cert.Act1RefIdeal.nD Cert.Act1RefIdeal.τ).loc Cert.Act1RefIdeal.main_arg0) = m ((c.tc : Thread Cert.Act1Ideal.nD Cert.Act1Ideal.τ).loc Cert.Act1Ideal.main_arg0)
      ∧ m' ((c.tc : Thread Cert.Act1RefIdeal.nD Cert.Act1RefIdeal.τ).loc Cert.Act1RefIdeal.main_arg1) = m ((c.tc : Thread Cert.Act1Ideal.nD Cert.Act1Ideal.τ).loc Cert.Act1Ideal.main_arg1)
      ∧ m' ((c.tc : Thread Cert.Act1RefIdeal.nD Cert.Act1RefIdeal.τ).loc Cert.Act1RefIdeal.main_arg2) = m ((c.tc : Thread Cert.Act1Ideal.nD Cert.Act1Ideal.τ).loc Cert.Act1Ideal.main_arg2)
      ∧ m' ((c.tc : Thread Cert.Act1RefIdeal.nD Cert.Act1RefIdeal.τ).loc Cert.Act1RefIdeal.main_arg3) = m ((c.tc : Thread Cert.Act1Ideal.nD Cert.Act1Ideal.τ).loc Cert.Act1Ideal.main_arg3)
      ∧ m' ((c.tc : Thread Cert.Act1RefIdeal.nD Cert.Act1RefIdeal.τ).loc Cert.Act1RefIdeal.main_arg4) = m ((c.tc : Thread Cert.Act1Ideal.nD Cert.Act1Ideal.τ).loc Cert.Act1Ideal.main_arg4)
      ∧ m' ((c.tc : Thread Cert.Act1RefIdeal.nD Cert.Act1RefIdeal.τ).loc Cert.Act1RefIdeal.main_arg5) = m ((c.tc : Thread Cert.Act1Ideal.nD Cert.Act1Ideal.τ).loc Cert.Act1Ideal.main_arg5)) →
    ∃ (v0 : (c : Dev Cert.Act1Ideal.nD) → Buf (Elt Ideal) ((c.tc : Thread Cert.Act1Ideal.nD Cert.Act1Ideal.τ).loc Cert.Act1Ideal.main_v9_0)) (v1 : (c : Dev Cert.Act1Ideal.nD) → Buf (Elt Ideal) ((c.tc : Thread Cert.Act1Ideal.nD Cert.Act1Ideal.τ).loc Cert.Act1Ideal.main_v9_1)),
      θ_run (Cert.Act1Ideal.defs (F := Ideal)) (onTc (τ := Cert.Act1Ideal.τ) (Cert.Act1Ideal.main (F := Ideal))) ⟨m, fun _ => 0, g⟩ (fun r => ∀ c : Dev Cert.Act1Ideal.nD,
          r.2.mem ((c.tc : Thread Cert.Act1Ideal.nD Cert.Act1Ideal.τ).loc Cert.Act1Ideal.main_v9_0) = v0 c
          ∧ r.2.mem ((c.tc : Thread Cert.Act1Ideal.nD Cert.Act1Ideal.τ).loc Cert.Act1Ideal.main_v9_1) = v1 c
          ∧ r.2.mem ((c.tc : Thread Cert.Act1Ideal.nD Cert.Act1Ideal.τ).loc Cert.Act1Ideal.main_arg0) = m ((c.tc : Thread Cert.Act1Ideal.nD Cert.Act1Ideal.τ).loc Cert.Act1Ideal.main_arg0)
          ∧ r.2.mem ((c.tc : Thread Cert.Act1Ideal.nD Cert.Act1Ideal.τ).loc Cert.Act1Ideal.main_arg1) = m ((c.tc : Thread Cert.Act1Ideal.nD Cert.Act1Ideal.τ).loc Cert.Act1Ideal.main_arg1)
          ∧ r.2.mem ((c.tc : Thread Cert.Act1Ideal.nD Cert.Act1Ideal.τ).loc Cert.Act1Ideal.main_arg2) = m ((c.tc : Thread Cert.Act1Ideal.nD Cert.Act1Ideal.τ).loc Cert.Act1Ideal.main_arg2)
          ∧ r.2.mem ((c.tc : Thread Cert.Act1Ideal.nD Cert.Act1Ideal.τ).loc Cert.Act1Ideal.main_arg3) = m ((c.tc : Thread Cert.Act1Ideal.nD Cert.Act1Ideal.τ).loc Cert.Act1Ideal.main_arg3)
          ∧ r.2.mem ((c.tc : Thread Cert.Act1Ideal.nD Cert.Act1Ideal.τ).loc Cert.Act1Ideal.main_arg4) = m ((c.tc : Thread Cert.Act1Ideal.nD Cert.Act1Ideal.τ).loc Cert.Act1Ideal.main_arg4)
          ∧ r.2.mem ((c.tc : Thread Cert.Act1Ideal.nD Cert.Act1Ideal.τ).loc Cert.Act1Ideal.main_arg5) = m ((c.tc : Thread Cert.Act1Ideal.nD Cert.Act1Ideal.τ).loc Cert.Act1Ideal.main_arg5))
      ∧ θ_run (Cert.Act1RefIdeal.defs (F := Ideal)) (onTc (τ := Cert.Act1RefIdeal.τ) (Cert.Act1RefIdeal.main (F := Ideal))) ⟨m', fun _ => 0, g'⟩ (fun r => ∀ c : Dev Cert.Act1RefIdeal.nD,
          r.2.mem ((c.tc : Thread Cert.Act1RefIdeal.nD Cert.Act1RefIdeal.τ).loc Cert.Act1RefIdeal.main_v5_0) = v0 c
          ∧ r.2.mem ((c.tc : Thread Cert.Act1RefIdeal.nD Cert.Act1RefIdeal.τ).loc Cert.Act1RefIdeal.main_v5_1) = v1 c
          ∧ r.2.mem ((c.tc : Thread Cert.Act1RefIdeal.nD Cert.Act1RefIdeal.τ).loc Cert.Act1RefIdeal.main_arg0) = m' ((c.tc : Thread Cert.Act1RefIdeal.nD Cert.Act1RefIdeal.τ).loc Cert.Act1RefIdeal.main_arg0)
          ∧ r.2.mem ((c.tc : Thread Cert.Act1RefIdeal.nD Cert.Act1RefIdeal.τ).loc Cert.Act1RefIdeal.main_arg1) = m' ((c.tc : Thread Cert.Act1RefIdeal.nD Cert.Act1RefIdeal.τ).loc Cert.Act1RefIdeal.main_arg1)
          ∧ r.2.mem ((c.tc : Thread Cert.Act1RefIdeal.nD Cert.Act1RefIdeal.τ).loc Cert.Act1RefIdeal.main_arg2) = m' ((c.tc : Thread Cert.Act1RefIdeal.nD Cert.Act1RefIdeal.τ).loc Cert.Act1RefIdeal.main_arg2)
          ∧ r.2.mem ((c.tc : Thread Cert.Act1RefIdeal.nD Cert.Act1RefIdeal.τ).loc Cert.Act1RefIdeal.main_arg3) = m' ((c.tc : Thread Cert.Act1RefIdeal.nD Cert.Act1RefIdeal.τ).loc Cert.Act1RefIdeal.main_arg3)
          ∧ r.2.mem ((c.tc : Thread Cert.Act1RefIdeal.nD Cert.Act1RefIdeal.τ).loc Cert.Act1RefIdeal.main_arg4) = m' ((c.tc : Thread Cert.Act1RefIdeal.nD Cert.Act1RefIdeal.τ).loc Cert.Act1RefIdeal.main_arg4)
          ∧ r.2.mem ((c.tc : Thread Cert.Act1RefIdeal.nD Cert.Act1RefIdeal.τ).loc Cert.Act1RefIdeal.main_arg5) = m' ((c.tc : Thread Cert.Act1RefIdeal.nD Cert.Act1RefIdeal.τ).loc Cert.Act1RefIdeal.main_arg5))

def preserves_Conv1_Conv1Ideal : Prop :=
  IdealRules.bf16_pair.Statement Cert.Conv1Ideal.S1920x512 Cert.Conv1Ideal.S960x512

def algebraic_Conv1Ideal_Conv1RefIdeal [hConv1Ideal : Cert.Conv1Ideal.Facts] [hConv1RefIdeal : Cert.Conv1RefIdeal.Facts] : Prop :=
  ∀ (m : (ℓ : Loc Cert.Conv1Ideal.nD Cert.Conv1Ideal.τ Cert.Conv1Ideal.sig) → Buf (Elt Ideal) ℓ) (g : Dev Cert.Conv1Ideal.nD → PrngReg)
    (m' : (ℓ : Loc Cert.Conv1RefIdeal.nD Cert.Conv1RefIdeal.τ Cert.Conv1RefIdeal.sig) → Buf (Elt Ideal) ℓ) (g' : Dev Cert.Conv1RefIdeal.nD → PrngReg), Pre_Conv1Ideal m →
    (∀ c : Dev Cert.Conv1Ideal.nD,
      m' ((c.tc : Thread Cert.Conv1RefIdeal.nD Cert.Conv1RefIdeal.τ).loc Cert.Conv1RefIdeal.main_arg0) = m ((c.tc : Thread Cert.Conv1Ideal.nD Cert.Conv1Ideal.τ).loc Cert.Conv1Ideal.main_arg0)
      ∧ m' ((c.tc : Thread Cert.Conv1RefIdeal.nD Cert.Conv1RefIdeal.τ).loc Cert.Conv1RefIdeal.main_arg1) = m ((c.tc : Thread Cert.Conv1Ideal.nD Cert.Conv1Ideal.τ).loc Cert.Conv1Ideal.main_arg1)
      ∧ m' ((c.tc : Thread Cert.Conv1RefIdeal.nD Cert.Conv1RefIdeal.τ).loc Cert.Conv1RefIdeal.main_arg2) = m ((c.tc : Thread Cert.Conv1Ideal.nD Cert.Conv1Ideal.τ).loc Cert.Conv1Ideal.main_arg2)
      ∧ m' ((c.tc : Thread Cert.Conv1RefIdeal.nD Cert.Conv1RefIdeal.τ).loc Cert.Conv1RefIdeal.main_arg3) = m ((c.tc : Thread Cert.Conv1Ideal.nD Cert.Conv1Ideal.τ).loc Cert.Conv1Ideal.main_arg3)
      ∧ m' ((c.tc : Thread Cert.Conv1RefIdeal.nD Cert.Conv1RefIdeal.τ).loc Cert.Conv1RefIdeal.main_arg4) = m ((c.tc : Thread Cert.Conv1Ideal.nD Cert.Conv1Ideal.τ).loc Cert.Conv1Ideal.main_arg4)
      ∧ m' ((c.tc : Thread Cert.Conv1RefIdeal.nD Cert.Conv1RefIdeal.τ).loc Cert.Conv1RefIdeal.main_arg5) = m ((c.tc : Thread Cert.Conv1Ideal.nD Cert.Conv1Ideal.τ).loc Cert.Conv1Ideal.main_arg5)
      ∧ m' ((c.tc : Thread Cert.Conv1RefIdeal.nD Cert.Conv1RefIdeal.τ).loc Cert.Conv1RefIdeal.main_arg6) = m ((c.tc : Thread Cert.Conv1Ideal.nD Cert.Conv1Ideal.τ).loc Cert.Conv1Ideal.main_arg6)
      ∧ m' ((c.tc : Thread Cert.Conv1RefIdeal.nD Cert.Conv1RefIdeal.τ).loc Cert.Conv1RefIdeal.main_arg7) = m ((c.tc : Thread Cert.Conv1Ideal.nD Cert.Conv1Ideal.τ).loc Cert.Conv1Ideal.main_arg7)
      ∧ m' ((c.tc : Thread Cert.Conv1RefIdeal.nD Cert.Conv1RefIdeal.τ).loc Cert.Conv1RefIdeal.main_arg8) = m ((c.tc : Thread Cert.Conv1Ideal.nD Cert.Conv1Ideal.τ).loc Cert.Conv1Ideal.main_arg8)
      ∧ m' ((c.tc : Thread Cert.Conv1RefIdeal.nD Cert.Conv1RefIdeal.τ).loc Cert.Conv1RefIdeal.main_arg9) = m ((c.tc : Thread Cert.Conv1Ideal.nD Cert.Conv1Ideal.τ).loc Cert.Conv1Ideal.main_arg9)) →
    ∃ (v0 : (c : Dev Cert.Conv1Ideal.nD) → Buf (Elt Ideal) ((c.tc : Thread Cert.Conv1Ideal.nD Cert.Conv1Ideal.τ).loc Cert.Conv1Ideal.main_v13_0)) (v1 : (c : Dev Cert.Conv1Ideal.nD) → Buf (Elt Ideal) ((c.tc : Thread Cert.Conv1Ideal.nD Cert.Conv1Ideal.τ).loc Cert.Conv1Ideal.main_v13_1)),
      θ_run (Cert.Conv1Ideal.defs (F := Ideal)) (onTc (τ := Cert.Conv1Ideal.τ) (Cert.Conv1Ideal.main (F := Ideal))) ⟨m, fun _ => 0, g⟩ (fun r => ∀ c : Dev Cert.Conv1Ideal.nD,
          r.2.mem ((c.tc : Thread Cert.Conv1Ideal.nD Cert.Conv1Ideal.τ).loc Cert.Conv1Ideal.main_v13_0) = v0 c
          ∧ r.2.mem ((c.tc : Thread Cert.Conv1Ideal.nD Cert.Conv1Ideal.τ).loc Cert.Conv1Ideal.main_v13_1) = v1 c
          ∧ r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
          ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
          ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2)
          ∧ r.2.mem ((c.tc : Thread Cert.Conv1Ideal.nD Cert.Conv1Ideal.τ).loc Cert.Conv1Ideal.main_arg3) = m ((c.tc : Thread Cert.Conv1Ideal.nD Cert.Conv1Ideal.τ).loc Cert.Conv1Ideal.main_arg3)
          ∧ r.2.mem ((c.tc : Thread Cert.Conv1Ideal.nD Cert.Conv1Ideal.τ).loc Cert.Conv1Ideal.main_arg4) = m ((c.tc : Thread Cert.Conv1Ideal.nD Cert.Conv1Ideal.τ).loc Cert.Conv1Ideal.main_arg4)
          ∧ r.2.mem ((c.tc : Thread Cert.Conv1Ideal.nD Cert.Conv1Ideal.τ).loc Cert.Conv1Ideal.main_arg5) = m ((c.tc : Thread Cert.Conv1Ideal.nD Cert.Conv1Ideal.τ).loc Cert.Conv1Ideal.main_arg5)
          ∧ r.2.mem ((c.tc : Thread Cert.Conv1Ideal.nD Cert.Conv1Ideal.τ).loc Cert.Conv1Ideal.main_arg6) = m ((c.tc : Thread Cert.Conv1Ideal.nD Cert.Conv1Ideal.τ).loc Cert.Conv1Ideal.main_arg6)
          ∧ r.2.mem ((c.tc : Thread Cert.Conv1Ideal.nD Cert.Conv1Ideal.τ).loc Cert.Conv1Ideal.main_arg7) = m ((c.tc : Thread Cert.Conv1Ideal.nD Cert.Conv1Ideal.τ).loc Cert.Conv1Ideal.main_arg7)
          ∧ r.2.mem ((c.tc : Thread Cert.Conv1Ideal.nD Cert.Conv1Ideal.τ).loc Cert.Conv1Ideal.main_arg8) = m ((c.tc : Thread Cert.Conv1Ideal.nD Cert.Conv1Ideal.τ).loc Cert.Conv1Ideal.main_arg8)
          ∧ r.2.mem ((c.tc : Thread Cert.Conv1Ideal.nD Cert.Conv1Ideal.τ).loc Cert.Conv1Ideal.main_arg9) = m ((c.tc : Thread Cert.Conv1Ideal.nD Cert.Conv1Ideal.τ).loc Cert.Conv1Ideal.main_arg9))
      ∧ θ_run (Cert.Conv1RefIdeal.defs (F := Ideal)) (onTc (τ := Cert.Conv1RefIdeal.τ) (Cert.Conv1RefIdeal.main (F := Ideal))) ⟨m', fun _ => 0, g'⟩ (fun r => ∀ c : Dev Cert.Conv1RefIdeal.nD,
          r.2.mem ((c.tc : Thread Cert.Conv1RefIdeal.nD Cert.Conv1RefIdeal.τ).loc Cert.Conv1RefIdeal.main_v8_0) = v0 c
          ∧ r.2.mem ((c.tc : Thread Cert.Conv1RefIdeal.nD Cert.Conv1RefIdeal.τ).loc Cert.Conv1RefIdeal.main_v8_1) = v1 c
          ∧ r.2.mem ((c.tc : Thread Cert.Conv1RefIdeal.nD Cert.Conv1RefIdeal.τ).loc Cert.Conv1RefIdeal.main_arg0) = m' ((c.tc : Thread Cert.Conv1RefIdeal.nD Cert.Conv1RefIdeal.τ).loc Cert.Conv1RefIdeal.main_arg0)
          ∧ r.2.mem ((c.tc : Thread Cert.Conv1RefIdeal.nD Cert.Conv1RefIdeal.τ).loc Cert.Conv1RefIdeal.main_arg1) = m' ((c.tc : Thread Cert.Conv1RefIdeal.nD Cert.Conv1RefIdeal.τ).loc Cert.Conv1RefIdeal.main_arg1)
          ∧ r.2.mem ((c.tc : Thread Cert.Conv1RefIdeal.nD Cert.Conv1RefIdeal.τ).loc Cert.Conv1RefIdeal.main_arg2) = m' ((c.tc : Thread Cert.Conv1RefIdeal.nD Cert.Conv1RefIdeal.τ).loc Cert.Conv1RefIdeal.main_arg2)
          ∧ r.2.mem ((c.tc : Thread Cert.Conv1RefIdeal.nD Cert.Conv1RefIdeal.τ).loc Cert.Conv1RefIdeal.main_arg3) = m' ((c.tc : Thread Cert.Conv1RefIdeal.nD Cert.Conv1RefIdeal.τ).loc Cert.Conv1RefIdeal.main_arg3)
          ∧ r.2.mem ((c.tc : Thread Cert.Conv1RefIdeal.nD Cert.Conv1RefIdeal.τ).loc Cert.Conv1RefIdeal.main_arg4) = m' ((c.tc : Thread Cert.Conv1RefIdeal.nD Cert.Conv1RefIdeal.τ).loc Cert.Conv1RefIdeal.main_arg4)
          ∧ r.2.mem ((c.tc : Thread Cert.Conv1RefIdeal.nD Cert.Conv1RefIdeal.τ).loc Cert.Conv1RefIdeal.main_arg5) = m' ((c.tc : Thread Cert.Conv1RefIdeal.nD Cert.Conv1RefIdeal.τ).loc Cert.Conv1RefIdeal.main_arg5)
          ∧ r.2.mem ((c.tc : Thread Cert.Conv1RefIdeal.nD Cert.Conv1RefIdeal.τ).loc Cert.Conv1RefIdeal.main_arg6) = m' ((c.tc : Thread Cert.Conv1RefIdeal.nD Cert.Conv1RefIdeal.τ).loc Cert.Conv1RefIdeal.main_arg6)
          ∧ r.2.mem ((c.tc : Thread Cert.Conv1RefIdeal.nD Cert.Conv1RefIdeal.τ).loc Cert.Conv1RefIdeal.main_arg7) = m' ((c.tc : Thread Cert.Conv1RefIdeal.nD Cert.Conv1RefIdeal.τ).loc Cert.Conv1RefIdeal.main_arg7)
          ∧ r.2.mem ((c.tc : Thread Cert.Conv1RefIdeal.nD Cert.Conv1RefIdeal.τ).loc Cert.Conv1RefIdeal.main_arg8) = m' ((c.tc : Thread Cert.Conv1RefIdeal.nD Cert.Conv1RefIdeal.τ).loc Cert.Conv1RefIdeal.main_arg8)
          ∧ r.2.mem ((c.tc : Thread Cert.Conv1RefIdeal.nD Cert.Conv1RefIdeal.τ).loc Cert.Conv1RefIdeal.main_arg9) = m' ((c.tc : Thread Cert.Conv1RefIdeal.nD Cert.Conv1RefIdeal.τ).loc Cert.Conv1RefIdeal.main_arg9))

def Claim : Prop :=
  ∃ (hDa2 : Cert.Da2.Facts) (hDa2Ideal : Cert.Da2Ideal.Facts) (hDa2RefIdeal : Cert.Da2RefIdeal.Facts) (hDw2 : Cert.Dw2.Facts) (hDw2Ideal : Cert.Dw2Ideal.Facts) (hDw2RefIdeal : Cert.Dw2RefIdeal.Facts) (hAct1 : Cert.Act1.Facts) (hAct1Ideal : Cert.Act1Ideal.Facts) (hAct1RefIdeal : Cert.Act1RefIdeal.Facts) (hConv1 : Cert.Conv1.Facts) (hConv1Ideal : Cert.Conv1Ideal.Facts) (hConv1RefIdeal : Cert.Conv1RefIdeal.Facts),
    quiescent_Da2 (hDa2 := hDa2)
    ∧ quiescent_Da2Ideal (hDa2Ideal := hDa2Ideal)
    ∧ quiescent_Da2RefIdeal (hDa2RefIdeal := hDa2RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Act1 (hAct1 := hAct1)
    ∧ quiescent_Act1Ideal (hAct1Ideal := hAct1Ideal)
    ∧ quiescent_Act1RefIdeal (hAct1RefIdeal := hAct1RefIdeal)
    ∧ quiescent_Conv1 (hConv1 := hConv1)
    ∧ quiescent_Conv1Ideal (hConv1Ideal := hConv1Ideal)
    ∧ quiescent_Conv1RefIdeal (hConv1RefIdeal := hConv1RefIdeal)
    ∧ preserves_Da2_Da2Ideal
    ∧ algebraic_Da2Ideal_Da2RefIdeal (hDa2Ideal := hDa2Ideal) (hDa2RefIdeal := hDa2RefIdeal)
    ∧ preserves_Dw2_Dw2Ideal
    ∧ algebraic_Dw2Ideal_Dw2RefIdeal (hDw2Ideal := hDw2Ideal) (hDw2RefIdeal := hDw2RefIdeal)
    ∧ preserves_Act1_Act1Ideal
    ∧ algebraic_Act1Ideal_Act1RefIdeal (hAct1Ideal := hAct1Ideal) (hAct1RefIdeal := hAct1RefIdeal)
    ∧ preserves_Conv1_Conv1Ideal
    ∧ algebraic_Conv1Ideal_Conv1RefIdeal (hConv1Ideal := hConv1Ideal) (hConv1RefIdeal := hConv1RefIdeal)
-- ==== Da2.lean ====
abbrev S1280x1280x3x3 : Shape := ⟨4, ![1280, 1280, 3, 3]⟩
abbrev S1280 : Shape := ⟨1, ![1280]⟩
abbrev S2x1280x3072 : Shape := ⟨3, ![2, 1280, 3072]⟩
abbrev S2x3072 : Shape := ⟨2, ![2, 3072]⟩
abbrev S3x3x1280x1280 : Shape := ⟨4, ![3, 3, 1280, 1280]⟩
abbrev S9x1280x1280 : Shape := ⟨3, ![9, 1280, 1280]⟩
abbrev S2x1x3072 : Shape := ⟨3, ![2, 1, 3072]⟩
abbrev S1x1280 : Shape := ⟨2, ![1, 1280]⟩
abbrev S1x1280x128 : Shape := ⟨3, ![1, 1280, 128]⟩
abbrev S1x1x128 : Shape := ⟨3, ![1, 1, 128]⟩
abbrev S1x1280x256 : Shape := ⟨3, ![1, 1280, 256]⟩
abbrev S1280x256 : Shape := ⟨2, ![1280, 256]⟩
abbrev S1280x128 : Shape := ⟨2, ![1280, 128]⟩
abbrev S1x128 : Shape := ⟨2, ![1, 128]⟩
abbrev S1280x512 : Shape := ⟨2, ![1280, 512]⟩
abbrev S640x512 : Shape := ⟨2, ![640, 512]⟩
abbrev S1x256 : Shape := ⟨2, ![1, 256]⟩
abbrev S1x1280x1280 : Shape := ⟨3, ![1, 1280, 1280]⟩
abbrev S1280x1280 : Shape := ⟨2, ![1280, 1280]⟩

abbrev nBuf : Space → Nat
  | .hbm => 9
  | .vmem => 21
  | .smem => 0
  | _ => 0

abbrev bufTy : (tb : Table) → Fin (tcTables nBuf tb) → BufTy
  | .hbm, ⟨0, _⟩ => ⟨S1280x1280x3x3, .fp8e4m3⟩
  | .hbm, ⟨1, _⟩ => ⟨S1280, .f32⟩
  | .hbm, ⟨2, _⟩ => ⟨S2x1280x3072, .fp8e5m2⟩
  | .hbm, ⟨3, _⟩ => ⟨S2x3072, .f32⟩
  | .hbm, ⟨4, _⟩ => ⟨S3x3x1280x1280, .fp8e4m3⟩
  | .hbm, ⟨5, _⟩ => ⟨S9x1280x1280, .fp8e4m3⟩
  | .hbm, ⟨6, _⟩ => ⟨S2x1x3072, .f32⟩
  | .hbm, ⟨7, _⟩ => ⟨S1x1280, .f32⟩
  | .hbm, ⟨8, _⟩ => ⟨S2x1280x3072, .bf16⟩
  | .local _ .vmem, ⟨0, _⟩ => ⟨S1x1280x128, .fp8e5m2⟩
  | .local _ .vmem, ⟨1, _⟩ => ⟨S1x1280x128, .fp8e5m2⟩
  | .local _ .vmem, ⟨2, _⟩ => ⟨S1x1280x128, .fp8e5m2⟩
  | .local _ .vmem, ⟨3, _⟩ => ⟨S1x1280x128, .fp8e5m2⟩
  | .local _ .vmem, ⟨4, _⟩ => ⟨S1x1280x128, .fp8e5m2⟩
  | .local _ .vmem, ⟨5, _⟩ => ⟨S1x1280x128, .fp8e5m2⟩
  | .local _ .vmem, ⟨6, _⟩ => ⟨S1x1280x128, .fp8e5m2⟩
  | .local _ .vmem, ⟨7, _⟩ => ⟨S1x1280x128, .fp8e5m2⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S9x1280x1280, .fp8e4m3⟩
  | .local _ .vmem, ⟨17, _⟩ => ⟨S1x1280, .f32⟩
  | .local _ .vmem, ⟨18, _⟩ => ⟨S1x1280x256, .bf16⟩
  | .local _ .vmem, ⟨19, _⟩ => ⟨S1x1280x256, .bf16⟩
  | .local _ .vmem, ⟨20, _⟩ => ⟨S1280x256, .f32⟩
  | _, _ => ⟨S1280x1280x3x3, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [BitOps F]

abbrev grid0 : Pipeline.Grid := ⟨1, ![24], ![false]⟩

def cc0_transform_0 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c0_i32_3 : BitVec 32 := 0#32
  let v11 : BitVec 32 := Scalar.addi v10 c0_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_1 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c1_i32_3 : BitVec 32 := 1#32
  let v11 : BitVec 32 := Scalar.addi v10 c1_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_2 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c2_i32_3 : BitVec 32 := 2#32
  let v11 : BitVec 32 := Scalar.addi v10 c2_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_3 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c3_i32 : BitVec 32 := 3#32
  let v11 : BitVec 32 := Scalar.addi v10 c3_i32
  let c1_i32_3 : BitVec 32 := 1#32
  let v12 : BitVec 32 := Scalar.subi v11 c1_i32_3
  let c12_i32_4 : BitVec 32 := 12#32
  let v13 : BitVec 32 := Scalar.divsi arg0 c12_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c12_i32_4 c0_i32_7
  let v20 : BitVec 32 := Scalar.extui v19
  let c0_i32_8 : BitVec 32 := 0#32
  let v21 : BitVec 1 := Scalar.cmpi .slt c12_i32_4 c0_i32_8
  let v22 : BitVec 32 := Scalar.extui v21
  let v23 : BitVec 32 := Scalar.subi v20 v22
  let v24 : BitVec 1 := Scalar.cmpi .ne v18 v23
  let v25 : BitVec 32 := Scalar.remsi arg0 c12_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let c23_i32 : BitVec 32 := 23#32
  let v30 : BitVec 32 := Scalar.maxsi c0_i32_11 v12
  let v31 : BitVec 32 := Scalar.minsi c23_i32 v30
  let c0_i32_12 : BitVec 32 := 0#32
  let c0_i32_13 : BitVec 32 := 0#32
  ![v29.toNat, c0_i32_12.toNat, v31.toNat]

def cc0_transform_4 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c0_i32_3 : BitVec 32 := 0#32
  let v11 : BitVec 32 := Scalar.addi v10 c0_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_5 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c1_i32_3 : BitVec 32 := 1#32
  let v11 : BitVec 32 := Scalar.addi v10 c1_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_6 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c2_i32_3 : BitVec 32 := 2#32
  let v11 : BitVec 32 := Scalar.addi v10 c2_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_7 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c3_i32 : BitVec 32 := 3#32
  let v11 : BitVec 32 := Scalar.addi v10 c3_i32
  let c1_i32_3 : BitVec 32 := 1#32
  let v12 : BitVec 32 := Scalar.subi v11 c1_i32_3
  let c12_i32_4 : BitVec 32 := 12#32
  let v13 : BitVec 32 := Scalar.divsi arg0 c12_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c12_i32_4 c0_i32_7
  let v20 : BitVec 32 := Scalar.extui v19
  let c0_i32_8 : BitVec 32 := 0#32
  let v21 : BitVec 1 := Scalar.cmpi .slt c12_i32_4 c0_i32_8
  let v22 : BitVec 32 := Scalar.extui v21
  let v23 : BitVec 32 := Scalar.subi v20 v22
  let v24 : BitVec 1 := Scalar.cmpi .ne v18 v23
  let v25 : BitVec 32 := Scalar.remsi arg0 c12_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let c23_i32 : BitVec 32 := 23#32
  let v30 : BitVec 32 := Scalar.maxsi c0_i32_11 v12
  let v31 : BitVec 32 := Scalar.minsi c23_i32 v30
  let c0_i32_12 : BitVec 32 := 0#32
  let c0_i32_13 : BitVec 32 := 0#32
  ![v29.toNat, c0_i32_12.toNat, v31.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1280x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1280x128 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280x128 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S9x1280x1280 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1280x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Da2Ideal.lean ====
variable {F : FTy → Type} [FloatOps F]
-- ==== Da2RefIdeal.lean ====
abbrev S1280x1280x3x3 : Shape := ⟨4, ![1280, 1280, 3, 3]⟩
abbrev S1280 : Shape := ⟨1, ![1280]⟩
abbrev S2x1280x3072 : Shape := ⟨3, ![2, 1280, 3072]⟩
abbrev S2x3072 : Shape := ⟨2, ![2, 3072]⟩
abbrev S3x3x1280x1280 : Shape := ⟨4, ![3, 3, 1280, 1280]⟩
abbrev S1280x1 : Shape := ⟨2, ![1280, 1]⟩
abbrev S2x1x3072 : Shape := ⟨3, ![2, 1, 3072]⟩
abbrev S1x1280x3072 : Shape := ⟨3, ![1, 1280, 3072]⟩
abbrev S1280x3072 : Shape := ⟨2, ![1280, 3072]⟩
abbrev S1x1x3072 : Shape := ⟨3, ![1, 1, 3072]⟩
abbrev S1x3072 : Shape := ⟨2, ![1, 3072]⟩
abbrev S1280x48x64 : Shape := ⟨3, ![1280, 48, 64]⟩
abbrev S1280x1x64 : Shape := ⟨3, ![1280, 1, 64]⟩
abbrev S1280x49x64 : Shape := ⟨3, ![1280, 49, 64]⟩
abbrev S1280x50x64 : Shape := ⟨3, ![1280, 50, 64]⟩
abbrev S1280x50x1 : Shape := ⟨3, ![1280, 50, 1]⟩
abbrev S1280x50x65 : Shape := ⟨3, ![1280, 50, 65]⟩
abbrev S1280x50x66 : Shape := ⟨3, ![1280, 50, 66]⟩
abbrev S1x1x1280x1280 : Shape := ⟨4, ![1, 1, 1280, 1280]⟩
abbrev S1280x1280 : Shape := ⟨2, ![1280, 1280]⟩

abbrev nBuf : Space → Nat
  | .hbm => 8
  | .vmem => 5
  | .smem => 0
  | _ => 0

abbrev bufTy : (tb : Table) → Fin (tcTables nBuf tb) → BufTy
  | .hbm, ⟨0, _⟩ => ⟨S1280x1280x3x3, .fp8e4m3⟩
  | .hbm, ⟨1, _⟩ => ⟨S1280, .f32⟩
  | .hbm, ⟨2, _⟩ => ⟨S2x1280x3072, .fp8e5m2⟩
  | .hbm, ⟨3, _⟩ => ⟨S2x3072, .f32⟩
  | .hbm, ⟨4, _⟩ => ⟨S3x3x1280x1280, .fp8e4m3⟩
  | .hbm, ⟨5, _⟩ => ⟨S1280x1, .f32⟩
  | .hbm, ⟨6, _⟩ => ⟨S2x1x3072, .f32⟩
  | .hbm, ⟨7, _⟩ => ⟨S2x1280x3072, .bf16⟩
  | .local _ .vmem, ⟨0, _⟩ => ⟨S3x3x1280x1280, .fp8e4m3⟩
  | .local _ .vmem, ⟨1, _⟩ => ⟨S1280x1, .f32⟩
  | .local _ .vmem, ⟨2, _⟩ => ⟨S2x1280x3072, .fp8e5m2⟩
  | .local _ .vmem, ⟨3, _⟩ => ⟨S2x1x3072, .f32⟩
  | .local _ .vmem, ⟨4, _⟩ => ⟨S2x1280x3072, .bf16⟩
  | _, _ => ⟨S1280x1280x3x3, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x3x1280x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1280x3072 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1280x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw2.lean ====
abbrev S2x1280x3072 : Shape := ⟨3, ![2, 1280, 3072]⟩
abbrev S2x3072 : Shape := ⟨2, ![2, 3072]⟩
abbrev S2x1x3072 : Shape := ⟨3, ![2, 1, 3072]⟩
abbrev S9x1280x1280 : Shape := ⟨3, ![9, 1280, 1280]⟩
abbrev S1x1280x3072 : Shape := ⟨3, ![1, 1280, 3072]⟩
abbrev S1x1x3072 : Shape := ⟨3, ![1, 1, 3072]⟩
abbrev S1x256x3072 : Shape := ⟨3, ![1, 256, 3072]⟩
abbrev S1x1280x256 : Shape := ⟨3, ![1, 1280, 256]⟩
abbrev S1280x3072 : Shape := ⟨2, ![1280, 3072]⟩
abbrev S1x3072 : Shape := ⟨2, ![1, 3072]⟩
abbrev S256x3072 : Shape := ⟨2, ![256, 3072]⟩
abbrev S128x3072 : Shape := ⟨2, ![128, 3072]⟩
abbrev S1280x256 : Shape := ⟨2, ![1280, 256]⟩

abbrev nBuf : Space → Nat
  | .hbm => 7
  | .vmem => 10
  | .smem => 0
  | _ => 0

abbrev bufTy : (tb : Table) → Fin (tcTables nBuf tb) → BufTy
  | .hbm, ⟨0, _⟩ => ⟨S2x1280x3072, .fp8e5m2⟩
  | .hbm, ⟨1, _⟩ => ⟨S2x3072, .f32⟩
  | .hbm, ⟨2, _⟩ => ⟨S2x1280x3072, .fp8e4m3⟩
  | .hbm, ⟨3, _⟩ => ⟨S2x3072, .f32⟩
  | .hbm, ⟨4, _⟩ => ⟨S2x1x3072, .f32⟩
  | .hbm, ⟨5, _⟩ => ⟨S2x1x3072, .f32⟩
  | .hbm, ⟨6, _⟩ => ⟨S9x1280x1280, .f32⟩
  | .local _ .vmem, ⟨0, _⟩ => ⟨S1x1280x3072, .fp8e5m2⟩
  | .local _ .vmem, ⟨1, _⟩ => ⟨S1x1280x3072, .fp8e5m2⟩
  | .local _ .vmem, ⟨2, _⟩ => ⟨S1x1x3072, .f32⟩
  | .local _ .vmem, ⟨3, _⟩ => ⟨S1x1x3072, .f32⟩
  | .local _ .vmem, ⟨4, _⟩ => ⟨S1x256x3072, .fp8e4m3⟩
  | .local _ .vmem, ⟨5, _⟩ => ⟨S1x256x3072, .fp8e4m3⟩
  | .local _ .vmem, ⟨6, _⟩ => ⟨S1x1x3072, .f32⟩
  | .local _ .vmem, ⟨7, _⟩ => ⟨S1x1x3072, .f32⟩
  | .local _ .vmem, ⟨8, _⟩ => ⟨S1x1280x256, .f32⟩
  | .local _ .vmem, ⟨9, _⟩ => ⟨S1x1280x256, .f32⟩
  | _, _ => ⟨S2x1280x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨3, ![9, 5, 2], ![false, false, false]⟩

def k0_cond1 (i : grid0.Coords) : BitVec 1 :=
  let arg2 : BitVec 32 := BitVec.ofNat 32 (i 2).val
  let c0_i32_51 : BitVec 32 := 0#32
  let v116 : BitVec 1 := Scalar.cmpi .eq arg2 c0_i32_51
  let v117 : BitVec 32 := Scalar.extui v116
  let c0_i32_52 : BitVec 32 := 0#32
  let v118 : BitVec 1 := Scalar.cmpi .ne v117 c0_i32_52
  v118

def k0_cond2 (i : grid0.Coords) : BitVec 1 :=
  let arg2 : BitVec 32 := BitVec.ofNat 32 (i 2).val
  let c0_i32_53 : BitVec 32 := 0#32
  let v119 : BitVec 1 := Scalar.cmpi .ne arg2 c0_i32_53
  let v120 : BitVec 32 := Scalar.extui v119
  let c0_i32_54 : BitVec 32 := 0#32
  let v121 : BitVec 1 := Scalar.cmpi .ne v120 c0_i32_54
  v121

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1280x3072 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1280x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Dw2Ideal.lean ====
variable {F : FTy → Type} [FloatOps F]
-- ==== Dw2RefIdeal.lean ====
abbrev S2x1280x3072 : Shape := ⟨3, ![2, 1280, 3072]⟩
abbrev S2x3072 : Shape := ⟨2, ![2, 3072]⟩
abbrev S2x1x3072 : Shape := ⟨3, ![2, 1, 3072]⟩
abbrev S9x1280x1280 : Shape := ⟨3, ![9, 1280, 1280]⟩
abbrev S1280x1280 : Shape := ⟨2, ![1280, 1280]⟩
abbrev S1x1280x3072 : Shape := ⟨3, ![1, 1280, 3072]⟩
abbrev S1280x3072 : Shape := ⟨2, ![1280, 3072]⟩
abbrev S1x1x3072 : Shape := ⟨3, ![1, 1, 3072]⟩
abbrev S1x3072 : Shape := ⟨2, ![1, 3072]⟩
abbrev S1280x48x64 : Shape := ⟨3, ![1280, 48, 64]⟩
abbrev S1280x1x64 : Shape := ⟨3, ![1280, 1, 64]⟩
abbrev S1280x49x64 : Shape := ⟨3, ![1280, 49, 64]⟩
abbrev S1280x50x64 : Shape := ⟨3, ![1280, 50, 64]⟩
abbrev S1280x50x1 : Shape := ⟨3, ![1280, 50, 1]⟩
abbrev S1280x50x65 : Shape := ⟨3, ![1280, 50, 65]⟩
abbrev S1280x50x66 : Shape := ⟨3, ![1280, 50, 66]⟩
abbrev S1x1280x1280 : Shape := ⟨3, ![1, 1280, 1280]⟩

abbrev nBuf : Space → Nat
  | .hbm => 7
  | .vmem => 5
  | .smem => 0
  | _ => 0

abbrev bufTy : (tb : Table) → Fin (tcTables nBuf tb) → BufTy
  | .hbm, ⟨0, _⟩ => ⟨S2x1280x3072, .fp8e5m2⟩
  | .hbm, ⟨1, _⟩ => ⟨S2x3072, .f32⟩
  | .hbm, ⟨2, _⟩ => ⟨S2x1280x3072, .fp8e4m3⟩
  | .hbm, ⟨3, _⟩ => ⟨S2x3072, .f32⟩
  | .hbm, ⟨4, _⟩ => ⟨S2x1x3072, .f32⟩
  | .hbm, ⟨5, _⟩ => ⟨S2x1x3072, .f32⟩
  | .hbm, ⟨6, _⟩ => ⟨S9x1280x1280, .f32⟩
  | .local _ .vmem, ⟨0, _⟩ => ⟨S2x1280x3072, .fp8e5m2⟩
  | .local _ .vmem, ⟨1, _⟩ => ⟨S2x1x3072, .f32⟩
  | .local _ .vmem, ⟨2, _⟩ => ⟨S2x1280x3072, .fp8e4m3⟩
  | .local _ .vmem, ⟨3, _⟩ => ⟨S2x1x3072, .f32⟩
  | .local _ .vmem, ⟨4, _⟩ => ⟨S9x1280x1280, .f32⟩
  | _, _ => ⟨S2x1280x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1280x3072 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1280x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x1280x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Act1.lean ====
abbrev S2x1920x3072 : Shape := ⟨3, ![2, 1920, 3072]⟩
abbrev S2x3072 : Shape := ⟨2, ![2, 3072]⟩
abbrev S2x32 : Shape := ⟨2, ![2, 32]⟩
abbrev S1920 : Shape := ⟨1, ![1920]⟩
abbrev S2x32x60 : Shape := ⟨3, ![2, 32, 60]⟩
abbrev S2x1920 : Shape := ⟨2, ![2, 1920]⟩
abbrev S2x1920x1 : Shape := ⟨3, ![2, 1920, 1]⟩
abbrev S2x1x3072 : Shape := ⟨3, ![2, 1, 3072]⟩
abbrev S1920x1 : Shape := ⟨2, ![1920, 1]⟩
abbrev S1x1920x256 : Shape := ⟨3, ![1, 1920, 256]⟩
abbrev S1x1x256 : Shape := ⟨3, ![1, 1, 256]⟩
abbrev S1x1920x1 : Shape := ⟨3, ![1, 1920, 1]⟩
abbrev S1920x256 : Shape := ⟨2, ![1920, 256]⟩
abbrev S1x256 : Shape := ⟨2, ![1, 256]⟩
abbrev S256 : Shape := ⟨1, ![256]⟩
abbrev S8x256 : Shape := ⟨2, ![8, 256]⟩

abbrev nBuf : Space → Nat
  | .hbm => 17
  | .vmem => 14
  | .smem => 0
  | _ => 0

abbrev bufTy : (tb : Table) → Fin (tcTables nBuf tb) → BufTy
  | .hbm, ⟨0, _⟩ => ⟨S2x1920x3072, .i8⟩
  | .hbm, ⟨1, _⟩ => ⟨S2x3072, .f32⟩
  | .hbm, ⟨2, _⟩ => ⟨S2x32, .f32⟩
  | .hbm, ⟨3, _⟩ => ⟨S2x32, .f32⟩
  | .hbm, ⟨4, _⟩ => ⟨S1920, .f32⟩
  | .hbm, ⟨5, _⟩ => ⟨S1920, .f32⟩
  | .hbm, ⟨6, _⟩ => ⟨S2x32x60, .f32⟩
  | .hbm, ⟨7, _⟩ => ⟨S2x1920, .f32⟩
  | .hbm, ⟨8, _⟩ => ⟨S2x1920x1, .f32⟩
  | .hbm, ⟨9, _⟩ => ⟨S2x32x60, .f32⟩
  | .hbm, ⟨10, _⟩ => ⟨S2x1920, .f32⟩
  | .hbm, ⟨11, _⟩ => ⟨S2x1920x1, .f32⟩
  | .hbm, ⟨12, _⟩ => ⟨S2x1x3072, .f32⟩
  | .hbm, ⟨13, _⟩ => ⟨S1920x1, .f32⟩
  | .hbm, ⟨14, _⟩ => ⟨S1920x1, .f32⟩
  | .hbm, ⟨15, _⟩ => ⟨S2x1920x3072, .fp8e4m3⟩
  | .hbm, ⟨16, _⟩ => ⟨S2x1x3072, .f32⟩
  | .local _ .vmem, ⟨0, _⟩ => ⟨S1x1920x256, .i8⟩
  | .local _ .vmem, ⟨1, _⟩ => ⟨S1x1920x256, .i8⟩
  | .local _ .vmem, ⟨2, _⟩ => ⟨S1x1x256, .f32⟩
  | .local _ .vmem, ⟨3, _⟩ => ⟨S1x1x256, .f32⟩
  | .local _ .vmem, ⟨4, _⟩ => ⟨S1x1920x1, .f32⟩
  | .local _ .vmem, ⟨5, _⟩ => ⟨S1x1920x1, .f32⟩
  | .local _ .vmem, ⟨6, _⟩ => ⟨S1x1920x1, .f32⟩
  | .local _ .vmem, ⟨7, _⟩ => ⟨S1x1920x1, .f32⟩
  | .local _ .vmem, ⟨8, _⟩ => ⟨S1920x1, .f32⟩
  | .local _ .vmem, ⟨9, _⟩ => ⟨S1920x1, .f32⟩
  | .local _ .vmem, ⟨10, _⟩ => ⟨S1x1920x256, .fp8e4m3⟩
  | .local _ .vmem, ⟨11, _⟩ => ⟨S1x1920x256, .fp8e4m3⟩
  | .local _ .vmem, ⟨12, _⟩ => ⟨S1x1x256, .f32⟩
  | .local _ .vmem, ⟨13, _⟩ => ⟨S1x1x256, .f32⟩
  | _, _ => ⟨S2x1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1920x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1920x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1920x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1920x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1920x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1920x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Act1RefIdeal.lean ====
abbrev S2x1920x3072 : Shape := ⟨3, ![2, 1920, 3072]⟩
abbrev S2x3072 : Shape := ⟨2, ![2, 3072]⟩
abbrev S2x32 : Shape := ⟨2, ![2, 32]⟩
abbrev S1920 : Shape := ⟨1, ![1920]⟩
abbrev S2x1x3072 : Shape := ⟨3, ![2, 1, 3072]⟩
abbrev S2x32x1x1 : Shape := ⟨4, ![2, 32, 1, 1]⟩
abbrev S1920x1 : Shape := ⟨2, ![1920, 1]⟩
abbrev S1x1920x3072 : Shape := ⟨3, ![1, 1920, 3072]⟩
abbrev S1920x3072 : Shape := ⟨2, ![1920, 3072]⟩
abbrev S1x1x3072 : Shape := ⟨3, ![1, 1, 3072]⟩
abbrev S1x3072 : Shape := ⟨2, ![1, 3072]⟩
abbrev S1x32x1x1 : Shape := ⟨4, ![1, 32, 1, 1]⟩
abbrev S32x1x1 : Shape := ⟨3, ![32, 1, 1]⟩
abbrev S32x60x3072 : Shape := ⟨3, ![32, 60, 3072]⟩
abbrev S3072 : Shape := ⟨1, ![3072]⟩
abbrev S252x3072 : Shape := ⟨2, ![252, 3072]⟩

abbrev nBuf : Space → Nat
  | .hbm => 13
  | .vmem => 8
  | .smem => 0
  | _ => 0

abbrev bufTy : (tb : Table) → Fin (tcTables nBuf tb) → BufTy
  | .hbm, ⟨0, _⟩ => ⟨S2x1920x3072, .i8⟩
  | .hbm, ⟨1, _⟩ => ⟨S2x3072, .f32⟩
  | .hbm, ⟨2, _⟩ => ⟨S2x32, .f32⟩
  | .hbm, ⟨3, _⟩ => ⟨S2x32, .f32⟩
  | .hbm, ⟨4, _⟩ => ⟨S1920, .f32⟩
  | .hbm, ⟨5, _⟩ => ⟨S1920, .f32⟩
  | .hbm, ⟨6, _⟩ => ⟨S2x1x3072, .f32⟩
  | .hbm, ⟨7, _⟩ => ⟨S2x32x1x1, .f32⟩
  | .hbm, ⟨8, _⟩ => ⟨S2x32x1x1, .f32⟩
  | .hbm, ⟨9, _⟩ => ⟨S1920x1, .f32⟩
  | .hbm, ⟨10, _⟩ => ⟨S1920x1, .f32⟩
  | .hbm, ⟨11, _⟩ => ⟨S2x1920x3072, .fp8e4m3⟩
  | .hbm, ⟨12, _⟩ => ⟨S2x1x3072, .f32⟩
  | .local _ .vmem, ⟨0, _⟩ => ⟨S2x1920x3072, .i8⟩
  | .local _ .vmem, ⟨1, _⟩ => ⟨S2x1x3072, .f32⟩
  | .local _ .vmem, ⟨2, _⟩ => ⟨S2x32x1x1, .f32⟩
  | .local _ .vmem, ⟨3, _⟩ => ⟨S2x32x1x1, .f32⟩
  | .local _ .vmem, ⟨4, _⟩ => ⟨S1920x1, .f32⟩
  | .local _ .vmem, ⟨5, _⟩ => ⟨S1920x1, .f32⟩
  | .local _ .vmem, ⟨6, _⟩ => ⟨S2x1920x3072, .fp8e4m3⟩
  | .local _ .vmem, ⟨7, _⟩ => ⟨S2x1x3072, .f32⟩
  | _, _ => ⟨S2x1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1920x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Conv1.lean ====
abbrev S2x1920x3072 : Shape := ⟨3, ![2, 1920, 3072]⟩
abbrev S2x1x3072 : Shape := ⟨3, ![2, 1, 3072]⟩
abbrev S1280x1920x3x3 : Shape := ⟨4, ![1280, 1920, 3, 3]⟩
abbrev S1280 : Shape := ⟨1, ![1280]⟩
abbrev S2x1280 : Shape := ⟨2, ![2, 1280]⟩
abbrev S2x32 : Shape := ⟨2, ![2, 32]⟩
abbrev S2x32x40 : Shape := ⟨3, ![2, 32, 40]⟩
abbrev S2x1280x1 : Shape := ⟨3, ![2, 1280, 1]⟩
abbrev S3x3x1280x1920 : Shape := ⟨4, ![3, 3, 1280, 1920]⟩
abbrev S9x1280x1920 : Shape := ⟨3, ![9, 1280, 1920]⟩
abbrev S1280x1 : Shape := ⟨2, ![1280, 1]⟩
abbrev S2x1280x3072 : Shape := ⟨3, ![2, 1280, 3072]⟩
abbrev S1x1920x128 : Shape := ⟨3, ![1, 1920, 128]⟩
abbrev S1x1x128 : Shape := ⟨3, ![1, 1, 128]⟩
abbrev S1x1280x1 : Shape := ⟨3, ![1, 1280, 1]⟩
abbrev S1x1280x256 : Shape := ⟨3, ![1, 1280, 256]⟩
abbrev S1x1x256 : Shape := ⟨3, ![1, 1, 256]⟩
abbrev S1280x256 : Shape := ⟨2, ![1280, 256]⟩
abbrev S1920x128 : Shape := ⟨2, ![1920, 128]⟩
abbrev S1x128 : Shape := ⟨2, ![1, 128]⟩
abbrev S1920x512 : Shape := ⟨2, ![1920, 512]⟩
abbrev S960x512 : Shape := ⟨2, ![960, 512]⟩
abbrev S1920x256 : Shape := ⟨2, ![1920, 256]⟩
abbrev S1x256 : Shape := ⟨2, ![1, 256]⟩
abbrev S1x1280x1920 : Shape := ⟨3, ![1, 1280, 1920]⟩
abbrev S1280x1920 : Shape := ⟨2, ![1280, 1920]⟩
abbrev S256 : Shape := ⟨1, ![256]⟩
abbrev S8x256 : Shape := ⟨2, ![8, 256]⟩

abbrev nBuf : Space → Nat
  | .hbm => 25
  | .vmem => 32
  | .smem => 0
  | _ => 0

abbrev bufTy : (tb : Table) → Fin (tcTables nBuf tb) → BufTy
  | .hbm, ⟨0, _⟩ => ⟨S2x1920x3072, .fp8e4m3⟩
  | .hbm, ⟨1, _⟩ => ⟨S2x1x3072, .f32⟩
  | .hbm, ⟨2, _⟩ => ⟨S1280x1920x3x3, .fp8e4m3⟩
  | .hbm, ⟨3, _⟩ => ⟨S1280, .f32⟩
  | .hbm, ⟨4, _⟩ => ⟨S1280, .f32⟩
  | .hbm, ⟨5, _⟩ => ⟨S2x1280, .f32⟩
  | .hbm, ⟨6, _⟩ => ⟨S2x32, .f32⟩
  | .hbm, ⟨7, _⟩ => ⟨S2x32, .f32⟩
  | .hbm, ⟨8, _⟩ => ⟨S1280, .f32⟩
  | .hbm, ⟨9, _⟩ => ⟨S1280, .f32⟩
  | .hbm, ⟨10, _⟩ => ⟨S2x32x40, .f32⟩
  | .hbm, ⟨11, _⟩ => ⟨S2x1280, .f32⟩
  | .hbm, ⟨12, _⟩ => ⟨S2x1280x1, .f32⟩
  | .hbm, ⟨13, _⟩ => ⟨S2x32x40, .f32⟩
  | .hbm, ⟨14, _⟩ => ⟨S2x1280, .f32⟩
  | .hbm, ⟨15, _⟩ => ⟨S2x1280x1, .f32⟩
  | .hbm, ⟨16, _⟩ => ⟨S3x3x1280x1920, .fp8e4m3⟩
  | .hbm, ⟨17, _⟩ => ⟨S9x1280x1920, .fp8e4m3⟩
  | .hbm, ⟨18, _⟩ => ⟨S1280x1, .f32⟩
  | .hbm, ⟨19, _⟩ => ⟨S1280x1, .f32⟩
  | .hbm, ⟨20, _⟩ => ⟨S2x1280x1, .f32⟩
  | .hbm, ⟨21, _⟩ => ⟨S1280x1, .f32⟩
  | .hbm, ⟨22, _⟩ => ⟨S1280x1, .f32⟩
  | .hbm, ⟨23, _⟩ => ⟨S2x1280x3072, .fp8e4m3⟩
  | .hbm, ⟨24, _⟩ => ⟨S2x1x3072, .f32⟩
  | .local _ .vmem, ⟨0, _⟩ => ⟨S1x1920x128, .fp8e4m3⟩
  | .local _ .vmem, ⟨1, _⟩ => ⟨S1x1920x128, .fp8e4m3⟩
  | .local _ .vmem, ⟨2, _⟩ => ⟨S1x1920x128, .fp8e4m3⟩
  | .local _ .vmem, ⟨3, _⟩ => ⟨S1x1920x128, .fp8e4m3⟩
  | .local _ .vmem, ⟨4, _⟩ => ⟨S1x1920x128, .fp8e4m3⟩
  | .local _ .vmem, ⟨5, _⟩ => ⟨S1x1920x128, .fp8e4m3⟩
  | .local _ .vmem, ⟨6, _⟩ => ⟨S1x1920x128, .fp8e4m3⟩
  | .local _ .vmem, ⟨7, _⟩ => ⟨S1x1920x128, .fp8e4m3⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S9x1280x1920, .fp8e4m3⟩
  | .local _ .vmem, ⟨17, _⟩ => ⟨S1280x1, .f32⟩
  | .local _ .vmem, ⟨18, _⟩ => ⟨S1280x1, .f32⟩
  | .local _ .vmem, ⟨19, _⟩ => ⟨S1x1280x1, .f32⟩
  | .local _ .vmem, ⟨20, _⟩ => ⟨S1x1280x1, .f32⟩
  | .local _ .vmem, ⟨21, _⟩ => ⟨S1x1280x1, .f32⟩
  | .local _ .vmem, ⟨22, _⟩ => ⟨S1x1280x1, .f32⟩
  | .local _ .vmem, ⟨23, _⟩ => ⟨S1x1280x1, .f32⟩
  | .local _ .vmem, ⟨24, _⟩ => ⟨S1x1280x1, .f32⟩
  | .local _ .vmem, ⟨25, _⟩ => ⟨S1280x1, .f32⟩
  | .local _ .vmem, ⟨26, _⟩ => ⟨S1280x1, .f32⟩
  | .local _ .vmem, ⟨27, _⟩ => ⟨S1x1280x256, .fp8e4m3⟩
  | .local _ .vmem, ⟨28, _⟩ => ⟨S1x1280x256, .fp8e4m3⟩
  | .local _ .vmem, ⟨29, _⟩ => ⟨S1x1x256, .f32⟩
  | .local _ .vmem, ⟨30, _⟩ => ⟨S1x1x256, .f32⟩
  | .local _ .vmem, ⟨31, _⟩ => ⟨S1280x256, .f32⟩
  | _, _ => ⟨S2x1920x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [BitOps F]

abbrev grid0 : Pipeline.Grid := ⟨1, ![24], ![false]⟩

def cc0_transform_0 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c0_i32_3 : BitVec 32 := 0#32
  let v11 : BitVec 32 := Scalar.addi v10 c0_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_1 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c1_i32_3 : BitVec 32 := 1#32
  let v11 : BitVec 32 := Scalar.addi v10 c1_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_2 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c2_i32_3 : BitVec 32 := 2#32
  let v11 : BitVec 32 := Scalar.addi v10 c2_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_3 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c3_i32 : BitVec 32 := 3#32
  let v11 : BitVec 32 := Scalar.addi v10 c3_i32
  let c1_i32_3 : BitVec 32 := 1#32
  let v12 : BitVec 32 := Scalar.subi v11 c1_i32_3
  let c12_i32_4 : BitVec 32 := 12#32
  let v13 : BitVec 32 := Scalar.divsi arg0 c12_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c12_i32_4 c0_i32_7
  let v20 : BitVec 32 := Scalar.extui v19
  let c0_i32_8 : BitVec 32 := 0#32
  let v21 : BitVec 1 := Scalar.cmpi .slt c12_i32_4 c0_i32_8
  let v22 : BitVec 32 := Scalar.extui v21
  let v23 : BitVec 32 := Scalar.subi v20 v22
  let v24 : BitVec 1 := Scalar.cmpi .ne v18 v23
  let v25 : BitVec 32 := Scalar.remsi arg0 c12_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let c23_i32 : BitVec 32 := 23#32
  let v30 : BitVec 32 := Scalar.maxsi c0_i32_11 v12
  let v31 : BitVec 32 := Scalar.minsi c23_i32 v30
  let c0_i32_12 : BitVec 32 := 0#32
  let c0_i32_13 : BitVec 32 := 0#32
  ![v29.toNat, c0_i32_12.toNat, v31.toNat]

def cc0_transform_4 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c0_i32_3 : BitVec 32 := 0#32
  let v11 : BitVec 32 := Scalar.addi v10 c0_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_5 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c1_i32_3 : BitVec 32 := 1#32
  let v11 : BitVec 32 := Scalar.addi v10 c1_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_6 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c2_i32_3 : BitVec 32 := 2#32
  let v11 : BitVec 32 := Scalar.addi v10 c2_i32_3
  let c1_i32_4 : BitVec 32 := 1#32
  let v12 : BitVec 32 := Scalar.subi v11 c1_i32_4
  let c12_i32_5 : BitVec 32 := 12#32
  let v13 : BitVec 32 := Scalar.divsi arg0 c12_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c12_i32_5 c0_i32_8
  let v20 : BitVec 32 := Scalar.extui v19
  let c0_i32_9 : BitVec 32 := 0#32
  let v21 : BitVec 1 := Scalar.cmpi .slt c12_i32_5 c0_i32_9
  let v22 : BitVec 32 := Scalar.extui v21
  let v23 : BitVec 32 := Scalar.subi v20 v22
  let v24 : BitVec 1 := Scalar.cmpi .ne v18 v23
  let v25 : BitVec 32 := Scalar.remsi arg0 c12_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c23_i32 : BitVec 32 := 23#32
  let v30 : BitVec 32 := Scalar.maxsi c0_i32_12 v12
  let v31 : BitVec 32 := Scalar.minsi c23_i32 v30
  let c0_i32_13 : BitVec 32 := 0#32
  let c0_i32_14 : BitVec 32 := 0#32
  ![v29.toNat, c0_i32_13.toNat, v31.toNat]

def cc0_transform_7 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c3_i32 : BitVec 32 := 3#32
  let v11 : BitVec 32 := Scalar.addi v10 c3_i32
  let c1_i32_3 : BitVec 32 := 1#32
  let v12 : BitVec 32 := Scalar.subi v11 c1_i32_3
  let c12_i32_4 : BitVec 32 := 12#32
  let v13 : BitVec 32 := Scalar.divsi arg0 c12_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c12_i32_4 c0_i32_7
  let v20 : BitVec 32 := Scalar.extui v19
  let c0_i32_8 : BitVec 32 := 0#32
  let v21 : BitVec 1 := Scalar.cmpi .slt c12_i32_4 c0_i32_8
  let v22 : BitVec 32 := Scalar.extui v21
  let v23 : BitVec 32 := Scalar.subi v20 v22
  let v24 : BitVec 1 := Scalar.cmpi .ne v18 v23
  let v25 : BitVec 32 := Scalar.remsi arg0 c12_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let c23_i32 : BitVec 32 := 23#32
  let v30 : BitVec 32 := Scalar.maxsi c0_i32_11 v12
  let v31 : BitVec 32 := Scalar.minsi c23_i32 v30
  let c0_i32_12 : BitVec 32 := 0#32
  let c0_i32_13 : BitVec 32 := 0#32
  ![v29.toNat, c0_i32_12.toNat, v31.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1920x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1920x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1920x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1920x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S9x1280x1920 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1280x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1280x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1280x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1280x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1280x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1280x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Conv1Ideal.lean ====
variable {F : FTy → Type} [FloatOps F]
-- ==== Conv1RefIdeal.lean ====
abbrev S2x1920x3072 : Shape := ⟨3, ![2, 1920, 3072]⟩
abbrev S2x1x3072 : Shape := ⟨3, ![2, 1, 3072]⟩
abbrev S1280x1920x3x3 : Shape := ⟨4, ![1280, 1920, 3, 3]⟩
abbrev S1280 : Shape := ⟨1, ![1280]⟩
abbrev S2x1280 : Shape := ⟨2, ![2, 1280]⟩
abbrev S2x32 : Shape := ⟨2, ![2, 32]⟩
abbrev S3x3x1280x1920 : Shape := ⟨4, ![3, 3, 1280, 1920]⟩
abbrev S1280x1 : Shape := ⟨2, ![1280, 1]⟩
abbrev S2x1280x1 : Shape := ⟨3, ![2, 1280, 1]⟩
abbrev S2x32x1x1 : Shape := ⟨4, ![2, 32, 1, 1]⟩
abbrev S2x1280x3072 : Shape := ⟨3, ![2, 1280, 3072]⟩
abbrev S1x1920x3072 : Shape := ⟨3, ![1, 1920, 3072]⟩
abbrev S1920x3072 : Shape := ⟨2, ![1920, 3072]⟩
abbrev S1x1x3072 : Shape := ⟨3, ![1, 1, 3072]⟩
abbrev S1x3072 : Shape := ⟨2, ![1, 3072]⟩
abbrev S1920x48x64 : Shape := ⟨3, ![1920, 48, 64]⟩
abbrev S1920x1x64 : Shape := ⟨3, ![1920, 1, 64]⟩
abbrev S1920x49x64 : Shape := ⟨3, ![1920, 49, 64]⟩
abbrev S1920x50x64 : Shape := ⟨3, ![1920, 50, 64]⟩
abbrev S1920x50x1 : Shape := ⟨3, ![1920, 50, 1]⟩
abbrev S1920x50x65 : Shape := ⟨3, ![1920, 50, 65]⟩
abbrev S1920x50x66 : Shape := ⟨3, ![1920, 50, 66]⟩
abbrev S1280x3072 : Shape := ⟨2, ![1280, 3072]⟩
abbrev S1x1x1280x1920 : Shape := ⟨4, ![1, 1, 1280, 1920]⟩
abbrev S1280x1920 : Shape := ⟨2, ![1280, 1920]⟩
abbrev S1x1280x1 : Shape := ⟨3, ![1, 1280, 1]⟩
abbrev S1x32x1x1 : Shape := ⟨4, ![1, 32, 1, 1]⟩
abbrev S32x1x1 : Shape := ⟨3, ![32, 1, 1]⟩
abbrev S32x40x3072 : Shape := ⟨3, ![32, 40, 3072]⟩
abbrev S3072 : Shape := ⟨1, ![3072]⟩
abbrev S252x3072 : Shape := ⟨2, ![252, 3072]⟩
abbrev S1x1280x3072 : Shape := ⟨3, ![1, 1280, 3072]⟩

abbrev nBuf : Space → Nat
  | .hbm => 20
  | .vmem => 12
  | .smem => 0
  | _ => 0

abbrev bufTy : (tb : Table) → Fin (tcTables nBuf tb) → BufTy
  | .hbm, ⟨0, _⟩ => ⟨S2x1920x3072, .fp8e4m3⟩
  | .hbm, ⟨1, _⟩ => ⟨S2x1x3072, .f32⟩
  | .hbm, ⟨2, _⟩ => ⟨S1280x1920x3x3, .fp8e4m3⟩
  | .hbm, ⟨3, _⟩ => ⟨S1280, .f32⟩
  | .hbm, ⟨4, _⟩ => ⟨S1280, .f32⟩
  | .hbm, ⟨5, _⟩ => ⟨S2x1280, .f32⟩
  | .hbm, ⟨6, _⟩ => ⟨S2x32, .f32⟩
  | .hbm, ⟨7, _⟩ => ⟨S2x32, .f32⟩
  | .hbm, ⟨8, _⟩ => ⟨S1280, .f32⟩
  | .hbm, ⟨9, _⟩ => ⟨S1280, .f32⟩
  | .hbm, ⟨10, _⟩ => ⟨S3x3x1280x1920, .fp8e4m3⟩
  | .hbm, ⟨11, _⟩ => ⟨S1280x1, .f32⟩
  | .hbm, ⟨12, _⟩ => ⟨S1280x1, .f32⟩
  | .hbm, ⟨13, _⟩ => ⟨S2x1280x1, .f32⟩
  | .hbm, ⟨14, _⟩ => ⟨S2x32x1x1, .f32⟩
  | .hbm, ⟨15, _⟩ => ⟨S2x32x1x1, .f32⟩
  | .hbm, ⟨16, _⟩ => ⟨S1280x1, .f32⟩
  | .hbm, ⟨17, _⟩ => ⟨S1280x1, .f32⟩
  | .hbm, ⟨18, _⟩ => ⟨S2x1280x3072, .fp8e4m3⟩
  | .hbm, ⟨19, _⟩ => ⟨S2x1x3072, .f32⟩
  | .local _ .vmem, ⟨0, _⟩ => ⟨S2x1920x3072, .fp8e4m3⟩
  | .local _ .vmem, ⟨1, _⟩ => ⟨S2x1x3072, .f32⟩
  | .local _ .vmem, ⟨2, _⟩ => ⟨S3x3x1280x1920, .fp8e4m3⟩
  | .local _ .vmem, ⟨3, _⟩ => ⟨S1280x1, .f32⟩
  | .local _ .vmem, ⟨4, _⟩ => ⟨S1280x1, .f32⟩
  | .local _ .vmem, ⟨5, _⟩ => ⟨S2x1280x1, .f32⟩
  | .local _ .vmem, ⟨6, _⟩ => ⟨S2x32x1x1, .f32⟩
  | .local _ .vmem, ⟨7, _⟩ => ⟨S2x32x1x1, .f32⟩
  | .local _ .vmem, ⟨8, _⟩ => ⟨S1280x1, .f32⟩
  | .local _ .vmem, ⟨9, _⟩ => ⟨S1280x1, .f32⟩
  | .local _ .vmem, ⟨10, _⟩ => ⟨S2x1280x3072, .fp8e4m3⟩
  | .local _ .vmem, ⟨11, _⟩ => ⟨S2x1x3072, .f32⟩
  | _, _ => ⟨S2x1920x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x1920x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x1280x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1280x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1280x3072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Roll.lean ====
/-
  A rotation of the lanes of a bfloat16 vector, done by the kernels on words that pack two neighbouring rows: the rows
  of even and of odd index are split, each half is rotated, and the halves are interleaved again. Row by row this is
  the rotation of the whole vector.
-/
module

public import Idealize.ShloMosaic.Lib.Pointwise

@[expose] public section

set_option maxRecDepth 16384

noncomputable section

namespace Cert.Roll

open Idealize.ShloMosaic

variable {α : Type}

/-- Splitting `2 n` rows of 512 lanes by parity, rotating both halves by `k` and interleaving them reads, in row `r` and lane `q`, the
same row `k` lanes to the left (cyclically). -/
theorem rot512 {R n : ℕ} (k : BitVec 32) (v : (⟨2, ![R, 512]⟩ : Shape).Idx → α)
    (h : (⟨2, ![R, 512]⟩ : Shape).Bitcasts 16 ⟨2, ![n, 512]⟩ 32) (hr : (⟨2, ![n, 512]⟩ : Shape).Rotates 1 none)
    (r : Fin R) (q : Fin 512) :
    interleaveRows ⟨2, ![R, 512]⟩ (dynamicRotate 1 k none (rowsOfParity 0 ⟨2, ![n, 512]⟩ v h) hr)
        (dynamicRotate 1 k none (rowsOfParity 1 ⟨2, ![n, 512]⟩ v h) hr) h (ix2 r q)
      = v (ix2 r ⟨(q.val + 512 - k.toNat % 512) % 512, Nat.mod_lt _ (by decide)⟩) := by
  pointwise
  split
  · rename_i p
    have p' : r.val % 2 = 0 := p
    refine congrArg v (funext fun a => ?_)
    match a with
    | ⟨0, _⟩ => exact Fin.ext (show 2 * (r.val / 2) = r.val by omega)
    | ⟨1, _⟩ => exact Fin.ext rfl
  · rename_i p
    have p' : ¬ r.val % 2 = 0 := p
    refine congrArg v (funext fun a => ?_)
    match a with
    | ⟨0, _⟩ => exact Fin.ext (show 2 * (r.val / 2) + 1 = r.val by omega)
    | ⟨1, _⟩ => exact Fin.ext rfl

/-- The same for 256 rows of 3072 lanes. -/
theorem rot3072 (k : BitVec 32) (v : (⟨2, ![256, 3072]⟩ : Shape).Idx → α)
    (h : (⟨2, ![256, 3072]⟩ : Shape).Bitcasts 16 ⟨2, ![128, 3072]⟩ 32) (hr : (⟨2, ![128, 3072]⟩ : Shape).Rotates 1 none)
    (r : Fin 256) (q : Fin 3072) :
    interleaveRows ⟨2, ![256, 3072]⟩ (dynamicRotate 1 k none (rowsOfParity 0 ⟨2, ![128, 3072]⟩ v h) hr)
        (dynamicRotate 1 k none (rowsOfParity 1 ⟨2, ![128, 3072]⟩ v h) hr) h (ix2 r q)
      = v (ix2 r ⟨(q.val + 3072 - k.toNat % 3072) % 3072, Nat.mod_lt _ (by decide)⟩) := by
  pointwise
  split
  · congr 2; apply Fin.ext; show 2 * (r.val / 2) = r.val; omega
  · congr 2; apply Fin.ext; show 2 * (r.val / 2) + 1 = r.val; omega

/-- 256 lanes of a vector of 512 lanes, starting at lane `s ≤ 256`. -/
def lanes {R : ℕ} (v : (⟨2, ![R, 512]⟩ : Shape).Idx → α) (s : ℕ) (hs : s ≤ 256) : (⟨2, ![R, 256]⟩ : Shape).Idx → α :=
  fun j => v (ix2 ⟨(j 0).val, (j 0).isLt⟩ ⟨(j 1).val + s, by have : (j 1).val < 256 := (j 1).isLt; omega⟩)

theorem lanes_apply {R : ℕ} (v : (⟨2, ![R, 512]⟩ : Shape).Idx → α) (s : ℕ) (hs : s ≤ 256) (r : Fin R) (p : Fin 256) :
    lanes v s hs (ix2 r p) = v (ix2 r ⟨p.val + s, by omega⟩) := rfl

/-- The first 256 of the 512 lanes rotated by `k` are the 256 lanes starting at lane `512 - k`. -/
theorem window {R n : ℕ} (k : BitVec 32) (s : ℕ) (hs : s ≤ 256) (hk : k.toNat + s = 512) (v : (⟨2, ![R, 512]⟩ : Shape).Idx → α)
    (h : (⟨2, ![R, 512]⟩ : Shape).Bitcasts 16 ⟨2, ![n, 512]⟩ 32) (hr : (⟨2, ![n, 512]⟩ : Shape).Rotates 1 none)
    (hx : (⟨2, ![R, 512]⟩ : Shape).Slices ![0, 0] ⟨2, ![R, 256]⟩) :
    extractStridedSlice ⟨2, ![R, 256]⟩ ![0, 0]
        (interleaveRows ⟨2, ![R, 512]⟩ (dynamicRotate 1 k none (rowsOfParity 0 ⟨2, ![n, 512]⟩ v h) hr)
          (dynamicRotate 1 k none (rowsOfParity 1 ⟨2, ![n, 512]⟩ v h) hr) h) hx
      = lanes v s hs := by
  funext j
  have hj : (j 1).val < 256 := (j 1).isLt
  have e : extractStridedSlice ⟨2, ![R, 256]⟩ ![0, 0]
        (interleaveRows ⟨2, ![R, 512]⟩ (dynamicRotate 1 k none (rowsOfParity 0 ⟨2, ![n, 512]⟩ v h) hr)
          (dynamicRotate 1 k none (rowsOfParity 1 ⟨2, ![n, 512]⟩ v h) hr) h) hx j
      = interleaveRows ⟨2, ![R, 512]⟩ (dynamicRotate 1 k none (rowsOfParity 0 ⟨2, ![n, 512]⟩ v h) hr)
          (dynamicRotate 1 k none (rowsOfParity 1 ⟨2, ![n, 512]⟩ v h) hr) h
          (ix2 ⟨(j 0).val, (j 0).isLt⟩ ⟨(j 1).val, by omega⟩) := by
    unfold extractStridedSlice
    congr 1
    funext a
    match a with
    | ⟨0, _⟩ => exact Fin.ext (Nat.zero_add _)
    | ⟨1, _⟩ => exact Fin.ext (Nat.zero_add _)
  rw [e, rot512]
  unfold lanes
  congr 2
  apply Fin.ext
  show ((j 1).val + 512 - k.toNat % 512) % 512 = (j 1).val + s
  omega

end Cert.Roll

end
-- ==== Proof.Mask.lean ====
/-
  The lane masks of the kernels: a lane number's column is its remainder by 64, taken as the low six bits; a mask is 1
  where the column differs from a given one and 0 where it is that one.
-/
module

public import Idealize.ShloMosaic.Lib.Pointwise

@[expose] public section

set_option maxRecDepth 16384

noncomputable section

namespace Cert.Mask

open Idealize.ShloMosaic

/-- 0 in the lanes whose column (lane mod 64) is `c`, 1 in the others. -/
def notCol (c p : ℕ) : EReal := if p % 64 = c then 0 else 1

/-- The low six bits of a lane number are its column. -/
theorem and63 (p : ℕ) (hp : p < 4096) : IntOp.andi (BitVec.ofNat 32 p) 63#32 = BitVec.ofNat 32 (p % 64) := by
  apply BitVec.eq_of_toNat_eq
  show (BitVec.ofNat 32 p &&& 63#32).toNat = _
  rw [BitVec.toNat_and, BitVec.toNat_ofNat, BitVec.toNat_ofNat, BitVec.toNat_ofNat, Nat.mod_eq_of_lt (a := p) (by omega),
    show 63 % 2 ^ 32 = 2 ^ 6 - 1 by decide, Nat.and_two_pow_sub_one_eq_mod, Nat.mod_eq_of_lt (a := p % 64) (by omega)]

/-- The mask as the kernels compute it: the comparison's bit, widened and converted to a float. -/
theorem lane (c : ℕ) (hc : c < 64) (p : ℕ) (hp : p < 4096) :
    FloatOps.sitofp (F := Ideal) FTy.f32
      (BitVec.setWidth 32 (IntOp.cmpi CmpIPredicate.ne (IntOp.andi (BitVec.ofNat 32 p) 63#32) (BitVec.ofNat 32 c))) = notCol c p := by
  rw [and63 p hp]
  unfold notCol
  split
  · rename_i h
    rw [h]
    have : IntOp.cmpi CmpIPredicate.ne (BitVec.ofNat 32 c) (BitVec.ofNat 32 c) = 0#1 := by simp [IntOp.cmpi]
    rw [this]
    show (((BitVec.setWidth 32 (0#1)).toInt : ℝ) : EReal) = 0
    rw [show (BitVec.setWidth 32 (0#1)).toInt = 0 by decide]; simp
  · rename_i h
    have hne : BitVec.ofNat 32 (p % 64) ≠ BitVec.ofNat 32 c := fun e => h (by
      have h' := congrArg BitVec.toNat e
      simp only [BitVec.toNat_ofNat] at h'
      omega)
    have : IntOp.cmpi CmpIPredicate.ne (BitVec.ofNat 32 (p % 64)) (BitVec.ofNat 32 c) = 1#1 := by
      show BitVec.ofBool (BitVec.ofNat 32 (p % 64) != BitVec.ofNat 32 c) = 1#1
      rw [bne_iff_ne.mpr hne]; rfl
    rw [this]
    show (((BitVec.setWidth 32 (1#1)).toInt : ℝ) : EReal) = 1
    rw [show (BitVec.setWidth 32 (1#1)).toInt = 1 by decide]; simp

theorem lane63 (p : ℕ) (hp : p < 4096) :
    FloatOps.sitofp (F := Ideal) FTy.f32
      (BitVec.setWidth 32 (IntOp.cmpi CmpIPredicate.ne (IntOp.andi (BitVec.ofNat 32 p) 63#32) 63#32)) = notCol 63 p :=
  lane 63 (by decide) p hp

theorem lane0 (p : ℕ) (hp : p < 4096) :
    FloatOps.sitofp (F := Ideal) FTy.f32
      (BitVec.setWidth 32 (IntOp.cmpi CmpIPredicate.ne (IntOp.andi (BitVec.ofNat 32 p) 63#32) 0#32)) = notCol 0 p :=
  lane 0 (by decide) p hp

end Cert.Mask

end
-- ==== Proof.Da2Taps.lean ====
/-
  What one of the nine taps of the kernel's accumulation adds, read at an index, over the extended reals: the dot product
  over the output channels `o` of the scaled weight `w[tap, i, o] * s[o]` and the 256 lanes of the window that begin at
  the tap's lane, with the last column (or the first) masked where the tap moves a column across the edge of the image.
-/
module

public import proofs.«01_k».proof.Proof.Gen.Da2Ideal.Skeleton
public import proofs.«01_k».proof.Proof.Roll
public import proofs.«01_k».proof.Proof.Mask

@[expose] public section

set_option maxRecDepth 16384

noncomputable section

namespace Cert.Da2Ideal.Value

open Idealize.ShloMosaic Idealize.SL.Sem
open Cert.Da2Ideal Cert.Da2Ideal.Gen Cert.Mask

/-- Tap 0 (nothing is accumulated yet). -/
theorem tap0 (c : Ideal .f32) (a b : FVec Ideal S1280x128 .bf16) (x2 : Vec Ideal S1x1280x128 .fp8e5m2) (x6 : Vec Ideal S1x1x128 .f32)
    (x3 : Vec Ideal S1x1280x128 .fp8e5m2) (x7 : Vec Ideal S1x1x128 .f32) (w : Vec Ideal S9x1280x1280 .fp8e4m3) (s : Vec Ideal S1x1280 .f32)
    (i : Fin 1280) (p : Fin 256) :
    k0_pay9 (F := Ideal) (k0_pay7 c a b x2 x6 x3 x7)
        (k0_pay8 (View.ld w (Rect.unit ![0, 0, 0] ![1, 1280, 1280] inb_S9x1280x1280_S1x1280x1280_0_0_0))) s (ix2 i p)
      = ∑ o : Fin 1280, w (ix3 0 i o) * s (ix2 0 o) * (k0_pay6 c a b x2 x6 x3 x7 (ix2 o ⟨p.val + 193, by omega⟩) * notCol 63 p.val) := by
  unfold k0_pay9 k0_pay7 k0_pay8
  dsimp only
  generalize k0_pay6 c a b x2 x6 x3 x7 = W
  rw [Roll.window _ 193 (by decide) (by decide)]
  pointwise
  rw [lane63 p.val (by omega)]
  exact Finset.sum_congr rfl fun o _ => by rw [Roll.lanes_apply]

/-- Tap 1. -/
theorem tap1 (W : FVec Ideal S1280x512 .bf16) (w : Vec Ideal S9x1280x1280 .fp8e4m3) (s : Vec Ideal S1x1280 .f32)
    (acc : Vec Ideal S1280x256 .f32) (i : Fin 1280) (p : Fin 256) :
    k0_pay10 (F := Ideal) W (View.ld w (Rect.unit ![1, 0, 0] ![1, 1280, 1280] inb_S9x1280x1280_S1x1280x1280_1_0_0)) s acc (ix2 i p)
      = acc (ix2 i p) + ∑ o : Fin 1280, w (ix3 1 i o) * s (ix2 0 o) * W (ix2 o ⟨p.val + 192, by omega⟩) := by
  unfold k0_pay10
  dsimp only
  rw [Roll.window _ 192 (by decide) (by decide)]
  pointwise
  exact congrArg _ (Finset.sum_congr rfl fun o _ => by rw [Roll.lanes_apply])

/-- Tap 2. -/
theorem tap2 (W : FVec Ideal S1280x512 .bf16) (w : Vec Ideal S9x1280x1280 .fp8e4m3) (s : Vec Ideal S1x1280 .f32)
    (acc : Vec Ideal S1280x256 .f32) (i : Fin 1280) (p : Fin 256) :
    k0_pay13 (F := Ideal) (k0_pay11 W) k0_pay12 (View.ld w (Rect.unit ![2, 0, 0] ![1, 1280, 1280] inb_S9x1280x1280_S1x1280x1280_2_0_0)) s acc (ix2 i p)
      = acc (ix2 i p) + ∑ o : Fin 1280, w (ix3 2 i o) * s (ix2 0 o) * (W (ix2 o ⟨p.val + 191, by omega⟩) * notCol 0 p.val) := by
  unfold k0_pay13 k0_pay11 k0_pay12
  dsimp only
  rw [Roll.window _ 191 (by decide) (by decide)]
  pointwise
  rw [lane0 p.val (by omega)]
  exact congrArg _ (Finset.sum_congr rfl fun o _ => by rw [Roll.lanes_apply])

/-- Tap 3. -/
theorem tap3 (W : FVec Ideal S1280x512 .bf16) (w : Vec Ideal S9x1280x1280 .fp8e4m3) (s : Vec Ideal S1x1280 .f32)
    (acc : Vec Ideal S1280x256 .f32) (i : Fin 1280) (p : Fin 256) :
    k0_pay17 (F := Ideal) (k0_pay14 W) (k0_pay15 (View.ld w (Rect.unit ![3, 0, 0] ![1, 1280, 1280] inb_S9x1280x1280_S1x1280x1280_3_0_0))) (k0_pay16 s) acc (ix2 i p)
      = acc (ix2 i p) + ∑ o : Fin 1280, w (ix3 3 i o) * s (ix2 0 o) * (W (ix2 o ⟨p.val + 129, by omega⟩) * notCol 63 p.val) := by
  unfold k0_pay17 k0_pay14 k0_pay15 k0_pay16
  dsimp only
  rw [Roll.window _ 129 (by decide) (by decide)]
  pointwise
  rw [lane63 p.val (by omega)]
  exact congrArg _ (Finset.sum_congr rfl fun o _ => by rw [Roll.lanes_apply])

/-- Tap 4. -/
theorem tap4 (W : FVec Ideal S1280x512 .bf16) (w : Vec Ideal S9x1280x1280 .fp8e4m3) (s : Vec Ideal S1x1280 .f32)
    (acc : Vec Ideal S1280x256 .f32) (i : Fin 1280) (p : Fin 256) :
    k0_pay18 (F := Ideal) W (View.ld w (Rect.unit ![4, 0, 0] ![1, 1280, 1280] inb_S9x1280x1280_S1x1280x1280_4_0_0)) s acc (ix2 i p)
      = acc (ix2 i p) + ∑ o : Fin 1280, w (ix3 4 i o) * s (ix2 0 o) * W (ix2 o ⟨p.val + 128, by omega⟩) := by
  unfold k0_pay18
  dsimp only
  rw [Roll.window _ 128 (by decide) (by decide)]
  pointwise
  exact congrArg _ (Finset.sum_congr rfl fun o _ => by rw [Roll.lanes_apply])

/-- Tap 5. -/
theorem tap5 (W : FVec Ideal S1280x512 .bf16) (w : Vec Ideal S9x1280x1280 .fp8e4m3) (s : Vec Ideal S1x1280 .f32)
    (acc : Vec Ideal S1280x256 .f32) (i : Fin 1280) (p : Fin 256) :
    k0_pay21 (F := Ideal) (k0_pay19 W) k0_pay20 (View.ld w (Rect.unit ![5, 0, 0] ![1, 1280, 1280] inb_S9x1280x1280_S1x1280x1280_5_0_0)) s acc (ix2 i p)
      = acc (ix2 i p) + ∑ o : Fin 1280, w (ix3 5 i o) * s (ix2 0 o) * (W (ix2 o ⟨p.val + 127, by omega⟩) * notCol 0 p.val) := by
  unfold k0_pay21 k0_pay19 k0_pay20
  dsimp only
  rw [Roll.window _ 127 (by decide) (by decide)]
  pointwise
  rw [lane0 p.val (by omega)]
  exact congrArg _ (Finset.sum_congr rfl fun o _ => by rw [Roll.lanes_apply])

/-- Tap 6. -/
theorem tap6 (W : FVec Ideal S1280x512 .bf16) (w : Vec Ideal S9x1280x1280 .fp8e4m3) (s : Vec Ideal S1x1280 .f32)
    (acc : Vec Ideal S1280x256 .f32) (i : Fin 1280) (p : Fin 256) :
    k0_pay25 (F := Ideal) (k0_pay22 W) (k0_pay23 (View.ld w (Rect.unit ![6, 0, 0] ![1, 1280, 1280] inb_S9x1280x1280_S1x1280x1280_6_0_0))) (k0_pay24 s) acc (ix2 i p)
      = acc (ix2 i p) + ∑ o : Fin 1280, w (ix3 6 i o) * s (ix2 0 o) * (W (ix2 o ⟨p.val + 65, by omega⟩) * notCol 63 p.val) := by
  unfold k0_pay25 k0_pay22 k0_pay23 k0_pay24
  dsimp only
  rw [Roll.window _ 65 (by decide) (by decide)]
  pointwise
  rw [lane63 p.val (by omega)]
  exact congrArg _ (Finset.sum_congr rfl fun o _ => by rw [Roll.lanes_apply])

/-- Tap 7. -/
theorem tap7 (W : FVec Ideal S1280x512 .bf16) (w : Vec Ideal S9x1280x1280 .fp8e4m3) (s : Vec Ideal S1x1280 .f32)
    (acc : Vec Ideal S1280x256 .f32) (i : Fin 1280) (p : Fin 256) :
    k0_pay26 (F := Ideal) W (View.ld w (Rect.unit ![7, 0, 0] ![1, 1280, 1280] inb_S9x1280x1280_S1x1280x1280_7_0_0)) s acc (ix2 i p)
      = acc (ix2 i p) + ∑ o : Fin 1280, w (ix3 7 i o) * s (ix2 0 o) * W (ix2 o ⟨p.val + 64, by omega⟩) := by
  unfold k0_pay26
  dsimp only
  rw [Roll.window _ 64 (by decide) (by decide)]
  pointwise
  exact congrArg _ (Finset.sum_congr rfl fun o _ => by rw [Roll.lanes_apply])

/-- Tap 8. -/
theorem tap8 (W : FVec Ideal S1280x512 .bf16) (w : Vec Ideal S9x1280x1280 .fp8e4m3) (s : Vec Ideal S1x1280 .f32)
    (acc : Vec Ideal S1280x256 .f32) (i : Fin 1280) (p : Fin 256) :
    k0_pay1 (F := Ideal) (k0_pay27 W) k0_pay28 (View.ld w (Rect.unit ![8, 0, 0] ![1, 1280, 1280] inb_S9x1280x1280_S1x1280x1280_8_0_0)) s acc (ix2 i p)
      = acc (ix2 i p) + ∑ o : Fin 1280, w (ix3 8 i o) * s (ix2 0 o) * (W (ix2 o ⟨p.val + 63, by omega⟩) * notCol 0 p.val) := by
  unfold k0_pay1 k0_pay27 k0_pay28
  dsimp only
  rw [Roll.window _ 63 (by decide) (by decide)]
  pointwise
  rw [lane0 p.val (by omega)]
  exact congrArg _ (Finset.sum_congr rfl fun o _ => by rw [Roll.lanes_apply])

end Cert.Da2Ideal.Value

end
-- ==== Proof.Conv.lean ====
/-
  The sums the calls compute, over the extended reals, in plain terms: a pixel of an image of 48 rows of 64 pixels
  with a border of one zero pixel; a 3 × 3 convolution; the gradient of a 3 × 3 convolution with respect to its input at one channel and
  pixel; the gradient with respect to its weights at one tap and pair of channels.
-/
module

public import Idealize.ShloMosaic.Lib.Pointwise

@[expose] public section

noncomputable section

namespace Cert.Conv

open Idealize.ShloMosaic

/-- The pixel in row `y` and column `x` of the image `g` with a border of one zero pixel: rows 1 to 48 and columns 1 to 64 are the
image's. -/
def pixel (g : Fin 3072 → EReal) (y x : ℕ) : EReal :=
  if h : 1 ≤ y ∧ y ≤ 48 ∧ 1 ≤ x ∧ x ≤ 64 then g ⟨(y - 1) * 64 + (x - 1), by omega⟩ else 0

/-- The convolution at output channel `o` and pixel `P`: over the nine taps (kh, kw), in order, the sums over the input channels `i` of
the weight `w kh kw o i` and the pixel of `a i` at the tap. -/
def forward (w : Fin 3 → Fin 3 → Fin 1280 → Fin 1920 → EReal) (a : Fin 1920 → Fin 3072 → EReal) (o : Fin 1280) (P : Fin 3072) : EReal :=
  let d (kh kw : Fin 3) : EReal := ∑ i : Fin 1920, w kh kw o i * pixel (a i) (kh.val + P.val / 64) (kw.val + P.val % 64)
  d 0 0 + d 0 1 + d 0 2 + d 1 0 + d 1 1 + d 1 2 + d 2 0 + d 2 1 + d 2 2

/-- The gradient with respect to the input at channel `i` and pixel `P`: over the nine taps (kh, kw), in order, the sums over the
output channels `o` of the scaled weight `w kh kw o i * s o` and the pixel of `g o` one tap the other way. -/
def inputGrad (w : Fin 3 → Fin 3 → Fin 1280 → Fin 1280 → EReal) (s : Fin 1280 → EReal) (g : Fin 1280 → Fin 3072 → EReal)
    (i : Fin 1280) (P : Fin 3072) : EReal :=
  let d (kh kw : Fin 3) : EReal := ∑ o : Fin 1280, w kh kw o i * s o * pixel (g o) (2 - kh.val + P.val / 64) (2 - kw.val + P.val % 64)
  d 0 0 + d 0 1 + d 0 2 + d 1 0 + d 1 1 + d 1 2 + d 2 0 + d 2 1 + d 2 2

/-- The gradient with respect to the weight of tap (kh, kw) between the input channel `i` and the output channel `o`: the sum over
the pixels of the one image, then of the other, of the output's gradient and the input's pixel at the tap. -/
def weightGrad (g a : Fin 2 → Fin 1280 → Fin 3072 → EReal) (kh kw : ℕ) (o i : Fin 1280) : EReal :=
  let d (b : Fin 2) : EReal := ∑ P : Fin 3072, g b o P * pixel (a b i) (kh + P.val / 64) (kw + P.val % 64)
  d 0 + d 1

/-- The first call's result at image `b`, channel `i`, pixel `P`, of its four arguments: the weights' codes [output channel, input
channel, kh, kw], their scale per output channel, the gradient's codes [image, output channel, pixel] and their scale per pixel. -/
def da2 (w : (⟨4, ![1280, 1280, 3, 3]⟩ : Shape).Idx → EReal) (s : (⟨1, ![1280]⟩ : Shape).Idx → EReal)
    (g : (⟨3, ![2, 1280, 3072]⟩ : Shape).Idx → EReal) (gs : (⟨2, ![2, 3072]⟩ : Shape).Idx → EReal)
    (b : Fin 2) (i : Fin 1280) (P : Fin 3072) : EReal :=
  inputGrad (fun kh kw o i => w (ix4 o i kh kw)) (fun o => s (ix1 o)) (fun o q => g (ix3 b o q) * gs (ix2 b q)) i P

/-- The second call's result at tap `t = 3 kh + kw`, output channel `o` and input channel `i`, of its four arguments: the codes
[image, channel, pixel] and the scales per pixel of the gradient, and those of the input. -/
def dw2 (g : (⟨3, ![2, 1280, 3072]⟩ : Shape).Idx → EReal) (gs : (⟨2, ![2, 3072]⟩ : Shape).Idx → EReal)
    (a : (⟨3, ![2, 1280, 3072]⟩ : Shape).Idx → EReal) (sa : (⟨2, ![2, 3072]⟩ : Shape).Idx → EReal)
    (t : Fin 9) (o i : Fin 1280) : EReal :=
  weightGrad (fun b o q => g (ix3 b o q) * gs (ix2 b q)) (fun b i q => a (ix3 b i q) * sa (ix2 b q)) (t.val / 3) (t.val % 3) o i

end Cert.Conv

end
-- ==== Proof.Flat.lean ====
/-
  The tiles of an image as the kernels see it: the pixels in one row, 256 to a tile, with 128 zeros before and after. A tap
  one row or one column away is a shift of that row; where it crosses the left or the right edge a mask makes it 0.
-/
module

public import proofs.«01_k».proof.Proof.Mask
public import proofs.«01_k».proof.Proof.Conv

@[expose] public section

set_option maxRecDepth 16384

noncomputable section

namespace Cert.Flat

open Idealize.ShloMosaic
open Cert.Mask Cert.Conv

/-- The tile number of a grid point `n`, as the kernel computes it: the remainder of `n` by 12. -/
theorem tile (n : Fin 24) :
    (Scalar.select
          (Scalar.andi
            (Scalar.xori
              (Scalar.cmpi CmpIPredicate.slt
                (Scalar.remsi (BitVec.ofNat 32 n.val)
                  (Scalar.select (Scalar.cmpi CmpIPredicate.eq 12#32 0#32) 1#32 12#32))
                0#32)
              (Scalar.cmpi CmpIPredicate.slt (Scalar.select (Scalar.cmpi CmpIPredicate.eq 12#32 0#32) 1#32 12#32) 0#32))
            (Scalar.cmpi CmpIPredicate.ne
              (Scalar.remsi (BitVec.ofNat 32 n.val)
                (Scalar.select (Scalar.cmpi CmpIPredicate.eq 12#32 0#32) 1#32 12#32))
              0#32))
          (Scalar.addi
            (Scalar.remsi (BitVec.ofNat 32 n.val) (Scalar.select (Scalar.cmpi CmpIPredicate.eq 12#32 0#32) 1#32 12#32))
            (Scalar.select (Scalar.cmpi CmpIPredicate.eq 12#32 0#32) 1#32 12#32))
          (Scalar.remsi (BitVec.ofNat 32 n.val) (Scalar.select (Scalar.cmpi CmpIPredicate.eq 12#32 0#32) 1#32 12#32)))
      = BitVec.ofNat 32 (n.val % 12) := by
  revert n
  decide +kernel

/-- Whether the tile is `k`. -/
theorem tile_eq (n k : ℕ) (hk : k < 12) :
    Scalar.cmpi CmpIPredicate.eq (BitVec.ofNat 32 (n % 12)) (BitVec.ofNat 32 k) = if n % 12 = k then 1#1 else 0#1 := by
  show BitVec.ofBool (BitVec.ofNat 32 (n % 12) == BitVec.ofNat 32 k) = _
  split
  · rename_i h
    rw [h]; simp
  · rename_i h
    rw [beq_eq_false_iff_ne.mpr fun e => h (by
      have h' := congrArg BitVec.toNat e
      simp only [BitVec.toNat_ofNat] at h'
      omega)]
    rfl

/-- Pixel `n - 128` of the image `g`, or 0 outside it. -/
def flat (g : Fin 3072 → EReal) (n : ℕ) : EReal :=
  if h : 128 ≤ n ∧ n < 3200 then g ⟨n - 128, by omega⟩ else 0

/-- One row down (kh = 0), the same row (1), one row up (2) and one column to the right: the flat position, masked in the last
column, is the pixel of the bordered image. -/
theorem flat_right (g : Fin 3072 → EReal) (P kh : ℕ) (hP : P < 3072) (hk : kh ≤ 2) :
    flat g (P + 193 - 64 * kh) * notCol 63 P = pixel g (2 - kh + P / 64) (2 + P % 64) := by
  unfold flat notCol pixel
  by_cases hc : P % 64 = 63
  · rw [if_pos hc, mul_zero, dif_neg (by omega)]
  · rw [if_neg hc, mul_one]
    by_cases h : 128 ≤ P + 193 - 64 * kh ∧ P + 193 - 64 * kh < 3200
    · rw [dif_pos h, dif_pos (by omega)]
      exact congrArg g (Fin.ext (by show P + 193 - 64 * kh - 128 = (2 - kh + P / 64 - 1) * 64 + (2 + P % 64 - 1); omega))
    · rw [dif_neg h, dif_neg (by omega)]

/-- The same in the same column. -/
theorem flat_mid (g : Fin 3072 → EReal) (P kh : ℕ) (hP : P < 3072) (hk : kh ≤ 2) :
    flat g (P + 192 - 64 * kh) = pixel g (2 - kh + P / 64) (1 + P % 64) := by
  unfold flat pixel
  by_cases h : 128 ≤ P + 192 - 64 * kh ∧ P + 192 - 64 * kh < 3200
  · rw [dif_pos h, dif_pos (by omega)]
    exact congrArg g (Fin.ext (by show P + 192 - 64 * kh - 128 = (2 - kh + P / 64 - 1) * 64 + (1 + P % 64 - 1); omega))
  · rw [dif_neg h, dif_neg (by omega)]

/-- The same one column to the left, masked in the first column. -/
theorem flat_left (g : Fin 3072 → EReal) (P kh : ℕ) (hP : P < 3072) (hk : kh ≤ 2) :
    flat g (P + 191 - 64 * kh) * notCol 0 P = pixel g (2 - kh + P / 64) (0 + P % 64) := by
  unfold flat notCol pixel
  by_cases hc : P % 64 = 0
  · rw [if_pos hc, mul_zero, dif_neg (by omega)]
  · rw [if_neg hc, mul_one]
    by_cases h : 128 ≤ P + 191 - 64 * kh ∧ P + 191 - 64 * kh < 3200
    · rw [dif_pos h, dif_pos (by omega)]
      exact congrArg g (Fin.ext (by show P + 191 - 64 * kh - 128 = (2 - kh + P / 64 - 1) * 64 + (0 + P % 64 - 1); omega))
    · rw [dif_neg h, dif_neg (by omega)]

/-- The mask of a tile's lane is that of its pixel. -/
theorem notCol_tile (c T p : ℕ) : notCol c p = notCol c (256 * T + p) := by
  unfold notCol
  rw [show (256 * T + p) % 64 = p % 64 by omega]

end Cert.Flat

end
-- ==== Proof.Da2Window.lean ====
/-
  The window of 512 pixels that one block of the kernel puts together from four blocks of 128: the 256 pixels of its tile
  with 128 pixels before and 128 after; what lies outside the image is 0.
-/
module

public import proofs.«01_k».proof.Proof.Gen.Da2Ideal.Skeleton
public import proofs.«01_k».proof.Proof.Flat

@[expose] public section

set_option maxRecDepth 16384

noncomputable section

namespace Cert.Da2Ideal.Value

open Idealize.ShloMosaic Idealize.SL.Sem
open Cert.Da2Ideal Cert.Da2Ideal.Gen Cert.Flat

/-- The factor of the last quarter of the window: 0 in the last tile, 1 in the others. -/
theorem mask3 (i : grid0.Coords) : k0_pay3 (F := Ideal) i = if (i 0).val % 12 = 11 then 0 else 1 := by
  pointwise [k0_pay3]
  rw [tile ⟨(i 0).val, (i 0).isLt⟩]
  dsimp only
  rw [tile_eq _ 11 (by decide)]
  split <;> rfl

/-- The window at channel `o` and lane `q`: where `g o` are the pixels of the image, the pixel `256 T + q - 128` of tile `T`, or 0
outside the image. -/
theorem window_apply (i : grid0.Coords) (x0 x1 x2 x3 : Vec Ideal S1x1280x128 .fp8e5m2) (x4 x5 x6 x7 : Vec Ideal S1x1x128 .f32)
    (g : Fin 1280 → Fin 3072 → EReal) (T : ℕ) (hT : T < 12) (hi : (i 0).val % 12 = T)
    (h0 : ∀ (hT0 : T ≠ 0) (o : Fin 1280) (l : Fin 128), x0 (ix3 0 o l) * x4 (ix3 0 0 l) = g o ⟨256 * T - 128 + l.val, by omega⟩)
    (h1 : ∀ (o : Fin 1280) (l : Fin 128), x1 (ix3 0 o l) * x5 (ix3 0 0 l) = g o ⟨256 * T + l.val, by omega⟩)
    (h2 : ∀ (o : Fin 1280) (l : Fin 128), x2 (ix3 0 o l) * x6 (ix3 0 0 l) = g o ⟨256 * T + 128 + l.val, by omega⟩)
    (h3 : ∀ (hT11 : T ≠ 11) (o : Fin 1280) (l : Fin 128), x3 (ix3 0 o l) * x7 (ix3 0 0 l) = g o ⟨256 * T + 256 + l.val, by omega⟩)
    (o : Fin 1280) (q : Fin 512) :
    k0_pay6 (k0_pay3 i) (k0_pay4 i x0 x4) (k0_pay5 x1 x5) x2 x6 x3 x7 (ix2 o q)
      = if h : 128 ≤ 256 * T + q.val ∧ 256 * T + q.val < 3200 then g o ⟨256 * T + q.val - 128, by omega⟩ else 0 := by
  have hq := q.isLt
  rw [mask3]
  pointwise [k0_pay6, k0_pay4, k0_pay5]
  rw [tile ⟨(i 0).val, (i 0).isLt⟩]
  dsimp only
  rw [tile_eq _ 0 (by decide), hi]
  by_cases hq0 : q.val < 128
  · rw [dif_pos hq0]
    by_cases hT0 : T = 0
    · rw [if_pos hT0, dif_neg (by omega)]; rfl
    · rw [if_neg hT0, dif_pos (by omega)]
      exact (h0 hT0 o ⟨q.val, hq0⟩).trans (congrArg (g o) (Fin.ext (by show 256 * T - 128 + q.val = 256 * T + q.val - 128; omega)))
  · rw [dif_neg hq0]
    by_cases hq1 : q.val - 128 < 128
    · rw [dif_pos hq1, dif_pos (by omega)]
      exact (h1 o ⟨q.val - 128, hq1⟩).trans (congrArg (g o) (Fin.ext (by show 256 * T + (q.val - 128) = 256 * T + q.val - 128; omega)))
    · rw [dif_neg hq1]
      by_cases hq2 : q.val - 128 - 128 < 128
      · rw [dif_pos hq2, dif_pos (by omega)]
        exact (h2 o ⟨q.val - 128 - 128, hq2⟩).trans (congrArg (g o) (Fin.ext (by show 256 * T + 128 + (q.val - 128 - 128) = 256 * T + q.val - 128; omega)))
      · rw [dif_neg hq2]
        by_cases hT11 : T = 11
        · rw [if_pos hT11, dif_neg (by omega), mul_zero, mul_zero]
        · rw [if_neg hT11, dif_pos (by omega), mul_one]
          exact (h3 hT11 o ⟨q.val - 128 - 128 - 128, by omega⟩).trans
            (congrArg (g o) (Fin.ext (by show 256 * T + 256 + (q.val - 128 - 128 - 128) = 256 * T + q.val - 128; omega)))

end Cert.Da2Ideal.Value

end
-- ==== Proof.Da2Block.lean ====
/-
  What the kernel stores for one tile of 256 pixels: the gradient with respect to the input at the tile's pixels.
-/
module

public import proofs.«01_k».proof.Proof.Gen.Da2Ideal.Frame
public import proofs.«01_k».proof.Proof.Da2Taps
public import proofs.«01_k».proof.Proof.Da2Window
public import proofs.«01_k».proof.Proof.Flat
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Da2Ideal.Value

open Idealize.ShloMosaic Idealize.ShloMosaic.TcCoe Idealize.SL.Sem
open Cert.Da2Ideal Cert.Da2Ideal.Gen Cert.Mask Cert.Conv Cert.Flat

theorem hz2 : (![0, 0] : Fin 2 → Nat) = fun _ => 0 := funext fun a => by fin_cases a <;> rfl
theorem hz3 : (![0, 0, 0] : Fin 3 → Nat) = fun _ => 0 := funext fun a => by fin_cases a <;> rfl

/-- The nine taps' accumulation, with the window `W` and tap 0's product `A0` given: the input gradient. -/
theorem taps (W : FVec Ideal S1280x512 .bf16) (A0 : Vec Ideal S1280x256 .f32) (x8 : Vec Ideal S9x1280x1280 .fp8e4m3) (x9 : Vec Ideal S1x1280 .f32)
    (w : Fin 3 → Fin 3 → Fin 1280 → Fin 1280 → EReal) (s : Fin 1280 → EReal) (g : Fin 1280 → Fin 3072 → EReal) (T : ℕ) (hT : T < 12)
    (h8 : ∀ (kh kw : Fin 3) (i o : Fin 1280), x8 (ix3 ⟨3 * kh.val + kw.val, by omega⟩ i o) = w kh kw o i)
    (h9 : ∀ o : Fin 1280, x9 (ix2 0 o) = s o) (i : Fin 1280) (p : Fin 256)
    (hW : ∀ (o : Fin 1280) (q : Fin 512), W (ix2 o q) = flat (g o) (256 * T + q.val))
    (hA : A0 (ix2 i p) = ∑ o : Fin 1280, x8 (ix3 0 i o) * x9 (ix2 0 o) * (W (ix2 o ⟨p.val + 193, by omega⟩) * notCol 63 p.val)) :
    (k0_pay1 (k0_pay27 W) k0_pay28 (View.ld x8 (Rect.unit ![8, 0, 0] ![1, 1280, 1280] inb_S9x1280x1280_S1x1280x1280_8_0_0)) x9 (k0_pay26 W (View.ld x8 (Rect.unit ![7, 0, 0] ![1, 1280, 1280] inb_S9x1280x1280_S1x1280x1280_7_0_0)) x9 (k0_pay25 (k0_pay22 W) (k0_pay23 (View.ld x8 (Rect.unit ![6, 0, 0] ![1, 1280, 1280] inb_S9x1280x1280_S1x1280x1280_6_0_0))) (k0_pay24 x9) (k0_pay21 (k0_pay19 W) k0_pay20 (View.ld x8 (Rect.unit ![5, 0, 0] ![1, 1280, 1280] inb_S9x1280x1280_S1x1280x1280_5_0_0)) x9 (k0_pay18 W (View.ld x8 (Rect.unit ![4, 0, 0] ![1, 1280, 1280] inb_S9x1280x1280_S1x1280x1280_4_0_0)) x9 (k0_pay17 (k0_pay14 W) (k0_pay15 (View.ld x8 (Rect.unit ![3, 0, 0] ![1, 1280, 1280] inb_S9x1280x1280_S1x1280x1280_3_0_0))) (k0_pay16 x9) (k0_pay13 (k0_pay11 W) k0_pay12 (View.ld x8 (Rect.unit ![2, 0, 0] ![1, 1280, 1280] inb_S9x1280x1280_S1x1280x1280_2_0_0)) x9 (k0_pay10 W (View.ld x8 (Rect.unit ![1, 0, 0] ![1, 1280, 1280] inb_S9x1280x1280_S1x1280x1280_1_0_0)) x9 A0)))))))) (ix2 i p)
      = inputGrad w s g i ⟨256 * T + p.val, by omega⟩ := by
  have hP : 256 * T + p.val < 3072 := by omega
  have r : ∀ (kh : ℕ) (hk : kh ≤ 2) (q : Fin 512) (hq : q.val = p.val + 193 - 64 * kh) (o : Fin 1280),
      W (ix2 o q) * notCol 63 p.val = pixel (g o) (2 - kh + (256 * T + p.val) / 64) (2 + (256 * T + p.val) % 64) := fun kh hk q hq o => by
    rw [hW, hq, notCol_tile 63 T, ← flat_right (g o) _ kh hP hk, show 256 * T + (p.val + 193 - 64 * kh) = 256 * T + p.val + 193 - 64 * kh by omega]
  have c : ∀ (kh : ℕ) (hk : kh ≤ 2) (q : Fin 512) (hq : q.val = p.val + 192 - 64 * kh) (o : Fin 1280),
      W (ix2 o q) = pixel (g o) (2 - kh + (256 * T + p.val) / 64) (1 + (256 * T + p.val) % 64) := fun kh hk q hq o => by
    rw [hW, hq, ← flat_mid (g o) _ kh hP hk, show 256 * T + (p.val + 192 - 64 * kh) = 256 * T + p.val + 192 - 64 * kh by omega]
  have l : ∀ (kh : ℕ) (hk : kh ≤ 2) (q : Fin 512) (hq : q.val = p.val + 191 - 64 * kh) (o : Fin 1280),
      W (ix2 o q) * notCol 0 p.val = pixel (g o) (2 - kh + (256 * T + p.val) / 64) (0 + (256 * T + p.val) % 64) := fun kh hk q hq o => by
    rw [hW, hq, notCol_tile 0 T, ← flat_left (g o) _ kh hP hk, show 256 * T + (p.val + 191 - 64 * kh) = 256 * T + p.val + 191 - 64 * kh by omega]
  rw [tap8, tap7, tap6, tap5, tap4, tap3, tap2, tap1, hA]
  unfold inputGrad
  refine congrArg₂ _ (congrArg₂ _ (congrArg₂ _ (congrArg₂ _ (congrArg₂ _ (congrArg₂ _ (congrArg₂ _ (congrArg₂ _ ?_ ?_) ?_) ?_) ?_) ?_) ?_) ?_) ?_
  · exact Finset.sum_congr rfl fun o _ => congrArg₂ _ (congrArg₂ _ (h8 0 0 i o) (h9 o)) (r 0 (by omega) _ (by show p.val + 193 = p.val + 193 - 64 * 0; omega) o)
  · exact Finset.sum_congr rfl fun o _ => congrArg₂ _ (congrArg₂ _ (h8 0 1 i o) (h9 o)) (c 0 (by omega) _ (by show p.val + 192 = p.val + 192 - 64 * 0; omega) o)
  · exact Finset.sum_congr rfl fun o _ => congrArg₂ _ (congrArg₂ _ (h8 0 2 i o) (h9 o)) (l 0 (by omega) _ (by show p.val + 191 = p.val + 191 - 64 * 0; omega) o)
  · exact Finset.sum_congr rfl fun o _ => congrArg₂ _ (congrArg₂ _ (h8 1 0 i o) (h9 o)) (r 1 (by omega) _ (by show p.val + 129 = p.val + 193 - 64 * 1; omega) o)
  · exact Finset.sum_congr rfl fun o _ => congrArg₂ _ (congrArg₂ _ (h8 1 1 i o) (h9 o)) (c 1 (by omega) _ (by show p.val + 128 = p.val + 192 - 64 * 1; omega) o)
  · exact Finset.sum_congr rfl fun o _ => congrArg₂ _ (congrArg₂ _ (h8 1 2 i o) (h9 o)) (l 1 (by omega) _ (by show p.val + 127 = p.val + 191 - 64 * 1; omega) o)
  · exact Finset.sum_congr rfl fun o _ => congrArg₂ _ (congrArg₂ _ (h8 2 0 i o) (h9 o)) (r 2 (by omega) _ (by show p.val + 65 = p.val + 193 - 64 * 2; omega) o)
  · exact Finset.sum_congr rfl fun o _ => congrArg₂ _ (congrArg₂ _ (h8 2 1 i o) (h9 o)) (c 2 (by omega) _ (by show p.val + 64 = p.val + 192 - 64 * 2; omega) o)
  · exact Finset.sum_congr rfl fun o _ => congrArg₂ _ (congrArg₂ _ (h8 2 2 i o) (h9 o)) (l 2 (by omega) _ (by show p.val + 63 = p.val + 191 - 64 * 2; omega) o)

theorem stored (v : Vec Ideal S1280x256 .f32) (i : Fin 1280) (p : Fin 256) : k0_pay2 (F := Ideal) v (ix3 0 i p) = v (ix2 i p) := by
  pointwise [k0_pay2]

/-- The block the kernel stores at grid point `t`, at channel `i` and pixel `p` of tile `T`. -/
theorem out_apply (c : Dev nD) (t : Fin cfg0.N) (x0 : Vec Ideal S1x1280x128 .fp8e5m2) (x1 : Vec Ideal S1x1280x128 .fp8e5m2) (x2 : Vec Ideal S1x1280x128 .fp8e5m2) (x3 : Vec Ideal S1x1280x128 .fp8e5m2) (x4 : Vec Ideal S1x1x128 .f32) (x5 : Vec Ideal S1x1x128 .f32) (x6 : Vec Ideal S1x1x128 .f32) (x7 : Vec Ideal S1x1x128 .f32) (x8 : Vec Ideal S9x1280x1280 .fp8e4m3) (x9 : Vec Ideal S1x1280 .f32)
    (w : Fin 3 → Fin 3 → Fin 1280 → Fin 1280 → EReal) (s : Fin 1280 → EReal)
    (g : Fin 1280 → Fin 3072 → EReal) (T : ℕ) (hT : T < 12) (hi : (grid0.coords t 0).val % 12 = T)
    (h0 : ∀ (hT0 : T ≠ 0) (o : Fin 1280) (l : Fin 128), x0 (ix3 0 o l) * x4 (ix3 0 0 l) = g o ⟨256 * T - 128 + l.val, by omega⟩)
    (h1 : ∀ (o : Fin 1280) (l : Fin 128), x1 (ix3 0 o l) * x5 (ix3 0 0 l) = g o ⟨256 * T + l.val, by omega⟩)
    (h2 : ∀ (o : Fin 1280) (l : Fin 128), x2 (ix3 0 o l) * x6 (ix3 0 0 l) = g o ⟨256 * T + 128 + l.val, by omega⟩)
    (h3 : ∀ (hT11 : T ≠ 11) (o : Fin 1280) (l : Fin 128), x3 (ix3 0 o l) * x7 (ix3 0 0 l) = g o ⟨256 * T + 256 + l.val, by omega⟩)
    (h8 : ∀ (kh kw : Fin 3) (i o : Fin 1280), x8 (ix3 ⟨3 * kh.val + kw.val, by omega⟩ i o) = w kh kw o i)
    (h9 : ∀ o : Fin 1280, x9 (ix2 0 o) = s o)
    (i : Fin 1280) (p : Fin 256) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) x0 x1 x2 x3 x4 x5 x6 x7 x8 x9 (ix3 0 i p)
      = inputGrad w s g i ⟨256 * T + p.val, by omega⟩ := by
  unfold out0_A_10
  rw [View.read_writes_eq_canon _ _ _ (fun y => cover0_A_10 _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp (config := {zeta := false}) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.ld_unit_zero (S := S1x1280) hz2, View.ld_unit_zero (S := S1x1280x128) hz3, View.ld_unit_zero (S := S1x1x128) hz3,
    View.readCov_cons_unit_lit' (S := S1280x256) _ _ _ _ _ (congrFun hz2) (congrFun hz2)]
  rw [stored]
  exact taps _ _ x8 x9 w s g T hT h8 h9 i p (window_apply (grid0.coords t) x0 x1 x2 x3 x4 x5 x6 x7 g T hT hi h0 h1 h2 h3)
    (tap0 _ _ _ _ _ _ _ _ _ i p)

end Cert.Da2Ideal.Value

end
-- ==== Proof.Da2Array.lean ====
/-
  The first call's kernel, run: its result array holds `Conv.da2` of the four arguments.
-/
module

public import proofs.«01_k».proof.Proof.Gen.Da2Ideal.Value
public import proofs.«01_k».proof.Proof.Da2Block
public import Idealize.ShloMosaic.Lib.Pipeline.ValueKit

@[expose] public section

set_option maxRecDepth 16384

noncomputable section

namespace Cert.Da2Ideal.Value

open Idealize.ShloMosaic Idealize.ShloMosaic.TcCoe Idealize.SL.Sem
open Cert.Da2Ideal Cert.Da2Ideal.Gen Cert.Conv

variable (m : (ℓ : Loc nD τ sig) → Buf (Elt Ideal) ℓ) (ρ : Dev nD → PrngReg)

/-- The blocks of grid point `t`: image `t / 12`, tile `t % 12`; the four code blocks and the four scale blocks are the 128 pixels
before the tile, its two halves and the 128 pixels after it, kept inside the image. -/
theorem idx : ∀ t : Fin cfg0.N,
    win0_0.index t = ![t.val / 12, 0, 2 * (t.val % 12) - 1] ∧ win0_1.index t = ![t.val / 12, 0, 2 * (t.val % 12)]
    ∧ win0_2.index t = ![t.val / 12, 0, 2 * (t.val % 12) + 1] ∧ win0_3.index t = ![t.val / 12, 0, min (2 * (t.val % 12) + 2) 23]
    ∧ win0_4.index t = ![t.val / 12, 0, 2 * (t.val % 12) - 1] ∧ win0_5.index t = ![t.val / 12, 0, 2 * (t.val % 12)]
    ∧ win0_6.index t = ![t.val / 12, 0, 2 * (t.val % 12) + 1] ∧ win0_7.index t = ![t.val / 12, 0, min (2 * (t.val % 12) + 2) 23]
    ∧ win0_8.index t = ![0, 0, 0] ∧ win0_9.index t = ![0, 0] ∧ win0_10.index t = ![t.val / 12, 0, t.val % 12] := by
  decide +kernel

theorem coord : ∀ t : Fin cfg0.N, (grid0.coords t 0).val = t.val := by decide +kernel

theorem block8 (c : Dev nD) (t : Fin cfg0.N) (kh kw : Fin 3) (i o : Fin 1280) :
    iblk m c 8 t (ix3 ⟨3 * kh.val + kw.val, by omega⟩ i o) = m ((c : Thread nD τ).loc main_arg0) (ix4 o i kh kw) := by
  blk_ext! [iblk, V, idx t]

theorem block9 (c : Dev nD) (t : Fin cfg0.N) (o : Fin 1280) :
    iblk m c 9 t (ix2 0 o) = m ((c : Thread nD τ).loc main_arg1) (ix1 o) := by
  blk_ext! [iblk, V, idx t]

theorem block0 (c : Dev nD) (t : Fin cfg0.N) (o : Fin 1280) (l : Fin 128) (b : Fin 2) (q : Fin 3072) (hb : b.val = t.val / 12)
    (hq : q.val = 256 * (t.val % 12) - 128 + l.val) (h0 : t.val % 12 ≠ 0) :
    iblk m c 0 t (ix3 0 o l) = m ((c : Thread nD τ).loc main_arg2) (ix3 b o q) := by
  blk_ext! [iblk, V, idx t]

theorem block4 (c : Dev nD) (t : Fin cfg0.N) (l : Fin 128) (b : Fin 2) (q : Fin 3072) (hb : b.val = t.val / 12)
    (hq : q.val = 256 * (t.val % 12) - 128 + l.val) (h0 : t.val % 12 ≠ 0) :
    iblk m c 4 t (ix3 0 0 l) = m ((c : Thread nD τ).loc main_arg3) (ix2 b q) := by
  blk_ext! [iblk, V, idx t]

theorem block1 (c : Dev nD) (t : Fin cfg0.N) (o : Fin 1280) (l : Fin 128) (b : Fin 2) (q : Fin 3072) (hb : b.val = t.val / 12)
    (hq : q.val = 256 * (t.val % 12) + l.val) :
    iblk m c 1 t (ix3 0 o l) = m ((c : Thread nD τ).loc main_arg2) (ix3 b o q) := by
  blk_ext! [iblk, V, idx t]

theorem block5 (c : Dev nD) (t : Fin cfg0.N) (l : Fin 128) (b : Fin 2) (q : Fin 3072) (hb : b.val = t.val / 12)
    (hq : q.val = 256 * (t.val % 12) + l.val) :
    iblk m c 5 t (ix3 0 0 l) = m ((c : Thread nD τ).loc main_arg3) (ix2 b q) := by
  blk_ext! [iblk, V, idx t]

theorem block2 (c : Dev nD) (t : Fin cfg0.N) (o : Fin 1280) (l : Fin 128) (b : Fin 2) (q : Fin 3072) (hb : b.val = t.val / 12)
    (hq : q.val = 256 * (t.val % 12) + 128 + l.val) :
    iblk m c 2 t (ix3 0 o l) = m ((c : Thread nD τ).loc main_arg2) (ix3 b o q) := by
  blk_ext! [iblk, V, idx t]

theorem block6 (c : Dev nD) (t : Fin cfg0.N) (l : Fin 128) (b : Fin 2) (q : Fin 3072) (hb : b.val = t.val / 12)
    (hq : q.val = 256 * (t.val % 12) + 128 + l.val) :
    iblk m c 6 t (ix3 0 0 l) = m ((c : Thread nD τ).loc main_arg3) (ix2 b q) := by
  blk_ext! [iblk, V, idx t]

theorem block3 (c : Dev nD) (t : Fin cfg0.N) (o : Fin 1280) (l : Fin 128) (b : Fin 2) (q : Fin 3072) (hb : b.val = t.val / 12)
    (hq : q.val = 256 * (t.val % 12) + 256 + l.val) (h11 : t.val % 12 ≠ 11) :
    iblk m c 3 t (ix3 0 o l) = m ((c : Thread nD τ).loc main_arg2) (ix3 b o q) := by
  blk_ext! [iblk, V, idx t]

theorem block7 (c : Dev nD) (t : Fin cfg0.N) (l : Fin 128) (b : Fin 2) (q : Fin 3072) (hb : b.val = t.val / 12)
    (hq : q.val = 256 * (t.val % 12) + 256 + l.val) (h11 : t.val % 12 ≠ 11) :
    iblk m c 7 t (ix3 0 0 l) = m ((c : Thread nD τ).loc main_arg3) (ix2 b q) := by
  blk_ext! [iblk, V, idx t]

/-- What grid point `t` leaves in the output block, at channel `i` and pixel `p` of its tile. -/
theorem after_apply (c : Dev nD) (t : Fin cfg0.N) (i : Fin 1280) (p : Fin 256) (b : Fin 2) (P : Fin 3072) (hb : b.val = t.val / 12)
    (hP : P.val = 256 * (t.val % 12) + p.val) :
    (dats m 0 c).after 10 t (ix3 0 i p)
      = da2 (m ((c : Thread nD τ).loc main_arg0)) (m ((c : Thread nD τ).loc main_arg1)) (m ((c : Thread nD τ).loc main_arg2))
          (m ((c : Thread nD τ).loc main_arg3)) b i P := by
  have hT : t.val % 12 < 12 := Nat.mod_lt _ (by decide)
  have hP' : P = ⟨256 * (t.val % 12) + p.val, by omega⟩ := Fin.ext hP
  rw [after0_10, hP']
  unfold outsAt0 da2
  refine out_apply c t _ _ _ _ _ _ _ _ _ _ _ _ _ (t.val % 12) hT (by rw [coord t]) ?_ ?_ ?_ ?_ ?_ ?_ i p
  · exact fun h0 o l => by rw [block0 m c t o l b ⟨256 * (t.val % 12) - 128 + l.val, by omega⟩ hb rfl h0, block4 m c t l b ⟨256 * (t.val % 12) - 128 + l.val, by omega⟩ hb rfl h0]
  · exact fun o l => by rw [block1 m c t o l b ⟨256 * (t.val % 12) + l.val, by omega⟩ hb rfl, block5 m c t l b ⟨256 * (t.val % 12) + l.val, by omega⟩ hb rfl]
  · exact fun o l => by rw [block2 m c t o l b ⟨256 * (t.val % 12) + 128 + l.val, by omega⟩ hb rfl, block6 m c t l b ⟨256 * (t.val % 12) + 128 + l.val, by omega⟩ hb rfl]
  · exact fun h11 o l => by rw [block3 m c t o l b ⟨256 * (t.val % 12) + 256 + l.val, by omega⟩ hb rfl h11, block7 m c t l b ⟨256 * (t.val % 12) + 256 + l.val, by omega⟩ hb rfl h11]
  · exact fun kh kw i o => block8 m c t kh kw i o
  · exact fun o => block9 m c t o

/-- The result array after the run. -/
theorem array (c : Dev nD) : (dats m 0 c).arrAt 10 cfg0.N = fun y =>
    da2 (m ((c : Thread nD τ).loc main_arg0)) (m ((c : Thread nD τ).loc main_arg1)) (m ((c : Thread nD τ).loc main_arg2))
      (m ((c : Thread nD τ).loc main_arg3)) (y 0) (y 1) (y 2) := by
  refine (dats m 0 c).arrAt_eq_of_covers 10 _ (by decide +kernel) fun t hf y => ?_
  have h := fun i p b P hb hP => after_apply m c t i p b P hb hP
  generalize da2 (m ((c : Thread nD τ).loc main_arg0)) (m ((c : Thread nD τ).loc main_arg1)) (m ((c : Thread nD τ).loc main_arg2))
      (m ((c : Thread nD τ).loc main_arg3)) = G at h ⊢
  have y0 : (y 0).val = 0 := Nat.lt_one_iff.mp (y 0).isLt
  have e0 : ((win0_10.blk t).view.emb y 0).val = t.val / 12 + (y 0).val := by blk_simp [idx t]
  have e1 : ((win0_10.blk t).view.emb y 1).val = (y 1).val := by blk_simp [idx t]
  have e2 : ((win0_10.blk t).view.emb y 2).val = t.val % 12 * 256 + (y 2).val := by blk_simp [idx t]
  have hy : y = ix3 0 (y 1) (y 2) := by
    funext a; fin_cases a
    · exact Fin.ext y0
    · rfl
    · rfl
  have e : G ((win0_10.blk t).view.emb y 0) ((win0_10.blk t).view.emb y 1) ((win0_10.blk t).view.emb y 2)
      = G ((win0_10.blk t).view.emb y 0) (y 1) ((win0_10.blk t).view.emb y 2) := by
    congr 1
    exact Fin.ext e1
  have k0 : (dats m 0 c).after 10 t (ix3 0 (y 1) (y 2))
      = G ((win0_10.blk t).view.emb y 0) (y 1) ((win0_10.blk t).view.emb y 2) :=
    h (y 1) (y 2) ((win0_10.blk t).view.emb y 0) ((win0_10.blk t).view.emb y 2) (by rw [e0, y0, Nat.add_zero]) (by rw [e2, Nat.mul_comm])
  have k : (dats m 0 c).after 10 t y = G ((win0_10.blk t).view.emb y 0) (y 1) ((win0_10.blk t).view.emb y 2) :=
    (congrArg ((dats m 0 c).after 10 t) hy).trans k0
  exact k.trans e.symm

end Cert.Da2Ideal.Value

end
-- ==== Proof.Da2RefBody.lean ====
/-
  What the reference's one block computes from its four arguments: the gradient of the convolution with respect to its
  input, as the plain sum `Conv.inputGrad`.
-/
module

public import proofs.«01_k».proof.Proof.Gen.Da2RefIdeal.Frame
public import proofs.«01_k».proof.Proof.Conv
public import Idealize.ShloMosaic.Lib.Pointwise
public import Idealize.ShloMosaic.Lib.Pipeline.Value
public import Idealize.ShloMosaic.Lib.Tactic

@[expose] public section

set_option maxRecDepth 16384

noncomputable section

namespace Cert.Da2RefIdeal.Value

open Idealize.ShloMosaic Idealize.SL.Sem
open Cert.Da2RefIdeal Cert.Da2RefIdeal.Gen Cert.Conv

/-- The padded image: codes times scales inside, 0 on the border. -/
theorem padded (v0 : Vec Ideal S1x1280x3072 .fp8e5m2) (v2 : Vec Ideal S1x1x3072 .f32) (o : Fin 1280) (y : Fin 50) (x : Fin 66) :
    k0_pay2 v0 v2 (ix3 o y x) = pixel (fun q => v0 (ix3 0 o q) * v2 (ix3 0 0 q)) y.val x.val := by
  have hy := y.isLt
  have hx := x.isLt
  have z : (((0#32 : BitVec 32).toInt : ℝ) : EReal) = 0 := by simp
  pointwise [k0_pay2]
  simp only [z]
  unfold pixel
  by_cases h : 1 ≤ y.val ∧ y.val ≤ 48 ∧ 1 ≤ x.val ∧ x.val ≤ 64
  · rw [dif_pos h, dif_pos (by omega), dif_neg (by omega), dif_pos (by omega), dif_neg (by omega)]
  · rw [dif_neg h]
    split
    · split
      · rfl
      · split
        · split
          · rfl
          · omega
        · rfl
    · rfl

theorem padded' (v0 : Vec Ideal S1x1280x3072 .fp8e5m2) (v2 : Vec Ideal S1x1x3072 .f32) (o : Fin 1280) (y : Fin 50) (x : Fin 66) :
    k0_pay10 v0 v2 (ix3 o y x) = pixel (fun q => v0 (ix3 0 o q) * v2 (ix3 0 0 q)) y.val x.val :=
  padded v0 v2 o y x

/-- The result's block, at image `b`, channel `i` and pixel `P`. -/
def val (w : Vec Ideal S3x3x1280x1280 .fp8e4m3) (s : Vec Ideal S1280x1 .f32) (g : Vec Ideal S2x1280x3072 .fp8e5m2) (gs : Vec Ideal S2x1x3072 .f32)
    (b : Fin 2) (i : Fin 1280) (P : Fin 3072) : EReal :=
  inputGrad (fun kh kw o i => w (ix4 kh kw o i)) (fun o => s (ix2 o 0)) (fun o q => g (ix3 b o q) * gs (ix3 b 0 q)) i P

theorem out_apply (w : Vec Ideal S3x3x1280x1280 .fp8e4m3) (s : Vec Ideal S1280x1 .f32) (g : Vec Ideal S2x1280x3072 .fp8e5m2) (gs : Vec Ideal S2x1x3072 .f32)
    (y : S2x1280x3072.Idx) :
    out0_4 w s g gs y = val w s g gs (y 0) (y 1) (y 2) := by
  unfold_out out0_4
  refine View.canon_apply_of_pieces (Val := Elt Ideal) (S := S2x1280x3072) (e := .bf16) (fun y => val w s g gs (y 0) (y 1) (y 2)) _ ?_ y (cover0_4 _ _ y)
  intro p hp
  simp only [List.mem_cons, List.mem_nil_iff, or_false] at hp
  rcases hp with rfl | rfl
  · intro x
    idx_vars x
    pointwise [k0_pay1, k0_pay3, k0_pay4, k0_pay5, k0_pay6, k0_pay7, k0_pay8, k0_pay9, k0_pay11, k0_pay12, k0_pay13, k0_pay14, k0_pay15, k0_pay16, k0_pay17]
    simp only [padded, padded']
    have e : val w s g gs (r0_12.emb (ix3 x0 x1 x2) 0) (r0_12.emb (ix3 x0 x1 x2) 1) (r0_12.emb (ix3 x0 x1 x2) 2) = val w s g gs 1 x1 x2 := by
      have h0 : x0.val = 0 := by omega
      congr 1 <;> apply Fin.ext
      · show 1 + 1 * x0.val = 1; omega
      · show 0 + 1 * x1.val = x1.val; omega
      · show 0 + 1 * x2.val = x2.val; omega
    rw [e]
    unfold val inputGrad
    pointwise
  · intro x
    idx_vars x
    pointwise [k0_pay1, k0_pay3, k0_pay4, k0_pay5, k0_pay6, k0_pay7, k0_pay8, k0_pay9, k0_pay11, k0_pay12, k0_pay13, k0_pay14, k0_pay15, k0_pay16, k0_pay17]
    simp only [padded, padded']
    have e : val w s g gs (r0_0.emb (ix3 x0 x1 x2) 0) (r0_0.emb (ix3 x0 x1 x2) 1) (r0_0.emb (ix3 x0 x1 x2) 2) = val w s g gs 0 x1 x2 := by
      have h0 : x0.val = 0 := by omega
      congr 1 <;> apply Fin.ext
      · show 0 + 1 * x0.val = 0; omega
      · show 0 + 1 * x1.val = x1.val; omega
      · show 0 + 1 * x2.val = x2.val; omega
    rw [e]
    unfold val inputGrad
    pointwise

end Cert.Da2RefIdeal.Value

end
-- ==== Proof.Da2RefArray.lean ====
/-
  The reference of the first call, run: its result array holds `Conv.da2` of the four arguments.
-/
module

public import proofs.«01_k».proof.Proof.Gen.Da2RefIdeal.Value
public import proofs.«01_k».proof.Proof.Da2RefBody
public import Idealize.ShloMosaic.Lib.Pipeline.ValueKit

@[expose] public section

set_option maxRecDepth 16384

noncomputable section

namespace Cert.Da2RefIdeal.Value

open Idealize.ShloMosaic Idealize.ShloMosaic.TcCoe Idealize.SL.Sem
open Cert.Da2RefIdeal Cert.Da2RefIdeal.Gen Cert.Conv

variable (m : (ℓ : Loc nD τ sig) → Buf (Elt Ideal) ℓ) (ρ : Dev nD → PrngReg)

/-- The one grid point's blocks are the arrays. -/
theorem idx : ∀ t : Fin cfg0.N, win0_0.index t = ![0, 0, 0, 0] ∧ win0_1.index t = ![0, 0] ∧ win0_2.index t = ![0, 0, 0]
    ∧ win0_3.index t = ![0, 0, 0] ∧ win0_4.index t = ![0, 0, 0] := by
  decide +kernel

theorem block0 (c : Dev nD) (t : Fin cfg0.N) (kh kw : Fin 3) (o i : Fin 1280) :
    iblk m c 0 t (ix4 kh kw o i) = m ((c : Thread nD τ).loc main_arg0) (ix4 o i kh kw) := by
  blk_ext! [iblk, V, idx t]

theorem block1 (c : Dev nD) (t : Fin cfg0.N) (o : Fin 1280) :
    iblk m c 1 t (ix2 o 0) = m ((c : Thread nD τ).loc main_arg1) (ix1 o) := by
  blk_ext! [iblk, V, idx t]

theorem block2 (c : Dev nD) (t : Fin cfg0.N) (b : Fin 2) (o : Fin 1280) (q : Fin 3072) :
    iblk m c 2 t (ix3 b o q) = m ((c : Thread nD τ).loc main_arg2) (ix3 b o q) := by
  blk_ext! [iblk, V, idx t]

theorem block3 (c : Dev nD) (t : Fin cfg0.N) (b : Fin 2) (q : Fin 3072) :
    iblk m c 3 t (ix3 b 0 q) = m ((c : Thread nD τ).loc main_arg3) (ix2 b q) := by
  blk_ext! [iblk, V, idx t]

/-- The block's value in terms of the arguments. -/
theorem val_eq (c : Dev nD) (t : Fin cfg0.N) (b : Fin 2) (i : Fin 1280) (P : Fin 3072) :
    val (iblk m c 0 t) (iblk m c 1 t) (iblk m c 2 t) (iblk m c 3 t) b i P
      = da2 (m ((c : Thread nD τ).loc main_arg0)) (m ((c : Thread nD τ).loc main_arg1)) (m ((c : Thread nD τ).loc main_arg2))
          (m ((c : Thread nD τ).loc main_arg3)) b i P := by
  unfold val da2
  simp only [block0, block1, block2, block3]

/-- The result array after the run. -/
theorem array (c : Dev nD) : (dats m 0 c).arrAt 4 cfg0.N = fun y =>
    da2 (m ((c : Thread nD τ).loc main_arg0)) (m ((c : Thread nD τ).loc main_arg1)) (m ((c : Thread nD τ).loc main_arg2))
      (m ((c : Thread nD τ).loc main_arg3)) (y 0) (y 1) (y 2) := by
  refine (dats m 0 c).arrAt_eq_of_covers 4 _ (by decide +kernel) fun t hf y => ?_
  generalize hG : da2 (m ((c : Thread nD τ).loc main_arg0)) (m ((c : Thread nD τ).loc main_arg1)) (m ((c : Thread nD τ).loc main_arg2))
      (m ((c : Thread nD τ).loc main_arg3)) = G
  have e0 : ((win0_4.blk t).view.emb y 0).val = (y 0).val := by blk_simp [idx t]
  have e1 : ((win0_4.blk t).view.emb y 1).val = (y 1).val := by blk_simp [idx t]
  have e2 : ((win0_4.blk t).view.emb y 2).val = (y 2).val := by blk_simp [idx t]
  have e : G ((win0_4.blk t).view.emb y 0) ((win0_4.blk t).view.emb y 1) ((win0_4.blk t).view.emb y 2) = G (y 0) (y 1) (y 2) := by
    congr 1
    · exact Fin.ext e0
    · exact Fin.ext e1
    · exact Fin.ext e2
  have k : (dats m 0 c).after 4 t y = G (y 0) (y 1) (y 2) := by
    rw [after0_4, out_apply, ← hG]
    exact val_eq m c t (y 0) (y 1) (y 2)
  exact k.trans e.symm

end Cert.Da2RefIdeal.Value

end
-- ==== Proof.Da2.lean ====
/-
  The first call: over the extended reals the kernel and the reference end with equal arrays, both `Conv.da2` of the
  arguments.
-/
module

public import proofs.«01_k».proof.Defs
public import proofs.«01_k».proof.Proof.Da2Array
public import proofs.«01_k».proof.Proof.Da2RefArray
public import Idealize.ShloMosaic.Lib.Bf16Pair

@[expose] public section

noncomputable section

namespace Cert

open Idealize.ShloMosaic Idealize.SL.Sem

/-- The rewrite the idealized kernel rests on: a word of two bfloat16 rows, rotated, is the two rows rotated. -/
theorem preserves_da2 : preserves_Da2_Da2Ideal := IdealRules.bf16_pair.statement _ _

/-- Kernel and reference run, leave the arguments as they were, and end with the same array. -/
theorem algebraic_da2 : algebraic_Da2Ideal_Da2RefIdeal (hDa2Ideal := Da2Ideal.Gen.facts) (hDa2RefIdeal := Da2RefIdeal.Gen.facts) := by
  intro m g m' g' _ hm
  refine ⟨fun c => (Da2Ideal.Gen.dats m 0 c).arrAt 10 Da2Ideal.cfg0.N, Da2Ideal.Value.run_blocks m g, ?_⟩
  refine (θ_run _ _ _).mono (fun r h c => ?_) (Da2RefIdeal.Value.run_blocks m' g')
  obtain ⟨hv, h0, h1, h2, h3⟩ := h c
  obtain ⟨e0, e1, e2, e3⟩ := hm c
  refine ⟨?_, h0, h1, h2, h3⟩
  have e : Conv.da2 (m' (c.tc.loc Da2RefIdeal.main_arg0)) (m' (c.tc.loc Da2RefIdeal.main_arg1)) (m' (c.tc.loc Da2RefIdeal.main_arg2))
        (m' (c.tc.loc Da2RefIdeal.main_arg3))
      = Conv.da2 (m (c.tc.loc Da2Ideal.main_arg0)) (m (c.tc.loc Da2Ideal.main_arg1)) (m (c.tc.loc Da2Ideal.main_arg2))
        (m (c.tc.loc Da2Ideal.main_arg3)) := by rw [e0, e1, e2, e3]
  refine hv.trans ((Da2RefIdeal.Value.array m' c).trans (Eq.trans ?_ (Da2Ideal.Value.array m c).symm))
  funext y
  exact congrFun (congrFun (congrFun e _) _) _

end Cert

end
-- ==== Proof.Dw2Point.lean ====
/-
  What the second call's kernel computes at one grid point: for the tap `n = 3 kh + kw`, the product over the pixels of
  the scaled gradient and the scaled input, moved by the tap, 0 where the tap leaves the image.
-/
module

public import proofs.«01_k».proof.Proof.Gen.Dw2Ideal.Skeleton
public import proofs.«01_k».proof.Proof.Roll
public import proofs.«01_k».proof.Proof.Mask
public import proofs.«01_k».proof.Proof.Conv
public import Idealize.ShloMosaic.Lib.Pointwise

@[expose] public section

set_option maxRecDepth 16384

noncomputable section

namespace Cert.Dw2Ideal.Value

open Idealize.ShloMosaic Idealize.SL.Sem
open Cert.Dw2Ideal Cert.Dw2Ideal.Gen Cert.Conv

/-- The tap's row `n / 3 - 1`, as the kernel computes it (a division rounding down). -/
def rowOf (n : BitVec 32) : BitVec 32 :=
  Scalar.subi
    (Scalar.select
      (Scalar.andi
        (Scalar.cmpi CmpIPredicate.ne
          (Scalar.subi (Scalar.extui (Scalar.cmpi CmpIPredicate.sgt n 0#32)) (Scalar.extui (Scalar.cmpi CmpIPredicate.slt n 0#32)))
          (Scalar.subi (Scalar.extui (Scalar.cmpi CmpIPredicate.sgt 3#32 0#32)) (Scalar.extui (Scalar.cmpi CmpIPredicate.slt 3#32 0#32))))
        (Scalar.cmpi CmpIPredicate.ne (Scalar.remsi n 3#32) 0#32))
      (Scalar.subi (Scalar.divsi n 3#32) 1#32)
      (Scalar.divsi n 3#32))
    1#32

/-- The tap's column `n % 3 - 1`, as the kernel computes it (a remainder with the divisor's sign). -/
def colOf (n : BitVec 32) : BitVec 32 :=
  Scalar.subi
    (Scalar.select
      (Scalar.andi (Scalar.xori (Scalar.cmpi CmpIPredicate.slt (Scalar.remsi n 3#32) 0#32) 0#1)
        (Scalar.cmpi CmpIPredicate.ne (Scalar.remsi n 3#32) 0#32))
      (Scalar.addi (Scalar.remsi n 3#32) 3#32)
      (Scalar.remsi n 3#32))
    1#32

theorem rowOf_eq : ∀ n : Fin 9, rowOf (BitVec.ofNat 32 n.val) = BitVec.ofNat 32 (n.val / 3) - 1#32 := by decide +kernel
theorem colOf_eq : ∀ n : Fin 9, colOf (BitVec.ofNat 32 n.val) = BitVec.ofNat 32 (n.val % 3) - 1#32 := by decide +kernel

/-- The moved column is inside the image. -/
theorem col_ge : ∀ (d : Fin 3) (x : Fin 64),
    IntOp.cmpi CmpIPredicate.sge (IntOp.addi (BitVec.ofNat 32 x.val) (BitVec.ofNat 32 d.val - 1#32)) 0#32
      = if 1 ≤ d.val + x.val then 1#1 else 0#1 := by decide +kernel
theorem col_lt : ∀ (d : Fin 3) (x : Fin 64),
    IntOp.cmpi CmpIPredicate.slt (IntOp.addi (BitVec.ofNat 32 x.val) (BitVec.ofNat 32 d.val - 1#32)) 64#32
      = if d.val + x.val ≤ 64 then 1#1 else 0#1 := by decide +kernel

/-- The moved row is inside the image. -/
theorem row_ge : ∀ (d : Fin 3) (P : Fin 3072),
    IntOp.cmpi CmpIPredicate.sge (IntOp.addi (BitVec.ofNat 32 P.val) (Scalar.muli (BitVec.ofNat 32 d.val - 1#32) 64#32)) 0#32
      = if 1 ≤ d.val + P.val / 64 then 1#1 else 0#1 := by decide +kernel
theorem row_lt : ∀ (d : Fin 3) (P : Fin 3072),
    IntOp.cmpi CmpIPredicate.slt (IntOp.addi (BitVec.ofNat 32 P.val) (Scalar.muli (BitVec.ofNat 32 d.val - 1#32) 64#32)) 3072#32
      = if d.val + P.val / 64 ≤ 48 then 1#1 else 0#1 := by decide +kernel

theorem and_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_if {α : Type} (p : Prop) [Decidable p] (a b : α) : Scalar.select (if p then 1#1 else 0#1) a b = if p then a else b := by
  by_cases hp : p <;> simp [hp, Scalar.select]

/-- The rotated input: the pixel the tap moves by, cyclically. -/
theorem moved (n : Fin 9) (A : FVec Ideal S256x3072 .bf16) (i : Fin 256) (P : Fin 3072) :
    k0_pay5 (F := Ideal) (BitVec.ofNat 32 n.val) A (Scalar.muli (rowOf (BitVec.ofNat 32 n.val)) 64#32) 3#32 (ix2 i P)
      = A (ix2 i ⟨(P.val + 3007 + 64 * (n.val / 3) + n.val % 3) % 3072, Nat.mod_lt _ (by decide)⟩) := by
  have hn := n.isLt
  unfold k0_pay5
  dsimp only
  rw [Roll.rot3072]
  refine congrArg (fun q => A (ix2 i q)) (Fin.ext ?_)
  refine (congrArg (fun z => (P.val + 3072 - z) % 3072) (?_ : _ = (3137 - 64 * (n.val / 3) - n.val % 3) % 3072)).trans ?_
  · revert n; decide +kernel
  · show (P.val + 3072 - (3137 - 64 * (n.val / 3) - n.val % 3) % 3072) % 3072 = (P.val + 3007 + 64 * (n.val / 3) + n.val % 3) % 3072
    omega

/-- The product at one grid point, of the image's scaled gradient `G` and scaled input `A`. -/
theorem product (n : Fin 9) (G : FVec Ideal S1280x3072 .bf16) (A : FVec Ideal S256x3072 .bf16) (v66 v72 : BitVec 32) (v71 : BitVec 1)
    (hc : Scalar.subi (Scalar.select v71 v72 v66) 1#32 = colOf (BitVec.ofNat 32 n.val))
    (o : Fin 1280) (i : Fin 256) :
    k0_pay7 (F := Ideal) (BitVec.ofNat 32 n.val) G
        (k0_pay5 (F := Ideal) (BitVec.ofNat 32 n.val) A (Scalar.muli (rowOf (BitVec.ofNat 32 n.val)) 64#32) 3#32)
        (iota Kind.tc S1x3072 32 [1] iota_S1x3072_d1_w32) k0_pay6 v66 v71 v72 (ix2 o i)
      = ∑ P : Fin 3072, G (ix2 o P) * pixel (fun q => A (ix2 i q)) (n.val / 3 + P.val / 64) (n.val % 3 + P.val % 64) := by
  have hm := moved n A i
  generalize k0_pay5 (F := Ideal) (BitVec.ofNat 32 n.val) A (Scalar.muli (rowOf (BitVec.ofNat 32 n.val)) 64#32) 3#32 = M at hm ⊢
  pointwise [k0_pay7, k0_pay6]
  refine Finset.sum_congr rfl fun P _ => ?_
  have hn := n.isLt
  have hP := P.isLt
  have hrow := rowOf_eq n
  unfold rowOf at hrow
  rw [hc, colOf_eq, hrow, Cert.Mask.and63 P.val (by omega)]
  rw [col_ge ⟨n.val % 3, by omega⟩ ⟨P.val % 64, by omega⟩, col_lt ⟨n.val % 3, by omega⟩ ⟨P.val % 64, by omega⟩,
    row_ge ⟨n.val / 3, by omega⟩ P, row_lt ⟨n.val / 3, by omega⟩ P, and_if, and_if, and_if, select_if, hm]
  unfold pixel
  dsimp only
  by_cases h : 1 ≤ n.val / 3 + P.val / 64 ∧ n.val / 3 + P.val / 64 ≤ 48 ∧ 1 ≤ n.val % 3 + P.val % 64 ∧ n.val % 3 + P.val % 64 ≤ 64
  · rw [dif_pos h, if_pos (by omega)]
    refine congrArg (fun q => G (ix2 o P) * A (ix2 i q)) (Fin.ext ?_)
    show (P.val + 3007 + 64 * (n.val / 3) + n.val % 3) % 3072 = (n.val / 3 + P.val / 64 - 1) * 64 + (n.val % 3 + P.val % 64 - 1)
    omega
  · rw [dif_neg h, if_neg (by omega), mul_zero]

end Cert.Dw2Ideal.Value

end
-- ==== Proof.Dw2Array.lean ====
/-
  The second call's kernel, run: its result array holds `Conv.dw2` of the four arguments.
-/
module

public import proofs.«01_k».proof.Proof.Gen.Dw2Ideal.Value
public import proofs.«01_k».proof.Proof.Dw2Point
public import Idealize.ShloMosaic.Lib.Pipeline.ValueKit

@[expose] public section

set_option maxRecDepth 16384

noncomputable section

namespace Cert.Dw2Ideal.Value

open Idealize.ShloMosaic Idealize.ShloMosaic.TcCoe Idealize.SL.Sem
open Cert.Dw2Ideal Cert.Dw2Ideal.Gen Cert.Conv

variable (m : (ℓ : Loc nD τ sig) → Buf (Elt Ideal) ℓ) (ρ : Dev nD → PrngReg)

/-- The blocks of grid point `t`: tap `t / 10`, block of 256 input channels `t / 2 % 5`, image `t % 2`. -/
theorem idx : ∀ t : Fin cfg0.N,
    win0_0.index t = ![t.val % 2, 0, 0] ∧ win0_1.index t = ![t.val % 2, 0, 0] ∧ win0_2.index t = ![t.val % 2, t.val / 2 % 5, 0]
    ∧ win0_3.index t = ![t.val % 2, 0, 0] ∧ win0_4.index t = ![t.val / 10, 0, t.val / 2 % 5] := by
  decide +kernel

theorem coord : ∀ t : Fin cfg0.N, (grid0.coords t 0).val = t.val / 10 := by decide +kernel

theorem block0 (c : Dev nD) (t : Fin cfg0.N) (b : Fin 2) (hb : b.val = t.val % 2) (o : Fin 1280) (q : Fin 3072) :
    iblk m c 0 t (ix3 0 o q) = m ((c : Thread nD τ).loc main_arg0) (ix3 b o q) := by
  blk_ext! [iblk, V, idx t]

theorem block1 (c : Dev nD) (t : Fin cfg0.N) (b : Fin 2) (hb : b.val = t.val % 2) (q : Fin 3072) :
    iblk m c 1 t (ix3 0 0 q) = m ((c : Thread nD τ).loc main_arg1) (ix2 b q) := by
  blk_ext! [iblk, V, idx t]

theorem block2 (c : Dev nD) (t : Fin cfg0.N) (b : Fin 2) (hb : b.val = t.val % 2) (i : Fin 256) (I : Fin 1280)
    (hI : I.val = 256 * (t.val / 2 % 5) + i.val) (q : Fin 3072) :
    iblk m c 2 t (ix3 0 i q) = m ((c : Thread nD τ).loc main_arg2) (ix3 b I q) := by
  blk_ext! [iblk, V, idx t]

theorem block3 (c : Dev nD) (t : Fin cfg0.N) (b : Fin 2) (hb : b.val = t.val % 2) (q : Fin 3072) :
    iblk m c 3 t (ix3 0 0 q) = m ((c : Thread nD τ).loc main_arg3) (ix2 b q) := by
  blk_ext! [iblk, V, idx t]

/-- The product of one image at tap `k`, channels `o` and `I`, of the arguments. -/
def term (g : (⟨3, ![2, 1280, 3072]⟩ : Shape).Idx → EReal) (gs : (⟨2, ![2, 3072]⟩ : Shape).Idx → EReal)
    (a : (⟨3, ![2, 1280, 3072]⟩ : Shape).Idx → EReal) (sa : (⟨2, ![2, 3072]⟩ : Shape).Idx → EReal)
    (k : Fin 9) (o I : Fin 1280) (b : Fin 2) : EReal :=
  ∑ P : Fin 3072, g (ix3 b o P) * gs (ix2 b P) * pixel (fun q => a (ix3 b I q) * sa (ix2 b q)) (k.val / 3 + P.val / 64) (k.val % 3 + P.val % 64)

theorem term_add (g : (⟨3, ![2, 1280, 3072]⟩ : Shape).Idx → EReal) (gs : (⟨2, ![2, 3072]⟩ : Shape).Idx → EReal)
    (a : (⟨3, ![2, 1280, 3072]⟩ : Shape).Idx → EReal) (sa : (⟨2, ![2, 3072]⟩ : Shape).Idx → EReal) (k : Fin 9) (o I : Fin 1280) :
    term g gs a sa k o I 0 + term g gs a sa k o I 1 = dw2 g gs a sa k o I := rfl

/-- The scaled gradient and the scaled input at an index. -/
theorem scaled_g (x : Vec Ideal S1x1280x3072 .fp8e5m2) (s : Vec Ideal S1x1x3072 .f32) (o : Fin 1280) (q : Fin 3072) :
    k0_pay3 (F := Ideal) x s (ix2 o q) = x (ix3 0 o q) * s (ix3 0 0 q) := by pointwise [k0_pay3]
theorem scaled_a (x : Vec Ideal S1x256x3072 .fp8e4m3) (s : Vec Ideal S1x1x3072 .f32) (i : Fin 256) (q : Fin 3072) :
    k0_pay4 (F := Ideal) x s (ix2 i q) = x (ix3 0 i q) * s (ix3 0 0 q) := by pointwise [k0_pay4]

/-- What is stored at the first image, and added at the second. -/
theorem stored (v : Vec Ideal S1280x256 .f32) (o : Fin 1280) (i : Fin 256) : k0_pay1 (F := Ideal) v (ix3 0 o i) = v (ix2 o i) := by
  pointwise [k0_pay1]
theorem added (v : Vec Ideal S1280x256 .f32) (u : Vec Ideal S1x1280x256 .f32) (o : Fin 1280) (i : Fin 256) :
    k0_pay2 (F := Ideal) v u (ix3 0 o i) = u (ix3 0 o i) + v (ix2 o i) := by
  pointwise [k0_pay2]

theorem product_blocks (c : Dev nD) (t : Fin cfg0.N) (v66 v72 : BitVec 32) (v71 : BitVec 1) (n : Fin 9) (hn : n.val = t.val / 10)
    (hc : Scalar.subi (Scalar.select v71 v72 v66) 1#32 = colOf (BitVec.ofNat 32 n.val))
    (o : Fin 1280) (i : Fin 256) (b : Fin 2) (hb : b.val = t.val % 2) (I : Fin 1280) (hI : I.val = 256 * (t.val / 2 % 5) + i.val) :
    k0_pay7 (F := Ideal) (BitVec.ofNat 32 n.val) (k0_pay3 (iblk m c 0 t) (iblk m c 1 t))
        (k0_pay5 (F := Ideal) (BitVec.ofNat 32 n.val) (k0_pay4 (iblk m c 2 t) (iblk m c 3 t)) (Scalar.muli (rowOf (BitVec.ofNat 32 n.val)) 64#32) 3#32)
        (iota Kind.tc S1x3072 32 [1] iota_S1x3072_d1_w32) k0_pay6 v66 v71 v72 (ix2 o i)
      = term (m ((c : Thread nD τ).loc main_arg0)) (m ((c : Thread nD τ).loc main_arg1)) (m ((c : Thread nD τ).loc main_arg2))
          (m ((c : Thread nD τ).loc main_arg3)) n o I b := by
  rw [product n _ _ v66 v72 v71 hc]
  unfold term
  simp only [scaled_g, scaled_a, block0 m c t b hb, block1 m c t b hb, block2 m c t b hb i I hI, block3 m c t b hb]

/-- After the first image's point the output block holds its product. -/
theorem first (c : Dev nD) (t : Fin cfg0.N) (h0 : t.val % 2 = 0) (n : Fin 9) (hn : n.val = t.val / 10)
    (o : Fin 1280) (i : Fin 256) (I : Fin 1280) (hI : I.val = 256 * (t.val / 2 % 5) + i.val) :
    outsAt0 m c t.val t.isLt (ix3 0 o i)
      = term (m ((c : Thread nD τ).loc main_arg0)) (m ((c : Thread nD τ).loc main_arg1)) (m ((c : Thread nD τ).loc main_arg2))
          (m ((c : Thread nD τ).loc main_arg3)) n o I 0 := by
  rw [outsAt0_A m c t h0 (by omega)]
  frame_out
  rw [stored, coord t, ← hn]
  exact product_blocks m c t _ _ _ n hn rfl o i 0 h0.symm I hI

/-- After the second image's point it holds the sum of both. -/
theorem second (c : Dev nD) (t : Fin cfg0.N) (h1 : t.val % 2 = 1) (n : Fin 9) (hn : n.val = t.val / 10)
    (o : Fin 1280) (i : Fin 256) (I : Fin 1280) (hI : I.val = 256 * (t.val / 2 % 5) + i.val) :
    outsAt0 m c t.val t.isLt (ix3 0 o i)
      = dw2 (m ((c : Thread nD τ).loc main_arg0)) (m ((c : Thread nD τ).loc main_arg1)) (m ((c : Thread nD τ).loc main_arg2))
          (m ((c : Thread nD τ).loc main_arg3)) n o I := by
  rw [outsAt0_B m c t (by omega) h1]
  frame_out
  rw [added, coord t, ← hn, ← term_add]
  refine congrArg₂ _ ?_ (product_blocks m c t _ _ _ n hn rfl o i 1 h1.symm I hI)
  exact first m c ⟨t.val - 1, Nat.lt_of_le_of_lt (Nat.sub_le _ _) t.isLt⟩ (by show (t.val - 1) % 2 = 0; omega) n
    (by show n.val = (t.val - 1) / 10; omega) o i I (by show I.val = 256 * ((t.val - 1) / 2 % 5) + i.val; omega)

/-- The result array after the run. -/
theorem array (c : Dev nD) : (dats m 0 c).arrAt 4 cfg0.N = fun y =>
    dw2 (m ((c : Thread nD τ).loc main_arg0)) (m ((c : Thread nD τ).loc main_arg1)) (m ((c : Thread nD τ).loc main_arg2))
      (m ((c : Thread nD τ).loc main_arg3)) (y 0) (y 1) (y 2) := by
  refine (dats m 0 c).arrAt_eq_of_covers 4 _ (by decide +kernel) fun t hf y => ?_
  have fl : ∀ t : Fin cfg0.N, (cfg0.win 4).flush t = true → t.val % 2 = 1 := by decide +kernel
  have h := fun n hn o i I hI => second m c t (fl t hf) n hn o i I hI
  generalize dw2 (m ((c : Thread nD τ).loc main_arg0)) (m ((c : Thread nD τ).loc main_arg1)) (m ((c : Thread nD τ).loc main_arg2))
      (m ((c : Thread nD τ).loc main_arg3)) = G at h ⊢
  have y0 : (y 0).val = 0 := Nat.lt_one_iff.mp (y 0).isLt
  have e0 : ((win0_4.blk t).view.emb y 0).val = t.val / 10 + (y 0).val := by blk_simp [idx t]
  have e1 : ((win0_4.blk t).view.emb y 1).val = (y 1).val := by blk_simp [idx t]
  have e2 : ((win0_4.blk t).view.emb y 2).val = t.val / 2 % 5 * 256 + (y 2).val := by blk_simp [idx t]
  have hy : y = ix3 0 (y 1) (y 2) := by
    funext a; fin_cases a
    · exact Fin.ext y0
    · rfl
    · rfl
  have e : G ((win0_4.blk t).view.emb y 0) ((win0_4.blk t).view.emb y 1) ((win0_4.blk t).view.emb y 2)
      = G ((win0_4.blk t).view.emb y 0) (y 1) ((win0_4.blk t).view.emb y 2) := by
    congr 1
    exact Fin.ext e1
  have k0 : outsAt0 m c t.val t.isLt (ix3 0 (y 1) (y 2))
      = G ((win0_4.blk t).view.emb y 0) (y 1) ((win0_4.blk t).view.emb y 2) :=
    h ((win0_4.blk t).view.emb y 0) (by rw [e0, y0, Nat.add_zero]) (y 1) (y 2) ((win0_4.blk t).view.emb y 2) (by rw [e2, Nat.mul_comm])
  have k : (dats m 0 c).after 4 t y = G ((win0_4.blk t).view.emb y 0) (y 1) ((win0_4.blk t).view.emb y 2) := by
    rw [after0_4]
    exact (congrArg (outsAt0 m c t.val t.isLt) hy).trans k0
  exact k.trans e.symm

end Cert.Dw2Ideal.Value

end
-- ==== Proof.Dw2RefBody.lean ====
/-
  What the reference's one block computes from its four arguments: at every tap the gradient of the convolution with
  respect to its weights, as the plain sum `Conv.weightGrad`.
-/
module

public import proofs.«01_k».proof.Proof.Gen.Dw2RefIdeal.Frame
public import proofs.«01_k».proof.Proof.Conv
public import Idealize.ShloMosaic.Lib.Pointwise
public import Idealize.ShloMosaic.Lib.Pipeline.Value
public import Idealize.ShloMosaic.Lib.Pipeline.ValueKit
public import Idealize.ShloMosaic.Lib.Tactic

@[expose] public section

set_option maxRecDepth 16384

noncomputable section

namespace Cert.Dw2RefIdeal.Value

open Idealize.ShloMosaic Idealize.SL.Sem
open Cert.Dw2RefIdeal Cert.Dw2RefIdeal.Gen Cert.Conv

/-- The result's block at tap `t`, channels `o` and `i`. -/
def val (g : Vec Ideal S2x1280x3072 .fp8e5m2) (gs : Vec Ideal S2x1x3072 .f32) (a : Vec Ideal S2x1280x3072 .fp8e4m3) (sa : Vec Ideal S2x1x3072 .f32)
    (t : Fin 9) (o i : Fin 1280) : EReal :=
  weightGrad (fun b o q => g (ix3 b o q) * gs (ix3 b 0 q)) (fun b i q => a (ix3 b i q) * sa (ix3 b 0 q)) (t.val / 3) (t.val % 3) o i

theorem zero0 : (((0#32 : BitVec 32).toInt : ℝ) : EReal) = 0 := by simp

/-- The padded image, as the concatenations read: the border's last column, its first, its last row, its first. -/
theorem bordered (f : Fin 3072 → EReal) (y x : ℕ) (hy : y < 50) (hx : x < 66) :
    (if _ : x < 65 then
        if h1 : x < 1 then 0
        else if h2 : y < 49 then if h3 : y < 1 then 0 else f ⟨(y - 1) * 64 + (x - 1), by omega⟩ else 0
      else 0) = pixel f y x := by
  unfold pixel
  by_cases h : 1 ≤ y ∧ y ≤ 48 ∧ 1 ≤ x ∧ x ≤ 64
  · rw [dif_pos h, dif_pos (by omega), dif_neg (by omega), dif_pos (by omega), dif_neg (by omega)]
  · rw [dif_neg h]
    split
    · split
      · rfl
      · split
        · split
          · rfl
          · omega
        · rfl
    · rfl

/-- The same in the tap's middle row. -/
theorem bordered_row (f : Fin 3072 → EReal) (r x : ℕ) (hr : r < 48) (hx : x < 66) :
    (if _ : x < 65 then
        if h1 : x < 1 then 0
        else if h2 : 1 + r < 49 then f ⟨r * 64 + (x - 1), by omega⟩ else 0
      else 0) = pixel f (1 + r) x := by
  rw [← bordered f (1 + r) x (by omega) hx]
  split
  · split
    · rfl
    · rw [dif_pos (by omega), dif_pos (by omega), dif_neg (by omega)]
      exact congrArg f (Fin.ext (by show r * 64 + (x - 1) = (1 + r - 1) * 64 + (x - 1); omega))
  · rfl

/-- The same in the tap's middle column. -/
theorem bordered_col (f : Fin 3072 → EReal) (y c : ℕ) (hy : y < 50) (hc : c < 64) :
    (if _ : 1 + c < 65 then
        if h2 : y < 49 then if h3 : y < 1 then 0 else f ⟨(y - 1) * 64 + c, by omega⟩ else 0
      else 0) = pixel f y (1 + c) := by
  rw [← bordered f y (1 + c) hy (by omega), dif_pos (by omega : 1 + c < 65), dif_pos (by omega : 1 + c < 65), dif_neg (by omega : ¬ 1 + c < 1)]
  split
  · split
    · rfl
    · exact congrArg f (Fin.ext (by show (y - 1) * 64 + c = (y - 1) * 64 + (1 + c - 1); omega))
  · rfl

/-- The same at the tap's middle. -/
theorem bordered_mid (f : Fin 3072 → EReal) (P : Fin 3072) :
    (if _ : 1 + P.val % 64 < 65 then if _ : 1 + P.val / 64 < 49 then f P else 0 else 0)
      = pixel f (1 + P.val / 64) (1 + P.val % 64) := by
  have hP := P.isLt
  rw [← bordered f (1 + P.val / 64) (1 + P.val % 64) (by omega) (by omega), dif_pos (by omega), dif_pos (by omega), dif_pos (by omega),
    dif_neg (by omega), dif_pos (by omega), dif_neg (by omega)]
  exact congrArg f (Fin.ext (by show P.val = (1 + P.val / 64 - 1) * 64 + (1 + P.val % 64 - 1); omega))

theorem tap0 (g : Vec Ideal S2x1280x3072 .fp8e5m2) (gs : Vec Ideal S2x1x3072 .f32) (a : Vec Ideal S2x1280x3072 .fp8e4m3)
    (sa : Vec Ideal S2x1x3072 .f32) (o i : Fin 1280) :
    k0_pay4 (k0_pay2 (View.ld g r0_0) (View.ld gs r0_1) (View.ld a r0_0) (View.ld sa r0_1)) (k0_pay3 (View.ld g r0_2) (View.ld gs r0_3)) (View.ld a r0_2) (View.ld sa r0_3) (ix3 0 o i)
      = val g gs a sa 0 o i := by
  unfold val weightGrad
  dsimp only
  pointwise [k0_pay4, k0_pay2, k0_pay3]
  simp only [zero0]
  refine congrArg₂ _ ?_ ?_
  · exact Finset.sum_congr rfl fun P _ => congrArg _ (by refine bordered (fun q => a (ix3 0 i q) * sa (ix3 0 0 q)) _ _ ?_ ?_ <;> omega)
  · exact Finset.sum_congr rfl fun P _ => congrArg _ (by refine bordered (fun q => a (ix3 1 i q) * sa (ix3 1 0 q)) _ _ ?_ ?_ <;> omega)

theorem tap1 (g : Vec Ideal S2x1280x3072 .fp8e5m2) (gs : Vec Ideal S2x1x3072 .f32) (a : Vec Ideal S2x1280x3072 .fp8e4m3)
    (sa : Vec Ideal S2x1x3072 .f32) (o i : Fin 1280) :
    k0_pay12 (k0_pay8 (k0_pay5 (F := Ideal)) (k0_pay6 (View.ld g r0_0) (View.ld gs r0_1)) (k0_pay7 (View.ld a r0_0)) (View.ld sa r0_1)) (k0_pay9 (View.ld g r0_2) (View.ld gs r0_3)) (k0_pay10 (F := Ideal)) (k0_pay11 (View.ld a r0_2) (View.ld sa r0_3)) (ix3 0 o i)
      = val g gs a sa 1 o i := by
  unfold val weightGrad
  dsimp only
  pointwise [k0_pay12, k0_pay8, k0_pay5, k0_pay6, k0_pay7, k0_pay9, k0_pay10, k0_pay11]
  simp only [zero0]
  refine congrArg₂ _ ?_ ?_
  · exact Finset.sum_congr rfl fun P _ => congrArg _ (by refine bordered_col (fun q => a (ix3 0 i q) * sa (ix3 0 0 q)) _ _ ?_ ?_ <;> omega)
  · exact Finset.sum_congr rfl fun P _ => congrArg _ (by refine bordered_col (fun q => a (ix3 1 i q) * sa (ix3 1 0 q)) _ _ ?_ ?_ <;> omega)

theorem tap2 (g : Vec Ideal S2x1280x3072 .fp8e5m2) (gs : Vec Ideal S2x1x3072 .f32) (a : Vec Ideal S2x1280x3072 .fp8e4m3)
    (sa : Vec Ideal S2x1x3072 .f32) (o i : Fin 1280) :
    k0_pay14 (k0_pay13 (View.ld g r0_0) (View.ld gs r0_1) (View.ld a r0_0) (View.ld sa r0_1)) (View.ld g r0_2) (View.ld gs r0_3) (View.ld a r0_2) (View.ld sa r0_3) (ix3 0 o i)
      = val g gs a sa 2 o i := by
  unfold val weightGrad
  dsimp only
  pointwise [k0_pay14, k0_pay13]
  simp only [zero0]
  refine congrArg₂ _ ?_ ?_
  · exact Finset.sum_congr rfl fun P _ => congrArg _ (by refine bordered (fun q => a (ix3 0 i q) * sa (ix3 0 0 q)) _ _ ?_ ?_ <;> omega)
  · exact Finset.sum_congr rfl fun P _ => congrArg _ (by refine bordered (fun q => a (ix3 1 i q) * sa (ix3 1 0 q)) _ _ ?_ ?_ <;> omega)

theorem tap3 (g : Vec Ideal S2x1280x3072 .fp8e5m2) (gs : Vec Ideal S2x1x3072 .f32) (a : Vec Ideal S2x1280x3072 .fp8e4m3)
    (sa : Vec Ideal S2x1x3072 .f32) (o i : Fin 1280) :
    k0_pay20 (k0_pay17 (k0_pay15 (F := Ideal)) (k0_pay16 (View.ld g r0_0)) (View.ld gs r0_1) (View.ld a r0_0) (View.ld sa r0_1)) (k0_pay18 (View.ld g r0_2) (View.ld gs r0_3)) (k0_pay19 (View.ld a r0_2)) (View.ld sa r0_3) (ix3 0 o i)
      = val g gs a sa 3 o i := by
  unfold val weightGrad
  dsimp only
  pointwise [k0_pay20, k0_pay17, k0_pay15, k0_pay16, k0_pay18, k0_pay19]
  simp only [zero0]
  refine congrArg₂ _ ?_ ?_
  · exact Finset.sum_congr rfl fun P _ => congrArg _ (by refine bordered_row (fun q => a (ix3 0 i q) * sa (ix3 0 0 q)) _ _ ?_ ?_ <;> omega)
  · exact Finset.sum_congr rfl fun P _ => congrArg _ (by refine bordered_row (fun q => a (ix3 1 i q) * sa (ix3 1 0 q)) _ _ ?_ ?_ <;> omega)

theorem tap4 (g : Vec Ideal S2x1280x3072 .fp8e5m2) (gs : Vec Ideal S2x1x3072 .f32) (a : Vec Ideal S2x1280x3072 .fp8e4m3)
    (sa : Vec Ideal S2x1x3072 .f32) (o i : Fin 1280) :
    k0_pay25 (k0_pay24 (k0_pay21 (F := Ideal)) (k0_pay22 (View.ld g r0_0) (View.ld gs r0_1)) (k0_pay23 (View.ld a r0_0) (View.ld sa r0_1)) 0#32 (View.ld g r0_2) (View.ld gs r0_3) (View.ld a r0_2) (View.ld sa r0_3)) (ix3 0 o i)
      = val g gs a sa 4 o i := by
  unfold val weightGrad
  dsimp only
  pointwise [k0_pay25, k0_pay24, k0_pay21, k0_pay22, k0_pay23]
  simp only [zero0]
  refine congrArg₂ _ ?_ ?_
  · exact Finset.sum_congr rfl fun P _ => congrArg _ (bordered_mid (fun q => a (ix3 0 i q) * sa (ix3 0 0 q)) P)
  · exact Finset.sum_congr rfl fun P _ => congrArg _ (bordered_mid (fun q => a (ix3 1 i q) * sa (ix3 1 0 q)) P)

theorem tap5 (g : Vec Ideal S2x1280x3072 .fp8e5m2) (gs : Vec Ideal S2x1x3072 .f32) (a : Vec Ideal S2x1280x3072 .fp8e4m3)
    (sa : Vec Ideal S2x1x3072 .f32) (o i : Fin 1280) :
    k0_pay28 (k0_pay26 (View.ld g r0_0) (View.ld gs r0_1) (View.ld a r0_0) (View.ld sa r0_1)) (k0_pay27 (View.ld g r0_2)) (View.ld gs r0_3) (View.ld a r0_2) (View.ld sa r0_3) (ix3 0 o i)
      = val g gs a sa 5 o i := by
  unfold val weightGrad
  dsimp only
  pointwise [k0_pay28, k0_pay26, k0_pay27]
  simp only [zero0]
  refine congrArg₂ _ ?_ ?_
  · exact Finset.sum_congr rfl fun P _ => congrArg _ (by refine bordered_row (fun q => a (ix3 0 i q) * sa (ix3 0 0 q)) _ _ ?_ ?_ <;> omega)
  · exact Finset.sum_congr rfl fun P _ => congrArg _ (by refine bordered_row (fun q => a (ix3 1 i q) * sa (ix3 1 0 q)) _ _ ?_ ?_ <;> omega)

theorem tap6 (g : Vec Ideal S2x1280x3072 .fp8e5m2) (gs : Vec Ideal S2x1x3072 .f32) (a : Vec Ideal S2x1280x3072 .fp8e4m3)
    (sa : Vec Ideal S2x1x3072 .f32) (o i : Fin 1280) :
    k0_pay36 (k0_pay31 (k0_pay29 (F := Ideal)) (k0_pay30 (View.ld g r0_0) (View.ld gs r0_1)) (View.ld a r0_0) (View.ld sa r0_1)) (k0_pay32 (View.ld g r0_2) (View.ld gs r0_3)) (k0_pay33 (View.ld a r0_2) (View.ld sa r0_3)) (k0_pay34 (F := Ideal)) (k0_pay35 (F := Ideal)) (ix3 0 o i)
      = val g gs a sa 6 o i := by
  unfold val weightGrad
  dsimp only
  pointwise [k0_pay36, k0_pay31, k0_pay29, k0_pay30, k0_pay32, k0_pay33, k0_pay34, k0_pay35]
  simp only [zero0]
  refine congrArg₂ _ ?_ ?_
  · exact Finset.sum_congr rfl fun P _ => congrArg _ (by refine bordered (fun q => a (ix3 0 i q) * sa (ix3 0 0 q)) _ _ ?_ ?_ <;> omega)
  · exact Finset.sum_congr rfl fun P _ => congrArg _ (by refine bordered (fun q => a (ix3 1 i q) * sa (ix3 1 0 q)) _ _ ?_ ?_ <;> omega)

theorem tap7 (g : Vec Ideal S2x1280x3072 .fp8e5m2) (gs : Vec Ideal S2x1x3072 .f32) (a : Vec Ideal S2x1280x3072 .fp8e4m3)
    (sa : Vec Ideal S2x1x3072 .f32) (o i : Fin 1280) :
    k0_pay40 (k0_pay37 (F := Ideal)) (k0_pay38 (View.ld g r0_0) (View.ld gs r0_1)) (k0_pay39 (View.ld a r0_0) (View.ld sa r0_1)) (View.ld g r0_2) (View.ld gs r0_3) (View.ld a r0_2) (View.ld sa r0_3) (ix3 0 o i)
      = val g gs a sa 7 o i := by
  unfold val weightGrad
  dsimp only
  pointwise [k0_pay40, k0_pay37, k0_pay38, k0_pay39]
  simp only [zero0]
  refine congrArg₂ _ ?_ ?_
  · exact Finset.sum_congr rfl fun P _ => congrArg _ (by refine bordered_col (fun q => a (ix3 0 i q) * sa (ix3 0 0 q)) _ _ ?_ ?_ <;> omega)
  · exact Finset.sum_congr rfl fun P _ => congrArg _ (by refine bordered_col (fun q => a (ix3 1 i q) * sa (ix3 1 0 q)) _ _ ?_ ?_ <;> omega)

theorem tap8 (g : Vec Ideal S2x1280x3072 .fp8e5m2) (gs : Vec Ideal S2x1x3072 .f32) (a : Vec Ideal S2x1280x3072 .fp8e4m3)
    (sa : Vec Ideal S2x1x3072 .f32) (o i : Fin 1280) :
    k0_pay1 (k0_pay42 (k0_pay41 (F := Ideal)) (View.ld g r0_0) (View.ld gs r0_1) (View.ld a r0_0) (View.ld sa r0_1)) (k0_pay43 (View.ld g r0_2) (View.ld gs r0_3)) (View.ld a r0_2) (View.ld sa r0_3) (ix3 0 o i)
      = val g gs a sa 8 o i := by
  unfold val weightGrad
  dsimp only
  pointwise [k0_pay1, k0_pay42, k0_pay41, k0_pay43]
  simp only [zero0]
  refine congrArg₂ _ ?_ ?_
  · exact Finset.sum_congr rfl fun P _ => congrArg _ (by refine bordered (fun q => a (ix3 0 i q) * sa (ix3 0 0 q)) _ _ ?_ ?_ <;> omega)
  · exact Finset.sum_congr rfl fun P _ => congrArg _ (by refine bordered (fun q => a (ix3 1 i q) * sa (ix3 1 0 q)) _ _ ?_ ?_ <;> omega)

theorem out_apply (g : Vec Ideal S2x1280x3072 .fp8e5m2) (gs : Vec Ideal S2x1x3072 .f32) (a : Vec Ideal S2x1280x3072 .fp8e4m3)
    (sa : Vec Ideal S2x1x3072 .f32) (y : S9x1280x1280.Idx) :
    out0_4 g gs a sa y = val g gs a sa (y 0) (y 1) (y 2) := by
  unfold out0_4
  refine View.canon_apply_of_pieces (Val := Elt Ideal) (S := S9x1280x1280) (e := .f32) (fun y => val g gs a sa (y 0) (y 1) (y 2)) _ ?_ y
    (cover0_4 _ _ _ _ _ _ _ _ _ y)
  generalize hV : val g gs a sa = V
  intro p hp
  simp only [List.mem_cons, List.mem_nil_iff, or_false] at hp
  rcases hp with rfl | rfl | rfl | rfl | rfl | rfl | rfl | rfl | rfl
  · intro x
    idx_vars x
    obtain rfl : x0 = 0 := Fin.ext (by omega)
    have e : V (r0_12.emb (ix3 0 x1 x2) 0) (r0_12.emb (ix3 0 x1 x2) 1) (r0_12.emb (ix3 0 x1 x2) 2) = V 8 x1 x2 := by
      congr 1 <;> apply Fin.ext
      · show 0 + 1 * x1.val = x1.val; omega
      · show 0 + 1 * x2.val = x2.val; omega
    exact (tap8 g gs a sa x1 x2).trans ((congrFun (congrFun (congrFun hV _) _) _).trans e.symm)
  · intro x
    idx_vars x
    obtain rfl : x0 = 0 := Fin.ext (by omega)
    have e : V (r0_11.emb (ix3 0 x1 x2) 0) (r0_11.emb (ix3 0 x1 x2) 1) (r0_11.emb (ix3 0 x1 x2) 2) = V 7 x1 x2 := by
      congr 1 <;> apply Fin.ext
      · show 0 + 1 * x1.val = x1.val; omega
      · show 0 + 1 * x2.val = x2.val; omega
    exact (tap7 g gs a sa x1 x2).trans ((congrFun (congrFun (congrFun hV _) _) _).trans e.symm)
  · intro x
    idx_vars x
    obtain rfl : x0 = 0 := Fin.ext (by omega)
    have e : V (r0_10.emb (ix3 0 x1 x2) 0) (r0_10.emb (ix3 0 x1 x2) 1) (r0_10.emb (ix3 0 x1 x2) 2) = V 6 x1 x2 := by
      congr 1 <;> apply Fin.ext
      · show 0 + 1 * x1.val = x1.val; omega
      · show 0 + 1 * x2.val = x2.val; omega
    exact (tap6 g gs a sa x1 x2).trans ((congrFun (congrFun (congrFun hV _) _) _).trans e.symm)
  · intro x
    idx_vars x
    obtain rfl : x0 = 0 := Fin.ext (by omega)
    have e : V (r0_9.emb (ix3 0 x1 x2) 0) (r0_9.emb (ix3 0 x1 x2) 1) (r0_9.emb (ix3 0 x1 x2) 2) = V 5 x1 x2 := by
      congr 1 <;> apply Fin.ext
      · show 0 + 1 * x1.val = x1.val; omega
      · show 0 + 1 * x2.val = x2.val; omega
    exact (tap5 g gs a sa x1 x2).trans ((congrFun (congrFun (congrFun hV _) _) _).trans e.symm)
  · intro x
    idx_vars x
    obtain rfl : x0 = 0 := Fin.ext (by omega)
    have e : V (r0_8.emb (ix3 0 x1 x2) 0) (r0_8.emb (ix3 0 x1 x2) 1) (r0_8.emb (ix3 0 x1 x2) 2) = V 4 x1 x2 := by
      congr 1 <;> apply Fin.ext
      · show 0 + 1 * x1.val = x1.val; omega
      · show 0 + 1 * x2.val = x2.val; omega
    exact (tap4 g gs a sa x1 x2).trans ((congrFun (congrFun (congrFun hV _) _) _).trans e.symm)
  · intro x
    idx_vars x
    obtain rfl : x0 = 0 := Fin.ext (by omega)
    have e : V (r0_7.emb (ix3 0 x1 x2) 0) (r0_7.emb (ix3 0 x1 x2) 1) (r0_7.emb (ix3 0 x1 x2) 2) = V 3 x1 x2 := by
      congr 1 <;> apply Fin.ext
      · show 0 + 1 * x1.val = x1.val; omega
      · show 0 + 1 * x2.val = x2.val; omega
    exact (tap3 g gs a sa x1 x2).trans ((congrFun (congrFun (congrFun hV _) _) _).trans e.symm)
  · intro x
    idx_vars x
    obtain rfl : x0 = 0 := Fin.ext (by omega)
    have e : V (r0_6.emb (ix3 0 x1 x2) 0) (r0_6.emb (ix3 0 x1 x2) 1) (r0_6.emb (ix3 0 x1 x2) 2) = V 2 x1 x2 := by
      congr 1 <;> apply Fin.ext
      · show 0 + 1 * x1.val = x1.val; omega
      · show 0 + 1 * x2.val = x2.val; omega
    exact (tap2 g gs a sa x1 x2).trans ((congrFun (congrFun (congrFun hV _) _) _).trans e.symm)
  · intro x
    idx_vars x
    obtain rfl : x0 = 0 := Fin.ext (by omega)
    have e : V (r0_5.emb (ix3 0 x1 x2) 0) (r0_5.emb (ix3 0 x1 x2) 1) (r0_5.emb (ix3 0 x1 x2) 2) = V 1 x1 x2 := by
      congr 1 <;> apply Fin.ext
      · show 0 + 1 * x1.val = x1.val; omega
      · show 0 + 1 * x2.val = x2.val; omega
    exact (tap1 g gs a sa x1 x2).trans ((congrFun (congrFun (congrFun hV _) _) _).trans e.symm)
  · intro x
    idx_vars x
    obtain rfl : x0 = 0 := Fin.ext (by omega)
    have e : V (r0_4.emb (ix3 0 x1 x2) 0) (r0_4.emb (ix3 0 x1 x2) 1) (r0_4.emb (ix3 0 x1 x2) 2) = V 0 x1 x2 := by
      congr 1 <;> apply Fin.ext
      · show 0 + 1 * x1.val = x1.val; omega
      · show 0 + 1 * x2.val = x2.val; omega
    exact (tap0 g gs a sa x1 x2).trans ((congrFun (congrFun (congrFun hV _) _) _).trans e.symm)

end Cert.Dw2RefIdeal.Value

end
-- ==== Proof.Dw2RefArray.lean ====
/-
  The reference of the second call, run: its result array holds `Conv.dw2` of the four arguments.
-/
module

public import proofs.«01_k».proof.Proof.Gen.Dw2RefIdeal.Value
public import proofs.«01_k».proof.Proof.Dw2RefBody
public import Idealize.ShloMosaic.Lib.Pipeline.ValueKit

@[expose] public section

set_option maxRecDepth 16384

noncomputable section

namespace Cert.Dw2RefIdeal.Value

open Idealize.ShloMosaic Idealize.ShloMosaic.TcCoe Idealize.SL.Sem
open Cert.Dw2RefIdeal Cert.Dw2RefIdeal.Gen Cert.Conv

variable (m : (ℓ : Loc nD τ sig) → Buf (Elt Ideal) ℓ) (ρ : Dev nD → PrngReg)

/-- The one grid point's blocks are the arrays. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] := by
  decide +kernel

theorem block0 (c : Dev nD) (t : Fin cfg0.N) (b : Fin 2) (o : Fin 1280) (q : Fin 3072) :
    iblk m c 0 t (ix3 b o q) = m ((c : Thread nD τ).loc main_arg0) (ix3 b o q) := by
  blk_ext! [iblk, V, idx t]

theorem block1 (c : Dev nD) (t : Fin cfg0.N) (b : Fin 2) (q : Fin 3072) :
    iblk m c 1 t (ix3 b 0 q) = m ((c : Thread nD τ).loc main_arg1) (ix2 b q) := by
  blk_ext! [iblk, V, idx t]

theorem block2 (c : Dev nD) (t : Fin cfg0.N) (b : Fin 2) (o : Fin 1280) (q : Fin 3072) :
    iblk m c 2 t (ix3 b o q) = m ((c : Thread nD τ).loc main_arg2) (ix3 b o q) := by
  blk_ext! [iblk, V, idx t]

theorem block3 (c : Dev nD) (t : Fin cfg0.N) (b : Fin 2) (q : Fin 3072) :
    iblk m c 3 t (ix3 b 0 q) = m ((c : Thread nD τ).loc main_arg3) (ix2 b q) := by
  blk_ext! [iblk, V, idx t]

/-- The block's value in terms of the arguments. -/
theorem val_eq (c : Dev nD) (t : Fin cfg0.N) (k : Fin 9) (o i : Fin 1280) :
    val (iblk m c 0 t) (iblk m c 1 t) (iblk m c 2 t) (iblk m c 3 t) k o i
      = dw2 (m ((c : Thread nD τ).loc main_arg0)) (m ((c : Thread nD τ).loc main_arg1)) (m ((c : Thread nD τ).loc main_arg2))
          (m ((c : Thread nD τ).loc main_arg3)) k o i := by
  unfold val dw2
  simp only [block0, block1, block2, block3]

/-- The result array after the run. -/
theorem array (c : Dev nD) : (dats m 0 c).arrAt 4 cfg0.N = fun y =>
    dw2 (m ((c : Thread nD τ).loc main_arg0)) (m ((c : Thread nD τ).loc main_arg1)) (m ((c : Thread nD τ).loc main_arg2))
      (m ((c : Thread nD τ).loc main_arg3)) (y 0) (y 1) (y 2) := by
  refine (dats m 0 c).arrAt_eq_of_covers 4 _ (by decide +kernel) fun t hf y => ?_
  generalize hG : dw2 (m ((c : Thread nD τ).loc main_arg0)) (m ((c : Thread nD τ).loc main_arg1)) (m ((c : Thread nD τ).loc main_arg2))
      (m ((c : Thread nD τ).loc main_arg3)) = G
  have e0 : ((win0_4.blk t).view.emb y 0).val = (y 0).val := by blk_simp [idx t]
  have e1 : ((win0_4.blk t).view.emb y 1).val = (y 1).val := by blk_simp [idx t]
  have e2 : ((win0_4.blk t).view.emb y 2).val = (y 2).val := by blk_simp [idx t]
  have e : G ((win0_4.blk t).view.emb y 0) ((win0_4.blk t).view.emb y 1) ((win0_4.blk t).view.emb y 2) = G (y 0) (y 1) (y 2) := by
    congr 1
    · exact Fin.ext e0
    · exact Fin.ext e1
    · exact Fin.ext e2
  have k : (dats m 0 c).after 4 t y = G (y 0) (y 1) (y 2) := by
    rw [after0_4, out_apply, ← hG]
    exact val_eq m c t (y 0) (y 1) (y 2)
  exact k.trans e.symm

end Cert.Dw2RefIdeal.Value

end
-- ==== Proof.Dw2.lean ====
/-
  The second call: over the extended reals the kernel and the reference end with equal arrays, both `Conv.dw2` of the
  arguments.
-/
module

public import proofs.«01_k».proof.Defs
public import proofs.«01_k».proof.Proof.Dw2Array
public import proofs.«01_k».proof.Proof.Dw2RefArray
public import Idealize.ShloMosaic.Lib.Bf16Pair

@[expose] public section

noncomputable section

namespace Cert

open Idealize.ShloMosaic Idealize.SL.Sem

/-- The rewrite the idealized kernel rests on: a word of two bfloat16 rows, rotated, is the two rows rotated. -/
theorem preserves_dw2 : preserves_Dw2_Dw2Ideal := IdealRules.bf16_pair.statement _ _

/-- Kernel and reference run, leave the arguments as they were, and end with the same array. -/
theorem algebraic_dw2 : algebraic_Dw2Ideal_Dw2RefIdeal (hDw2Ideal := Dw2Ideal.Gen.facts) (hDw2RefIdeal := Dw2RefIdeal.Gen.facts) := by
  intro m g m' g' _ hm
  refine ⟨fun c => (Dw2Ideal.Gen.dats m 0 c).arrAt 4 Dw2Ideal.cfg0.N, Dw2Ideal.Value.run_blocks m g, ?_⟩
  refine (θ_run _ _ _).mono (fun r h c => ?_) (Dw2RefIdeal.Value.run_blocks m' g')
  obtain ⟨hv, h0, h1, h2, h3⟩ := h c
  obtain ⟨e0, e1, e2, e3⟩ := hm c
  refine ⟨?_, h0, h1, h2, h3⟩
  have e : Conv.dw2 (m' (c.tc.loc Dw2RefIdeal.main_arg0)) (m' (c.tc.loc Dw2RefIdeal.main_arg1)) (m' (c.tc.loc Dw2RefIdeal.main_arg2))
        (m' (c.tc.loc Dw2RefIdeal.main_arg3))
      = Conv.dw2 (m (c.tc.loc Dw2Ideal.main_arg0)) (m (c.tc.loc Dw2Ideal.main_arg1)) (m (c.tc.loc Dw2Ideal.main_arg2))
        (m (c.tc.loc Dw2Ideal.main_arg3)) := by rw [e0, e1, e2, e3]
  refine hv.trans ((Dw2RefIdeal.Value.array m' c).trans (Eq.trans ?_ (Dw2Ideal.Value.array m c).symm))
  funext y
  exact congrFun (congrFun (congrFun e _) _) _

end Cert

end
-- ==== Proof.Quant.lean ====
/-
  The power-of-two quantiser, one number at a time. The kernels find the exponent field of a quotient by eight
  comparisons with powers of two, from the highest bit to the lowest, and build the scale and its inverse from that
  field; the reference takes the least power of two above the quotient. Both are the same scale, `scaleOf`.
-/
module

public import Idealize.ShloMosaic.Lib.Pointwise
public import Idealize.ShloMosaic.PureOps.Ideal.Laws

@[expose] public section

set_option maxRecDepth 16384

noncomputable section

namespace Cert.Quant

open Idealize.ShloMosaic

/-- The power of two whose float has the exponent field `n`. -/
def pow (n : ℕ) : EReal := (((2 : ℝ) ^ ((n : ℤ) - 127) : ℝ) : EReal)

/-- The scale of a vector whose largest absolute value is 448 times `t`: 1 if `t` is below the least normal float,
and else the least power of two above `t`, at most `2 ^ 126`. -/
def scaleOf (t : EReal) : EReal :=
  if t < pow 1 then 1
  else Finset.univ.fold min ⊤ fun k : Fin 252 => if t < pow (k.val + 2) then pow (k.val + 2) else pow 253

/-- A greater field is a greater power. -/
theorem pow_le {a b : ℕ} (h : a ≤ b) : pow a ≤ pow b := by
  unfold pow
  exact EReal.coe_le_coe (zpow_le_zpow_right₀ (by norm_num : (1 : ℝ) ≤ 2) (by omega))

/-- The power of field 127 is 1. -/
theorem pow_one : pow 127 = 1 := by
  unfold pow; norm_num

/-- The fields of the float whose word is `n` shifted left by 23. -/
theorem fields : ∀ n : Fin 255,
    ((BitVec.ofNat 32 n.val <<< 23#32).extractLsb' 31 1 == 1#1) = false
      ∧ ((BitVec.ofNat 32 n.val <<< 23#32).extractLsb' 23 8).toNat = n.val
      ∧ ((BitVec.ofNat 32 n.val <<< 23#32).extractLsb' 0 23).toNat = 0 := by
  decide +kernel

/-- The word with the exponent field `n` and nothing else is the power `pow n`. -/
theorem ofBits_pow {n : ℕ} (h1 : 1 ≤ n) (h2 : n ≤ 254) :
    (FloatOps.ofBits .f32 (IntOp.shli .vector (BitVec.ofNat 32 n) 23#32) : Ideal .f32) = pow n := by
  obtain ⟨a, b, c⟩ := fields ⟨n, by omega⟩
  have e : IntOp.shli .vector (BitVec.ofNat 32 n) 23#32 = BitVec.ofNat 32 n <<< 23#32 := by
    unfold IntOp.shli; exact if_pos (by decide)
  have val : (((1 : ℝ) * ((2 ^ 23 + 0 : ℕ) : ℝ) * (2 : ℝ) ^ ((n : ℤ) - (2 ^ (8 - 1) - 1) - (23 : ℕ)) : ℝ))
      = (2 : ℝ) ^ ((n : ℤ) - 127) := by
    have e2 : ((n : ℤ) - 127) = 23 + ((n : ℤ) - (2 ^ (8 - 1) - 1) - (23 : ℕ)) := by norm_num
    rw [e2, zpow_add₀ (by norm_num : (2 : ℝ) ≠ 0)]
    norm_num
  have q : Ideal.ieee 8 23 (BitVec.ofNat 32 n <<< 23#32) = pow n := by
    unfold Ideal.ieee pow
    rw [← val]
    have n1 : ¬ n = 2 ^ 8 - 1 := by norm_num; omega
    have n2 : ¬ n = 0 := by omega
    simp only [a, b, c, n1, n2, if_false, Bool.false_eq_true]
  rw [e]
  exact q

/-- One comparison of the search: the field grows by `b` if it stays below 253 and its power does not pass `t`. -/
def step (t : EReal) (f b : BitVec 32) : BitVec 32 :=
  Scalar.select (IntOp.andi (IntOp.cmpi .slt (IntOp.addi f b) 253#32)
    (FloatOps.cmpf (F := Ideal) (φ := .f32) .oge t (FloatOps.ofBits .f32 (IntOp.shli .vector (IntOp.addi f b) 23#32))))
    (IntOp.addi f b) f

/-- The eight comparisons, from the highest bit of the field to the lowest. -/
def field (t : EReal) : BitVec 32 :=
  step t (step t (step t (step t (step t (step t (step t (step t 0#32 128#32) 64#32) 32#32) 16#32) 8#32) 4#32) 2#32) 1#32

/-- The word of the float with the scale of field `f`: the power after the field's, or 1 for the field 0. -/
def scaleWord (f : BitVec 32) : BitVec 32 :=
  IntOp.shli .vector (IntOp.addi (Scalar.select (IntOp.cmpi .eq f 0#32) 0#32 (IntOp.subi f 126#32)) 127#32) 23#32

/-- The word of the float with the inverse of that scale. -/
def inverseWord (f : BitVec 32) : BitVec 32 :=
  IntOp.shli .vector (IntOp.subi 127#32 (Scalar.select (IntOp.cmpi .eq f 0#32) 0#32 (IntOp.subi f 126#32))) 23#32

/-- The same comparison in natural numbers. -/
def natStep (t : EReal) (f b : ℕ) : ℕ := open Classical in if f + b < 253 ∧ pow (f + b) ≤ t then f + b else f

theorem slt_word : ∀ n : Fin 512, IntOp.cmpi .slt (BitVec.ofNat 32 n.val) 253#32 = BitVec.ofBool (decide (n.val < 253)) := by
  decide +kernel

/-- On words the comparison does what it does in natural numbers. -/
theorem step_eq (t : EReal) {f b : ℕ} (hf : f < 253) (h1 : 1 ≤ b) (hb : b ≤ 128) :
    step t (BitVec.ofNat 32 f) (BitVec.ofNat 32 b) = BitVec.ofNat 32 (natStep t f b) := by
  have e : IntOp.addi (BitVec.ofNat 32 f) (BitVec.ofNat 32 b) = BitVec.ofNat 32 (f + b) := by
    show BitVec.ofNat 32 f + BitVec.ofNat 32 b = _
    rw [BitVec.ofNat_add]
  unfold step natStep
  rw [e, slt_word ⟨f + b, by omega⟩]
  by_cases h : f + b < 253
  · rw [ofBits_pow (by omega) (by omega)]
    rw [Ideal.cmpf_def]
    unfold Ideal.cmp
    by_cases h' : pow (f + b) ≤ t
    · rw [if_pos ⟨h, h'⟩]
      simp only [h, h', decide_true]
      rfl
    · rw [if_neg fun c => h' c.2]
      simp only [h, h', decide_true, decide_false]
      rfl
  · rw [if_neg fun c => h c.1]
    simp only [h, decide_false]
    have z : ∀ c : BitVec 1, IntOp.andi (BitVec.ofBool false) c = 0#1 := by decide
    rw [z]
    rfl

theorem natStep_lt (t : EReal) {f b : ℕ} (h : f < 253) : natStep t f b < 253 := by
  unfold natStep; split
  · rename_i c; exact c.1
  · exact h

/-- The search keeps a field whose power does not pass `t` and halves the distance to one that does. -/
theorem natStep_inv (t : EReal) {f b c : ℕ} (hc : c = 2 * b) (h : (f = 0 ∨ pow f ≤ t) ∧ ¬ (f + c < 253 ∧ pow (f + c) ≤ t)) :
    (natStep t f b = 0 ∨ pow (natStep t f b) ≤ t) ∧ ¬ (natStep t f b + b < 253 ∧ pow (natStep t f b + b) ≤ t) := by
  subst hc
  unfold natStep
  split
  · rename_i q
    exact ⟨Or.inr q.2, by rw [show f + b + b = f + 2 * b by omega]; exact h.2⟩
  · rename_i q
    exact ⟨h.1, q⟩

/-- The eight comparisons end at the greatest field below 253 whose power does not pass `t`, or at 0. -/
theorem field_spec (t : EReal) : ∃ r : ℕ, field t = BitVec.ofNat 32 r ∧ r < 253 ∧ (r = 0 ∨ pow r ≤ t)
    ∧ ¬ (r + 1 < 253 ∧ pow (r + 1) ≤ t) := by
  have l0 : (0 : ℕ) < 253 := by decide
  have i0 : ((0 : ℕ) = 0 ∨ pow 0 ≤ t) ∧ ¬ (0 + 256 < 253 ∧ pow (0 + 256) ≤ t) := ⟨Or.inl rfl, fun c => by omega⟩
  have next : ∀ (b c f : ℕ) (w : BitVec 32), c = 2 * b → 1 ≤ b → b ≤ 128 →
      (w = BitVec.ofNat 32 f ∧ f < 253 ∧ (f = 0 ∨ pow f ≤ t) ∧ ¬ (f + c < 253 ∧ pow (f + c) ≤ t)) →
      ∃ g, step t w (BitVec.ofNat 32 b) = BitVec.ofNat 32 g ∧ g < 253 ∧ (g = 0 ∨ pow g ≤ t)
        ∧ ¬ (g + b < 253 ∧ pow (g + b) ≤ t) := by
    rintro b c f w hc h1 hb ⟨rfl, hf, i⟩
    exact ⟨natStep t f b, step_eq t hf h1 hb, natStep_lt t hf, natStep_inv t hc i⟩
  obtain ⟨_, h⟩ := next 128 256 0 0#32 rfl (by decide) (by decide) ⟨rfl, l0, i0⟩
  obtain ⟨_, h⟩ := next 64 128 _ _ rfl (by decide) (by decide) h
  obtain ⟨_, h⟩ := next 32 64 _ _ rfl (by decide) (by decide) h
  obtain ⟨_, h⟩ := next 16 32 _ _ rfl (by decide) (by decide) h
  obtain ⟨_, h⟩ := next 8 16 _ _ rfl (by decide) (by decide) h
  obtain ⟨_, h⟩ := next 4 8 _ _ rfl (by decide) (by decide) h
  obtain ⟨_, h⟩ := next 2 4 _ _ rfl (by decide) (by decide) h
  obtain ⟨r, h⟩ := next 1 2 _ _ rfl (by decide) (by decide) h
  exact ⟨r, h⟩

/-- The field of the scale: the one after `r`, or that of 1. -/
def after (r : ℕ) : ℕ := if r = 0 then 127 else r + 1

/-- The scale is the power of the field after the one that the search ends at. -/
theorem scaleOf_eq (t : EReal) {r : ℕ} (hr : r < 253) (h : r = 0 ∨ pow r ≤ t) (h' : ¬ (r + 1 < 253 ∧ pow (r + 1) ≤ t)) :
    scaleOf t = pow (after r) := by
  unfold scaleOf after
  by_cases z : r = 0
  · subst z
    rw [if_pos (not_le.mp fun c => h' ⟨by decide, c⟩), if_pos rfl, pow_one]
  · have hp : pow r ≤ t := h.resolve_left z
    rw [if_neg (not_lt.mpr ((pow_le (by omega)).trans hp)), if_neg z]
    apply le_antisymm
    · rw [Finset.fold_min_le]
      refine Or.inr ?_
      refine ⟨⟨r - 1, by omega⟩, Finset.mem_univ _, ?_⟩
      rw [show r - 1 + 2 = r + 1 by omega]
      split
      · exact le_rfl
      · rename_i c
        have : r = 252 := by
          by_contra ne
          exact h' ⟨by omega, not_lt.mp c⟩
        subst this
        exact le_rfl
    · rw [Finset.le_fold_min]
      refine ⟨le_top, fun k _ => ?_⟩
      split
      · rename_i c
        refine pow_le ?_
        by_contra lt
        exact absurd ((pow_le (by omega : k.val + 2 ≤ r)).trans hp) (not_le.mpr c)
      · exact pow_le (by omega)

theorem scale_words : ∀ r : Fin 253,
    scaleWord (BitVec.ofNat 32 r.val) = IntOp.shli .vector (BitVec.ofNat 32 (after r.val)) 23#32
      ∧ inverseWord (BitVec.ofNat 32 r.val) = IntOp.shli .vector (BitVec.ofNat 32 (254 - after r.val)) 23#32 := by
  decide +kernel

/-- The scale that the kernels build from the field they find is the reference's. -/
theorem ofBits_scaleWord (t : EReal) : (FloatOps.ofBits .f32 (scaleWord (field t)) : Ideal .f32) = scaleOf t := by
  obtain ⟨r, e, hr, h, h'⟩ := field_spec t
  rw [e, (scale_words ⟨r, hr⟩).1, scaleOf_eq t hr h h']
  exact ofBits_pow (by unfold after; split <;> omega) (by unfold after; split <;> omega)

/-- The inverse that they build from it is one over that scale. -/
theorem ofBits_inverseWord (t : EReal) :
    (FloatOps.ofBits .f32 (inverseWord (field t)) : Ideal .f32) = Ideal.div 1 (scaleOf t) := by
  obtain ⟨r, e, hr, h, h'⟩ := field_spec t
  rw [e, (scale_words ⟨r, hr⟩).2, scaleOf_eq t hr h h']
  rw [ofBits_pow (by unfold after; split <;> omega) (by unfold after; split <;> omega)]
  have ha : after r ≤ 253 := by unfold after; split <;> omega
  generalize after r = a at ha
  unfold pow Ideal.div
  have ne : ((2 : ℝ) ^ ((a : ℤ) - 127)) ≠ 0 := zpow_ne_zero _ (by norm_num)
  rw [if_neg (by exact_mod_cast ne), one_mul, ← EReal.coe_inv, ← zpow_neg]
  congr 2
  omega

/-- The powers that the reference lists, as it computes them. -/
theorem exp2_power (k : Fin 252) :
    (FloatOps.exp2 (FloatOps.sitofp (F := Ideal) .f32 (IntOp.subi (BitVec.ofNat 32 k.val) 125#32)) : Ideal .f32) = pow (k.val + 2) := by
  have w : ∀ k : Fin 252, (IntOp.subi (BitVec.ofNat 32 k.val) 125#32).toInt = (k.val : ℤ) - 125 := by decide +kernel
  show Ideal.exp2 ((((IntOp.subi (BitVec.ofNat 32 k.val) 125#32).toInt : ℝ) : EReal)) = _
  rw [w k, Ideal.exp2_coe]
  unfold pow
  have e : Real.rpow 2 (((k.val : ℤ) - 125 : ℤ) : ℝ) = (2 : ℝ) ^ (((k.val : ℤ) - 125 : ℤ)) := Real.rpow_intCast 2 _
  rw [e]
  congr 2
  push_cast
  ring

/-- The constants of the reference: the least normal float, 1, `2 ^ 126` and infinity. -/
theorem const_pow {w : BitVec 32} {n : ℕ} (h : w = IntOp.shli .vector (BitVec.ofNat 32 n) 23#32) (h1 : 1 ≤ n) (h2 : n ≤ 254) :
    (FloatOps.ofBits .f32 w : Ideal .f32) = pow n := by
  rw [h]; exact ofBits_pow h1 h2
theorem const_top : (FloatOps.ofBits .f32 0x7F800000#32 : Ideal .f32) = ⊤ := by
  have a : ((0x7F800000#32).extractLsb' 31 1 == 1#1) = false := by decide
  have b : ((0x7F800000#32).extractLsb' 23 8).toNat = 255 := by decide
  have c : ((0x7F800000#32).extractLsb' 0 23).toNat = 0 := by decide
  show Ideal.ieee 8 23 0x7F800000#32 = ⊤
  unfold Ideal.ieee
  simp only [a, b, c]
  norm_num

/-- A choice by a comparison. -/
theorem select_lt {x y a b : EReal} :
    Scalar.select (FloatOps.cmpf (F := Ideal) (φ := .f32) .olt x y) a b = if x < y then a else b := by
  rw [Ideal.cmpf_def]
  unfold Ideal.cmp Scalar.select
  by_cases h : x < y <;> simp [h]
theorem select_gt {x y a b : EReal} :
    Scalar.select (FloatOps.cmpf (F := Ideal) (φ := .f32) .ogt x y) a b = if y < x then a else b := by
  rw [Ideal.cmpf_def]
  unfold Ideal.cmp Scalar.select
  by_cases h : y < x <;> simp [h]

/-- The reference's choice among the listed powers is the scale. -/
theorem listed (t : EReal) :
    Scalar.select (FloatOps.cmpf (F := Ideal) (φ := .f32) .olt t (FloatOps.ofBits .f32 0x00800000#32)) (FloatOps.ofBits .f32 0x3F800000#32)
        (Finset.univ.fold min (FloatOps.ofBits .f32 0x7F800000#32 : Ideal .f32) fun k : Fin 252 =>
          Scalar.select (FloatOps.cmpf (F := Ideal) (φ := .f32) .ogt
              (FloatOps.exp2 (FloatOps.sitofp .f32 (IntOp.subi (BitVec.ofNat 32 k.val) 125#32))) t)
            (FloatOps.exp2 (FloatOps.sitofp .f32 (IntOp.subi (BitVec.ofNat 32 k.val) 125#32))) (FloatOps.ofBits .f32 0x7E800000#32 : Ideal .f32))
      = scaleOf t := by
  simp only [select_gt]
  rw [select_lt]
  simp only [exp2_power, const_top]
  rw [const_pow (n := 1) (by decide) (by decide) (by decide), const_pow (n := 127) (by decide) (by decide) (by decide), pow_one]
  simp only [const_pow (w := 0x7E800000#32) (n := 253) (by decide) (by decide) (by decide)]
  rfl

/-- The constant 1 that the reference divides by the scale. -/
theorem const_one : (FloatOps.ofBits .f32 0x3F800000#32 : Ideal .f32) = 1 := by
  rw [const_pow (n := 127) (by decide) (by decide) (by decide), pow_one]

/-- The quotient that a pixel's scale is made from: the greatest magnitude over its channels, times the float nearest 1/448. -/
def quot {n : ℕ} (v : Fin n → EReal) : EReal :=
  (Finset.univ.fold max (FloatOps.ofBits .f32 0xFF800000#32 : Ideal .f32) fun i => max (v i) (-(v i)))
    * (FloatOps.ofBits .f32 0x3B124925#32 : Ideal .f32)

/-- The scale of a pixel with the channels `v`. -/
def scale {n : ℕ} (v : Fin n → EReal) : EReal := scaleOf (quot v)

/-- The code of channel `i` of that pixel. -/
def code {n : ℕ} (v : Fin n → EReal) (i : Fin n) : EReal :=
  min (FloatOps.ofBits .f32 0x43E00000#32 : Ideal .f32)
    (max (FloatOps.ofBits .f32 0xC3E00000#32 : Ideal .f32) (v i * Ideal.div 1 (scale v)))

/-- Normalisation by a mean and a reciprocal deviation, an affine map, and SiLU. -/
def normSilu (x mean rstd gamma beta : EReal) : EReal :=
  ((x - mean) * rstd * gamma + beta) * Ideal.logistic ((x - mean) * rstd * gamma + beta)

/-- The first activation of one pixel of one image, before quantisation: the dequantised input of 1920 channels,
normalised by the mean and reciprocal deviation of the channel's group of 60. -/
def activation1 (x : (⟨3, ![2, 1920, 3072]⟩ : Shape).Idx → BitVec 8) (xs : (⟨2, ![2, 3072]⟩ : Shape).Idx → EReal)
    (mean rstd : (⟨2, ![2, 32]⟩ : Shape).Idx → EReal) (gamma beta : (⟨1, ![1920]⟩ : Shape).Idx → EReal)
    (b : Fin 2) (q : Fin 3072) (i : Fin 1920) : EReal :=
  normSilu ((FloatOps.sitofp .f32 (x (ix3 b i q)) : Ideal .f32) * xs (ix2 b q)) (mean (ix2 b ⟨i.val / 60, by omega⟩))
    (rstd (ix2 b ⟨i.val / 60, by omega⟩)) (gamma (ix1 i)) (beta (ix1 i))

end Cert.Quant
-- ==== Proof.Rows.lean ====
/-
  The greatest and the least value over the rows of a matrix of any size, at one column.
-/
module

public import Idealize.ShloMosaic.Lib.Pointwise
public import Idealize.ShloMosaic.PureOps.Ideal.Laws

@[expose] public section

noncomputable section

namespace Cert.Rows

open Idealize.ShloMosaic

variable {n m : ℕ}

/-- The index of a matrix whose row is `k` and which drops to column `q`. -/
theorem lift_eq (h : (⟨2, ![n, m]⟩ : Shape).Reduces [0] ⟨1, ![m]⟩) (q : Fin m) (k : Fin n) :
    h.lift (ix1 q) k = (ix2 k q : (⟨2, ![n, m]⟩ : Shape).Idx) := by
  funext c
  apply Fin.ext
  show h.liftVal (ix1 q) k.val c = _
  unfold Shape.Reduces.liftVal
  match c with
  | ⟨0, _⟩ => rfl
  | ⟨1, _⟩ => rfl

/-- The greatest value over the rows. -/
theorem max_rows (src : FVec Ideal ⟨2, ![n, m]⟩ .f32) (acc : BitVec 32) (h : (⟨2, ![n, m]⟩ : Shape).Reduces [0] ⟨1, ![m]⟩)
    (hφ : FKind.Formats .f32) (hacc : acc = FKind.maximumf.neutral .f32 hφ) (q : Fin m) :
    multiReduction .maximumf [0] ⟨1, ![m]⟩ src acc h hφ hacc (ix1 q)
      = (Finset.univ : Finset (Fin n)).fold max (FloatOps.ofBits .f32 acc : Ideal .f32) fun k => src (ix2 k q) := by
  refine (Ideal.multiReduction_maximumf_single src acc h hφ hacc (ix1 q)).trans ?_
  refine congrArg (fun f => (Finset.univ : Finset (Fin n)).fold max (FloatOps.ofBits .f32 acc : Ideal .f32) f) ?_
  funext k
  exact congrArg src (lift_eq h q k)

/-- The least value over the rows. -/
theorem min_rows (src : FVec Ideal ⟨2, ![n, m]⟩ .f32) (acc : BitVec 32) (h : (⟨2, ![n, m]⟩ : Shape).Reduces [0] ⟨1, ![m]⟩)
    (hφ : FKind.Formats .f32) (hacc : acc = FKind.minimumf.neutral .f32 hφ) (q : Fin m) :
    multiReduction .minimumf [0] ⟨1, ![m]⟩ src acc h hφ hacc (ix1 q)
      = (Finset.univ : Finset (Fin n)).fold min (FloatOps.ofBits .f32 acc : Ideal .f32) fun k => src (ix2 k q) := by
  rw [multiReduction_minimumf_eq_fold]
  refine (h.fold_filter_drop_single _ _ src (ix1 q)).trans ?_
  refine congrArg (fun f => (Finset.univ : Finset (Fin n)).fold min (FloatOps.ofBits .f32 acc : Ideal .f32) f) ?_
  funext k
  exact congrArg src (lift_eq h q k)

/-- The vector of the columns' greatest values, from a start value given as a word. -/
def colMax (src : FVec Ideal ⟨2, ![n, m]⟩ .f32) (acc : BitVec 32) : FVec Ideal ⟨1, ![m]⟩ .f32 :=
  fun j => (Finset.univ : Finset (Fin n)).fold max (FloatOps.ofBits .f32 acc : Ideal .f32) fun k => src (ix2 k ⟨(j 0).val, (j 0).isLt⟩)

/-- The vector of the columns' least values. -/
def colMin (src : FVec Ideal ⟨2, ![n, m]⟩ .f32) (acc : BitVec 32) : FVec Ideal ⟨1, ![m]⟩ .f32 :=
  fun j => (Finset.univ : Finset (Fin n)).fold min (FloatOps.ofBits .f32 acc : Ideal .f32) fun k => src (ix2 k ⟨(j 0).val, (j 0).isLt⟩)

theorem colMax_apply (src : FVec Ideal ⟨2, ![n, m]⟩ .f32) (acc : BitVec 32) (q : Fin m) :
    colMax src acc (ix1 q) = (Finset.univ : Finset (Fin n)).fold max (FloatOps.ofBits .f32 acc : Ideal .f32) fun k => src (ix2 k q) := rfl

theorem colMin_apply (src : FVec Ideal ⟨2, ![n, m]⟩ .f32) (acc : BitVec 32) (q : Fin m) :
    colMin src acc (ix1 q) = (Finset.univ : Finset (Fin n)).fold min (FloatOps.ofBits .f32 acc : Ideal .f32) fun k => src (ix2 k q) := rfl

/-- The reduction by the maximum is that vector. -/
theorem max_eq (src : FVec Ideal ⟨2, ![n, m]⟩ .f32) (acc : BitVec 32) (h : (⟨2, ![n, m]⟩ : Shape).Reduces [0] ⟨1, ![m]⟩)
    (hφ : FKind.Formats .f32) (hacc : acc = FKind.maximumf.neutral .f32 hφ) :
    multiReduction .maximumf [0] ⟨1, ![m]⟩ src acc h hφ hacc = colMax src acc := by
  funext j
  have e : j = ix1 ⟨(j 0).val, (j 0).isLt⟩ := by funext a; match a with | ⟨0, _⟩ => rfl
  rw [e]
  exact max_rows src acc h hφ hacc _

/-- The reduction by the minimum is the other. -/
theorem min_eq (src : FVec Ideal ⟨2, ![n, m]⟩ .f32) (acc : BitVec 32) (h : (⟨2, ![n, m]⟩ : Shape).Reduces [0] ⟨1, ![m]⟩)
    (hφ : FKind.Formats .f32) (hacc : acc = FKind.minimumf.neutral .f32 hφ) :
    multiReduction .minimumf [0] ⟨1, ![m]⟩ src acc h hφ hacc = colMin src acc := by
  funext j
  have e : j = ix1 ⟨(j 0).val, (j 0).isLt⟩ := by funext a; match a with | ⟨0, _⟩ => rfl
  rw [e]
  exact min_rows src acc h hφ hacc _

end Cert.Rows

end
-- ==== Proof.Act1Block.lean ====
/-
  The third call's kernel, one block: what it stores from its input blocks, at an index.
-/
module

public import proofs.«01_k».proof.Proof.Gen.Act1Ideal.Value
public import proofs.«01_k».proof.Proof.Quant
public import proofs.«01_k».proof.Proof.Rows
public import Idealize.ShloMosaic.Lib.Pipeline.ValueKit

@[expose] public section

set_option maxRecDepth 16384

noncomputable section

namespace Cert.Act1Ideal.Value

open Idealize.ShloMosaic Idealize.ShloMosaic.TcCoe Idealize.SL.Sem
open Cert.Act1Ideal Cert.Act1Ideal.Gen Cert.Quant

/-- The value before quantisation, at a channel and a pixel. -/
theorem value (x : Vec Ideal S1x1920x256 .i8) (s : Vec Ideal S1x1x256 .f32) (a r : Vec Ideal S1x1920x1 .f32) (g b : Vec Ideal S1920x1 .f32)
    (i : Fin 1920) (q : Fin 256) :
    k0_pay3 (F := Ideal) x s a r g b (ix2 i q)
      = normSilu ((FloatOps.sitofp .f32 (x (ix3 0 i q)) : Ideal .f32) * s (ix3 0 0 q)) (a (ix3 0 i 0)) (r (ix3 0 i 0)) (g (ix2 i 0)) (b (ix2 i 0)) := by
  pointwise [k0_pay3]
  rfl

/-- The quotient that the scale is made from, the same in all eight rows. -/
theorem quotient (x : Vec Ideal S1x1920x256 .i8) (s : Vec Ideal S1x1x256 .f32) (a r : Vec Ideal S1x1920x1 .f32) (g b : Vec Ideal S1920x1 .f32)
    (j : Fin 8) (q : Fin 256) :
    k0_pay4 (F := Ideal) x s a r g b (ix2 j q) = quot fun i : Fin 1920 => k0_pay3 (F := Ideal) x s a r g b (ix2 i q) := by
  unfold k0_pay4
  dsimp only
  generalize k0_pay3 (F := Ideal) x s a r g b = w
  have e : multiReduction .maximumf [0] S256 (absf w) 0xFF800000#32 reduces_S1920x256_S256 (.inl rfl) rfl
      = Rows.colMax (absf w) 0xFF800000#32 := Rows.max_eq _ _ _ _ _
  rw [e]
  pointwise
  rw [Rows.colMax_apply]
  rfl

/-- The scale found by the search. -/
theorem scale_search (v : FVec Ideal S8x256 .f32) (j : Fin 8) (q : Fin 256) :
    k0_pay11 (F := Ideal) v (k0_pay8 v k0_pay5 k0_pay6 k0_pay7 23#32) k0_pay9 (ix2 j q) = scaleOf (v (ix2 j q)) :=
  (rfl : _ = FloatOps.ofBits .f32 (scaleWord (field (v (ix2 j q))))).trans (ofBits_scaleWord _)

/-- Its inverse. -/
theorem inverse_search (v : FVec Ideal S8x256 .f32) (j : Fin 8) (q : Fin 256) :
    k0_pay12 (F := Ideal) v (k0_pay8 v k0_pay5 k0_pay6 k0_pay7 23#32) k0_pay9 (ix2 j q) = Ideal.div 1 (scaleOf (v (ix2 j q))) :=
  (rfl : _ = FloatOps.ofBits .f32 (inverseWord (field (v (ix2 j q))))).trans (ofBits_inverseWord _)

/-- The codes and the scales as stored. -/
theorem codes_stored (v : FVec Ideal S1920x256 .f32) (w : FVec Ideal S8x256 .f32) (i : Fin 1920) (q : Fin 256) :
    k0_pay1 (F := Ideal) v w (ix3 0 i q)
      = min (FloatOps.ofBits .f32 0x43E00000#32 : Ideal .f32) (max (FloatOps.ofBits .f32 0xC3E00000#32 : Ideal .f32) (v (ix2 i q) * w (ix2 0 q))) := by
  pointwise [k0_pay1]
theorem scale_stored (w : FVec Ideal S8x256 .f32) (q : Fin 256) : k0_pay2 (F := Ideal) w (ix3 0 0 q) = w (ix2 0 q) := by
  pointwise [k0_pay2]

/-- The value before quantisation of one block, channel by channel, at pixel `q`. -/
def channels (x : Vec Ideal S1x1920x256 .i8) (s : Vec Ideal S1x1x256 .f32) (a r : Vec Ideal S1x1920x1 .f32) (g b : Vec Ideal S1920x1 .f32)
    (q : Fin 256) (i : Fin 1920) : EReal :=
  normSilu ((FloatOps.sitofp .f32 (x (ix3 0 i q)) : Ideal .f32) * s (ix3 0 0 q)) (a (ix3 0 i 0)) (r (ix3 0 i 0)) (g (ix2 i 0)) (b (ix2 i 0))

/-- The block of codes. -/
theorem codes_apply (x : Vec Ideal S1x1920x256 .i8) (s : Vec Ideal S1x1x256 .f32) (a r : Vec Ideal S1x1920x1 .f32) (g b : Vec Ideal S1920x1 .f32)
    (i : Fin 1920) (q : Fin 256) : out0_6 x s a r g b (ix3 0 i q) = code (channels x s a r g b q) i := by
  unfold_out out0_6
  simp (disch := decide) only [View.canon_cons_unit_lit', View.ld_unit_lit']
  rw [codes_stored, inverse_search, quotient]
  simp only [value]
  rfl

/-- The block of scales. -/
theorem scale_apply (x : Vec Ideal S1x1920x256 .i8) (s : Vec Ideal S1x1x256 .f32) (a r : Vec Ideal S1x1920x1 .f32) (g b : Vec Ideal S1920x1 .f32)
    (q : Fin 256) : out0_7 x s a r g b (ix3 0 0 q) = scale (channels x s a r g b q) := by
  unfold_out out0_7
  simp (disch := decide) only [View.canon_cons_unit_lit', View.ld_unit_lit']
  rw [scale_stored, scale_search, quotient]
  simp only [value]
  rfl

end Cert.Act1Ideal.Value

end
-- ==== Proof.Act1Array.lean ====
/-
  The third call's kernel, run: its result arrays hold the codes and the scales of the first activation.
-/
module

public import proofs.«01_k».proof.Proof.Act1Block

@[expose] public section

set_option maxRecDepth 16384

noncomputable section

namespace Cert.Act1Ideal.Value

open Idealize.ShloMosaic Idealize.ShloMosaic.TcCoe Idealize.SL.Sem
open Cert.Act1Ideal Cert.Act1Ideal.Gen Cert.Quant

variable (m : (ℓ : Loc nD τ sig) → Buf (Elt Ideal) ℓ) (ρ : Dev nD → PrngReg)

/-- The blocks of grid point `t`: image `t / 12`, 256 pixels from `256 * (t % 12)`. -/
theorem idx : ∀ t : Fin cfg0.N,
    win0_0.index t = ![t.val / 12, 0, t.val % 12] ∧ win0_1.index t = ![t.val / 12, 0, t.val % 12] ∧ win0_2.index t = ![t.val / 12, 0, 0]
    ∧ win0_3.index t = ![t.val / 12, 0, 0] ∧ win0_4.index t = ![0, 0] ∧ win0_5.index t = ![0, 0]
    ∧ win0_6.index t = ![t.val / 12, 0, t.val % 12] ∧ win0_7.index t = ![t.val / 12, 0, t.val % 12] := by
  decide +kernel

/-- The block of input codes, in the argument. -/
theorem block0 (c : Dev nD) (t : Fin cfg0.N) (b : Fin 2) (hb : b.val = t.val / 12) (i : Fin 1920) (q : Fin 256) (Q : Fin 3072)
    (hQ : Q.val = 256 * (t.val % 12) + q.val) : iblk m c 0 t (ix3 0 i q) = m ((c : Thread nD τ).loc main_arg0) (ix3 b i Q) := by
  blk_ext! [iblk, V, idx t]

/-- The block of input scales. -/
theorem block1 (c : Dev nD) (t : Fin cfg0.N) (b : Fin 2) (hb : b.val = t.val / 12) (q : Fin 256) (Q : Fin 3072)
    (hQ : Q.val = 256 * (t.val % 12) + q.val) : iblk m c 1 t (ix3 0 0 q) = m ((c : Thread nD τ).loc main_arg1) (ix2 b Q) := by
  blk_ext! [iblk, V, idx t]

/-- The means: one per group of 60 channels. -/
theorem block2 (c : Dev nD) (t : Fin cfg0.N) (b : Fin 2) (hb : b.val = t.val / 12) (i : Fin 1920) :
    iblk m c 2 t (ix3 0 i 0) = m ((c : Thread nD τ).loc main_arg2) (ix2 b ⟨i.val / 60, by omega⟩) := by
  blk_ext! [iblk, V, idx t]

/-- The reciprocal deviations: one per group of 60 channels. -/
theorem block3 (c : Dev nD) (t : Fin cfg0.N) (b : Fin 2) (hb : b.val = t.val / 12) (i : Fin 1920) :
    iblk m c 3 t (ix3 0 i 0) = m ((c : Thread nD τ).loc main_arg3) (ix2 b ⟨i.val / 60, by omega⟩) := by
  blk_ext! [iblk, V, idx t]

/-- The factors of the affine map. -/
theorem block4 (c : Dev nD) (t : Fin cfg0.N) (i : Fin 1920) :
    iblk m c 4 t (ix2 i 0) = m ((c : Thread nD τ).loc main_arg4) (ix1 i) := by
  blk_ext! [iblk, V, idx t]

/-- Its summands. -/
theorem block5 (c : Dev nD) (t : Fin cfg0.N) (i : Fin 1920) :
    iblk m c 5 t (ix2 i 0) = m ((c : Thread nD τ).loc main_arg5) (ix1 i) := by
  blk_ext! [iblk, V, idx t]

/-- The activation that the arguments determine. -/
abbrev act (c : Dev nD) : Fin 2 → Fin 3072 → Fin 1920 → EReal :=
  activation1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The channels of a block's pixel are those of the activation. -/
theorem channels_eq (c : Dev nD) (t : Fin cfg0.N) (b : Fin 2) (hb : b.val = t.val / 12) (q : Fin 256) (Q : Fin 3072)
    (hQ : Q.val = 256 * (t.val % 12) + q.val) :
    channels (iblk m c 0 t) (iblk m c 1 t) (iblk m c 2 t) (iblk m c 3 t) (iblk m c 4 t) (iblk m c 5 t) q = act m c b Q := by
  funext i
  unfold channels act activation1
  rw [block0 m c t b hb i q Q hQ, block1 m c t b hb q Q hQ, block2 m c t b hb, block3 m c t b hb, block4, block5]

/-- The array of codes after the run. -/
theorem codes (c : Dev nD) : (dats m 0 c).arrAt 6 cfg0.N = fun y => code (act m c (y 0) (y 2)) (y 1) := by
  refine (dats m 0 c).arrAt_eq_of_covers 6 _ (by decide +kernel) fun t hf y => ?_
  have h := fun i q b hb Q hQ => (codes_apply _ _ _ _ _ _ i q).trans (congrArg (fun f => code f i) (channels_eq m c t b hb q Q hQ))
  generalize act m c = G at h ⊢
  have y0 : (y 0).val = 0 := Nat.lt_one_iff.mp (y 0).isLt
  have e0 : ((win0_6.blk t).view.emb y 0).val = t.val / 12 + (y 0).val := by blk_simp [idx t]
  have e1 : ((win0_6.blk t).view.emb y 1).val = (y 1).val := by blk_simp [idx t]
  have e2 : ((win0_6.blk t).view.emb y 2).val = t.val % 12 * 256 + (y 2).val := by blk_simp [idx t]
  have hy : y = ix3 0 (y 1) (y 2) := by
    funext a; fin_cases a
    · exact Fin.ext y0
    · rfl
    · rfl
  have e : code (G ((win0_6.blk t).view.emb y 0) ((win0_6.blk t).view.emb y 2)) ((win0_6.blk t).view.emb y 1)
      = code (G ((win0_6.blk t).view.emb y 0) ((win0_6.blk t).view.emb y 2)) (y 1) := by
    congr 1
    exact Fin.ext e1
  have k : (dats m 0 c).after 6 t y = code (G ((win0_6.blk t).view.emb y 0) ((win0_6.blk t).view.emb y 2)) (y 1) := by
    rw [after0_6]
    refine (congrArg (out0_6 (iblk m c 0 t) (iblk m c 1 t) (iblk m c 2 t) (iblk m c 3 t) (iblk m c 4 t) (iblk m c 5 t)) hy).trans ?_
    exact h (y 1) (y 2) ((win0_6.blk t).view.emb y 0) (by rw [e0, y0, Nat.add_zero]) ((win0_6.blk t).view.emb y 2) (by rw [e2, Nat.mul_comm])
  exact k.trans e.symm

/-- The array of scales after the run. -/
theorem scales (c : Dev nD) : (dats m 0 c).arrAt 7 cfg0.N = fun y => scale (act m c (y 0) (y 2)) := by
  refine (dats m 0 c).arrAt_eq_of_covers 7 _ (by decide +kernel) fun t hf y => ?_
  have h := fun q b hb Q hQ => (scale_apply _ _ _ _ _ _ q).trans (congrArg scale (channels_eq m c t b hb q Q hQ))
  generalize act m c = G at h ⊢
  have y0 : (y 0).val = 0 := Nat.lt_one_iff.mp (y 0).isLt
  have y1 : (y 1).val = 0 := Nat.lt_one_iff.mp (y 1).isLt
  have e0 : ((win0_7.blk t).view.emb y 0).val = t.val / 12 + (y 0).val := by blk_simp [idx t]
  have e2 : ((win0_7.blk t).view.emb y 2).val = t.val % 12 * 256 + (y 2).val := by blk_simp [idx t]
  have hy : y = ix3 0 0 (y 2) := by
    funext a; fin_cases a
    · exact Fin.ext y0
    · exact Fin.ext y1
    · rfl
  show (dats m 0 c).after 7 t y = _
  rw [after0_7]
  refine (congrArg (out0_7 (iblk m c 0 t) (iblk m c 1 t) (iblk m c 2 t) (iblk m c 3 t) (iblk m c 4 t) (iblk m c 5 t)) hy).trans ?_
  exact h (y 2) ((win0_7.blk t).view.emb y 0) (by rw [e0, y0, Nat.add_zero]) ((win0_7.blk t).view.emb y 2) (by rw [e2, Nat.mul_comm])

end Cert.Act1Ideal.Value

end
-- ==== Proof.Act1RefBody.lean ====
/-
  What the reference of the third call computes from its arguments: the codes and the scales of the first activation.
-/
module

public import proofs.«01_k».proof.Proof.Gen.Act1RefIdeal.Frame
public import proofs.«01_k».proof.Proof.Quant
public import proofs.«01_k».proof.Proof.Rows
public import Idealize.ShloMosaic.Lib.Pointwise
public import Idealize.ShloMosaic.Lib.Pipeline.Value
public import Idealize.ShloMosaic.Lib.Tactic

@[expose] public section

set_option maxRecDepth 16384

noncomputable section

namespace Cert.Act1RefIdeal.Value

open Idealize.ShloMosaic Idealize.SL.Sem
open Cert.Act1RefIdeal Cert.Act1RefIdeal.Gen Cert.Quant

/-- The value before quantisation of one image, channel by channel, at pixel `q`. -/
def channels (x : Vec Ideal S1x1920x3072 .i8) (s : Vec Ideal S1x1x3072 .f32) (a r : Vec Ideal S1x32x1x1 .f32) (g b : Vec Ideal S1920x1 .f32)
    (q : Fin 3072) (i : Fin 1920) : EReal :=
  normSilu ((FloatOps.sitofp .f32 (x (ix3 0 i q)) : Ideal .f32) * s (ix3 0 0 q)) (a (ix4 0 ⟨i.val / 60, by omega⟩ 0 0))
    (r (ix4 0 ⟨i.val / 60, by omega⟩ 0 0)) (g (ix2 i 0)) (b (ix2 i 0))

section

variable (x : Vec Ideal S1x1920x3072 .i8) (s : Vec Ideal S1x1x3072 .f32) (a r : Vec Ideal S1x32x1x1 .f32) (g b : Vec Ideal S1920x1 .f32)

/-- The value that the first image's lines compute. -/
theorem value (i : Fin 1920) (q : Fin 3072) : k0_pay3 (F := Ideal) x s a r g b (ix2 i q) = channels x s a r g b q i := by
  pointwise [k0_pay3]
  rfl

/-- The second image's lines compute the same. -/
theorem value' (i : Fin 1920) (q : Fin 3072) :
    k0_pay12 (F := Ideal) (k0_pay10 x s) (k0_pay11 a) r g b (ix2 i q) = channels x s a r g b q i :=
  value x s a r g b i q

/-- The quotient that the scale is made from. -/
theorem quotient (q : Fin 3072) : k0_pay4 (F := Ideal) x s a r g b (ix2 0 q) = quot (channels x s a r g b q) := by
  have h := value x s a r g b
  unfold k0_pay4
  dsimp only
  generalize k0_pay3 (F := Ideal) x s a r g b = w at h ⊢
  have e : multiReduction .maximumf [0] S3072 (absf w) 0xFF800000#32 reduces_S1920x3072_S3072 (.inl rfl) rfl
      = Rows.colMax (absf w) 0xFF800000#32 := Rows.max_eq _ _ _ _ _
  rw [e]
  pointwise
  rw [Rows.colMax_apply]
  unfold quot
  simp only [← h]
  rfl

/-- The choice of the scale among the listed powers. -/
theorem chosen (t : FVec Ideal S1x3072 .f32) (q : Fin 3072) :
    k0_pay7 (F := Ideal) t k0_pay5 (cmpf .ogt k0_pay5 (broadcastTo S252x3072 t broadcasts_S1x3072_S252x3072)) (ix2 0 q) = scaleOf (t (ix2 0 q)) := by
  refine Eq.trans ?_ (listed (t (ix2 0 q)))
  unfold k0_pay7
  dsimp only
  generalize hL : (select (cmpf .ogt (k0_pay5 (F := Ideal)) (broadcastTo S252x3072 t broadcasts_S1x3072_S252x3072)) (k0_pay5 (F := Ideal))
    (broadcast S252x3072 (FloatOps.ofBits .f32 0x7E800000#32)) : FVec Ideal S252x3072 .f32) = L
  have e : multiReduction .minimumf [0] S3072 L 0x7F800000#32 reduces_S252x3072_S3072 (.inl rfl) rfl = Rows.colMin L 0x7F800000#32 :=
    Rows.min_eq _ _ _ _ _
  rw [e]
  pointwise
  rw [Rows.colMin_apply]
  subst hL
  refine congrArg (fun z : EReal => if t (ix2 0 q) < Ideal.ofBits .f32 0x00800000#32 then 1 else z) ?_
  refine congrArg (fun f => (Finset.univ : Finset (Fin 252)).fold min (Ideal.ofBits .f32 0x7F800000#32) f) ?_
  funext k
  pointwise [k0_pay5]

/-- The scale. -/
theorem scale_eq (q : Fin 3072) :
    k0_pay7 (F := Ideal) (k0_pay4 x s a r g b) k0_pay5 (k0_pay6 x s a r g b) (ix2 0 q) = scale (channels x s a r g b q) :=
  (chosen (k0_pay4 x s a r g b) q).trans (congrArg scaleOf (quotient x s a r g b q))

/-- The second image's lines compute the same. -/
theorem same : k0_pay13 (F := Ideal) (k0_pay10 x s) (k0_pay11 a) r g b = k0_pay7 (F := Ideal) (k0_pay4 x s a r g b) k0_pay5 (k0_pay6 x s a r g b) :=
  rfl
theorem scale_eq' (q : Fin 3072) :
    k0_pay13 (F := Ideal) (k0_pay10 x s) (k0_pay11 a) r g b (ix2 0 q) = scale (channels x s a r g b q) := by
  rw [same, scale_eq]

/-- The codes as stored. -/
theorem code_stored (w : FVec Ideal S1920x3072 .f32) (t : FVec Ideal S1x3072 .f32) (u : FVec Ideal S252x3072 .f32) (c : IVec S252x3072 1)
    (i : Fin 1920) (q : Fin 3072) :
    k0_pay8 (F := Ideal) w t u c (ix3 0 i q)
      = min (Ideal.ofBits .f32 0x43E00000#32) (max (Ideal.ofBits .f32 0xC3E00000#32) (w (ix2 i q) * Ideal.div 1 (k0_pay7 t u c (ix2 0 q)))) := by
  unfold k0_pay8
  generalize k0_pay7 t u c = S
  pointwise

/-- The codes of the first image. -/
theorem code_eq (i : Fin 1920) (q : Fin 3072) :
    k0_pay8 (F := Ideal) (k0_pay3 x s a r g b) (k0_pay4 x s a r g b) k0_pay5 (k0_pay6 x s a r g b) (ix3 0 i q)
      = code (channels x s a r g b q) i := by
  rw [code_stored, scale_eq, value]
  rfl

/-- The codes of the second image. -/
theorem code_eq' (i : Fin 1920) (q : Fin 3072) :
    k0_pay1 (F := Ideal) (k0_pay14 (k0_pay10 x s) (k0_pay11 a) r g b) k0_pay15 (ix3 0 i q) = code (channels x s a r g b q) i := by
  have e : k0_pay1 (F := Ideal) (k0_pay14 (k0_pay10 x s) (k0_pay11 a) r g b) k0_pay15
      = k0_pay8 (F := Ideal) (k0_pay3 x s a r g b) (k0_pay4 x s a r g b) k0_pay5 (k0_pay6 x s a r g b) := rfl
  rw [e, code_eq]

end

/-- The scales as stored. -/
theorem stored (t : FVec Ideal S1x3072 .f32) (u : FVec Ideal S252x3072 .f32) (c : IVec S252x3072 1) (q : Fin 3072) :
    k0_pay9 (F := Ideal) t u c (ix3 0 0 q) = k0_pay7 (F := Ideal) t u c (ix2 0 q) := by
  unfold k0_pay9
  generalize k0_pay7 (F := Ideal) t u c = S
  pointwise
theorem stored' (t : FVec Ideal S1x3072 .f32) (q : Fin 3072) : k0_pay2 (F := Ideal) t (ix3 0 0 q) = t (ix2 0 q) := by
  pointwise [k0_pay2]

/-- The channels of image `n` at pixel `q`, from the whole arrays. -/
def pixelOf (x : Vec Ideal S2x1920x3072 .i8) (s : Vec Ideal S2x1x3072 .f32) (a r : Vec Ideal S2x32x1x1 .f32) (g b : Vec Ideal S1920x1 .f32)
    (n : Fin 2) (q : Fin 3072) (i : Fin 1920) : EReal :=
  normSilu ((FloatOps.sitofp .f32 (x (ix3 n i q)) : Ideal .f32) * s (ix3 n 0 q)) (a (ix4 n ⟨i.val / 60, by omega⟩ 0 0))
    (r (ix4 n ⟨i.val / 60, by omega⟩ 0 0)) (g (ix2 i 0)) (b (ix2 i 0))

section

variable (x : Vec Ideal S2x1920x3072 .i8) (s : Vec Ideal S2x1x3072 .f32) (a r : Vec Ideal S2x32x1x1 .f32) (g b : Vec Ideal S1920x1 .f32)

/-- The first image's part of the arrays. -/
theorem channels0 (q : Fin 3072) :
    channels (View.ld x r0_0) (View.ld s r0_1) (View.ld a r0_2) (View.ld r r0_2) (View.ld g r0_3) (View.ld b r0_3) q = pixelOf x s a r g b 0 q := by
  funext i
  unfold channels pixelOf
  pointwise

/-- The second image's part of the arrays. -/
theorem channels1 (q : Fin 3072) :
    channels (View.ld x r0_4) (View.ld s r0_5) (View.ld a r0_6) (View.ld r r0_6) (View.ld g r0_3) (View.ld b r0_3) q = pixelOf x s a r g b 1 q := by
  funext i
  unfold channels pixelOf
  pointwise

/-- The array of codes. -/
theorem codes_apply (y : S2x1920x3072.Idx) : out0_6 x s a r g b y = code (pixelOf x s a r g b (y 0) (y 2)) (y 1) := by
  unfold_out out0_6
  refine View.canon_apply_of_pieces (Val := Elt Ideal) (S := S2x1920x3072) (e := .fp8e4m3)
    (fun y => code (pixelOf x s a r g b (y 0) (y 2)) (y 1)) _ ?_ y (cover0_6 _ _ y)
  generalize hP : pixelOf x s a r g b = P
  intro p hp
  simp only [List.mem_cons, List.mem_nil_iff, or_false] at hp
  rcases hp with rfl | rfl
  · intro z
    idx_vars z
    have h0 : z0 = 0 := by omega
    subst h0
    have k := (code_eq' (View.ld x r0_4) (View.ld s r0_5) (View.ld a r0_6) (View.ld r r0_6) (View.ld g r0_3) (View.ld b r0_3) z1 z2)
    rw [channels1, hP] at k
    have e : code (P (r0_4.emb (ix3 0 z1 z2) 0) (r0_4.emb (ix3 0 z1 z2) 2)) (r0_4.emb (ix3 0 z1 z2) 1) = code (P 1 z2) z1 := by
      congr 1
      · congr 1
        apply Fin.ext; show 0 + 1 * z2.val = z2.val; omega
      · apply Fin.ext; show 0 + 1 * z1.val = z1.val; omega
    exact k.trans e.symm
  · intro z
    idx_vars z
    have h0 : z0 = 0 := by omega
    subst h0
    have k := (code_eq (View.ld x r0_0) (View.ld s r0_1) (View.ld a r0_2) (View.ld r r0_2) (View.ld g r0_3) (View.ld b r0_3) z1 z2)
    rw [channels0, hP] at k
    have e : code (P (r0_0.emb (ix3 0 z1 z2) 0) (r0_0.emb (ix3 0 z1 z2) 2)) (r0_0.emb (ix3 0 z1 z2) 1) = code (P 0 z2) z1 := by
      congr 1
      · congr 1
        apply Fin.ext; show 0 + 1 * z2.val = z2.val; omega
      · apply Fin.ext; show 0 + 1 * z1.val = z1.val; omega
    exact k.trans e.symm

/-- The array of scales. -/
theorem scale_apply (y : S2x1x3072.Idx) : out0_7 x s a r g b y = scale (pixelOf x s a r g b (y 0) (y 2)) := by
  unfold_out out0_7
  refine View.canon_apply_of_pieces (Val := Elt Ideal) (S := S2x1x3072) (e := .f32)
    (fun y => scale (pixelOf x s a r g b (y 0) (y 2))) _ ?_ y (cover0_7 _ _ y)
  generalize hP : pixelOf x s a r g b = P
  intro p hp
  simp only [List.mem_cons, List.mem_nil_iff, or_false] at hp
  rcases hp with rfl | rfl
  · intro z
    idx_vars z
    have h0 : z0 = 0 := by omega
    have h1 : z1 = 0 := by omega
    subst h0 h1
    have k := (scale_eq' (View.ld x r0_4) (View.ld s r0_5) (View.ld a r0_6) (View.ld r r0_6) (View.ld g r0_3) (View.ld b r0_3) z2)
    rw [channels1, hP] at k
    have a0 : r0_5.emb (ix3 0 0 z2) 0 = (1 : Fin 2) := rfl
    have a2 : r0_5.emb (ix3 0 0 z2) 2 = z2 := Fin.ext (by show 0 + 1 * z2.val = z2.val; omega)
    have e : scale (P (r0_5.emb (ix3 0 0 z2) 0) (r0_5.emb (ix3 0 0 z2) 2)) = scale (P 1 z2) := congrArg scale (congrArg₂ P a0 a2)
    exact (stored' _ z2).trans (k.trans e.symm)
  · intro z
    idx_vars z
    have h0 : z0 = 0 := by omega
    have h1 : z1 = 0 := by omega
    subst h0 h1
    have k := (scale_eq (View.ld x r0_0) (View.ld s r0_1) (View.ld a r0_2) (View.ld r r0_2) (View.ld g r0_3) (View.ld b r0_3) z2)
    rw [channels0, hP] at k
    have a0 : r0_1.emb (ix3 0 0 z2) 0 = (0 : Fin 2) := rfl
    have a2 : r0_1.emb (ix3 0 0 z2) 2 = z2 := Fin.ext (by show 0 + 1 * z2.val = z2.val; omega)
    have e : scale (P (r0_1.emb (ix3 0 0 z2) 0) (r0_1.emb (ix3 0 0 z2) 2)) = scale (P 0 z2) := congrArg scale (congrArg₂ P a0 a2)
    exact (stored _ _ _ z2).trans (k.trans e.symm)

end

end Cert.Act1RefIdeal.Value

end
-- ==== Proof.Act1RefArray.lean ====
/-
  The reference of the third call, run: its result arrays hold the codes and the scales of the first activation.
-/
module

public import proofs.«01_k».proof.Proof.Gen.Act1RefIdeal.Value
public import proofs.«01_k».proof.Proof.Act1RefBody
public import Idealize.ShloMosaic.Lib.Pipeline.ValueKit

@[expose] public section

set_option maxRecDepth 16384

noncomputable section

namespace Cert.Act1RefIdeal.Value

open Idealize.ShloMosaic Idealize.ShloMosaic.TcCoe Idealize.SL.Sem
open Cert.Act1RefIdeal Cert.Act1RefIdeal.Gen Cert.Quant

variable (m : (ℓ : Loc nD τ sig) → Buf (Elt Ideal) ℓ) (ρ : Dev nD → PrngReg)

/-- The one grid point's blocks are the arrays. -/
theorem idx : ∀ t : Fin cfg0.N, win0_0.index t = ![0, 0, 0] ∧ win0_1.index t = ![0, 0, 0] ∧ win0_2.index t = ![0, 0, 0, 0]
    ∧ win0_3.index t = ![0, 0, 0, 0] ∧ win0_4.index t = ![0, 0] ∧ win0_5.index t = ![0, 0] ∧ win0_6.index t = ![0, 0, 0]
    ∧ win0_7.index t = ![0, 0, 0] := by
  decide +kernel

/-- The codes of the input, in the argument. -/
theorem block0 (c : Dev nD) (t : Fin cfg0.N) (b : Fin 2) (i : Fin 1920) (q : Fin 3072) :
    iblk m c 0 t (ix3 b i q) = m ((c : Thread nD τ).loc main_arg0) (ix3 b i q) := by
  blk_ext! [iblk, V, idx t]

/-- Its scales. -/
theorem block1 (c : Dev nD) (t : Fin cfg0.N) (b : Fin 2) (q : Fin 3072) :
    iblk m c 1 t (ix3 b 0 q) = m ((c : Thread nD τ).loc main_arg1) (ix2 b q) := by
  blk_ext! [iblk, V, idx t]

/-- The groups' means. -/
theorem block2 (c : Dev nD) (t : Fin cfg0.N) (b : Fin 2) (k : Fin 32) :
    iblk m c 2 t (ix4 b k 0 0) = m ((c : Thread nD τ).loc main_arg2) (ix2 b k) := by
  blk_ext! [iblk, V, idx t]

/-- The groups' reciprocal deviations. -/
theorem block3 (c : Dev nD) (t : Fin cfg0.N) (b : Fin 2) (k : Fin 32) :
    iblk m c 3 t (ix4 b k 0 0) = m ((c : Thread nD τ).loc main_arg3) (ix2 b k) := by
  blk_ext! [iblk, V, idx t]

/-- The factors of the affine map. -/
theorem block4 (c : Dev nD) (t : Fin cfg0.N) (i : Fin 1920) :
    iblk m c 4 t (ix2 i 0) = m ((c : Thread nD τ).loc main_arg4) (ix1 i) := by
  blk_ext! [iblk, V, idx t]

/-- Its summands. -/
theorem block5 (c : Dev nD) (t : Fin cfg0.N) (i : Fin 1920) :
    iblk m c 5 t (ix2 i 0) = m ((c : Thread nD τ).loc main_arg5) (ix1 i) := by
  blk_ext! [iblk, V, idx t]

/-- The activation that the arguments determine. -/
abbrev act (c : Dev nD) : Fin 2 → Fin 3072 → Fin 1920 → EReal :=
  activation1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The pixels of the blocks are those of the activation. -/
theorem pixelOf_eq (c : Dev nD) (t : Fin cfg0.N) :
    pixelOf (iblk m c 0 t) (iblk m c 1 t) (iblk m c 2 t) (iblk m c 3 t) (iblk m c 4 t) (iblk m c 5 t) = act m c := by
  funext b q i
  unfold pixelOf act activation1
  simp only [block0, block1, block2, block3, block4, block5]

/-- The array of codes after the run. -/
theorem codes (c : Dev nD) : (dats m 0 c).arrAt 6 cfg0.N = fun y => code (act m c (y 0) (y 2)) (y 1) := by
  refine (dats m 0 c).arrAt_eq_of_covers 6 _ (by decide +kernel) fun t hf y => ?_
  have h := fun y => (codes_apply _ _ _ _ _ _ y).trans (congrArg (fun f : Fin 2 → Fin 3072 → Fin 1920 → EReal => code (f (y 0) (y 2)) (y 1)) (pixelOf_eq m c t))
  generalize act m c = G at h ⊢
  have e0 : ((win0_6.blk t).view.emb y 0).val = (y 0).val := by blk_simp [idx t]
  have e1 : ((win0_6.blk t).view.emb y 1).val = (y 1).val := by blk_simp [idx t]
  have e2 : ((win0_6.blk t).view.emb y 2).val = (y 2).val := by blk_simp [idx t]
  have e : code (G ((win0_6.blk t).view.emb y 0) ((win0_6.blk t).view.emb y 2)) ((win0_6.blk t).view.emb y 1) = code (G (y 0) (y 2)) (y 1) := by
    congr 1
    · congr 1
      · exact Fin.ext e0
      · exact Fin.ext e2
    · exact Fin.ext e1
  have k : (dats m 0 c).after 6 t y = code (G (y 0) (y 2)) (y 1) := by
    rw [after0_6]
    exact h y
  exact k.trans e.symm

/-- The array of scales after the run. -/
theorem scales (c : Dev nD) : (dats m 0 c).arrAt 7 cfg0.N = fun y => scale (act m c (y 0) (y 2)) := by
  refine (dats m 0 c).arrAt_eq_of_covers 7 _ (by decide +kernel) fun t hf y => ?_
  have h := fun y => (scale_apply _ _ _ _ _ _ y).trans (congrArg (fun f : Fin 2 → Fin 3072 → Fin 1920 → EReal => scale (f (y 0) (y 2))) (pixelOf_eq m c t))
  generalize act m c = G at h ⊢
  have e0 : ((win0_7.blk t).view.emb y 0).val = (y 0).val := by blk_simp [idx t]
  have e2 : ((win0_7.blk t).view.emb y 2).val = (y 2).val := by blk_simp [idx t]
  have e : scale (G ((win0_7.blk t).view.emb y 0) ((win0_7.blk t).view.emb y 2)) = scale (G (y 0) (y 2)) := by
    congr 1
    congr 1
    · exact Fin.ext e0
    · exact Fin.ext e2
  have k : (dats m 0 c).after 7 t y = scale (G (y 0) (y 2)) := by
    rw [after0_7]
    exact h y
  exact k.trans e.symm

end Cert.Act1RefIdeal.Value

end
-- ==== Proof.Act1.lean ====
/-
  The third call: over the extended reals the kernel and the reference end with equal arrays of codes and equal arrays
  of scales.
-/
module

public import proofs.«01_k».proof.Defs
public import proofs.«01_k».proof.Proof.Act1Array
public import proofs.«01_k».proof.Proof.Act1RefArray

@[expose] public section

noncomputable section

namespace Cert

open Idealize.ShloMosaic Idealize.SL.Sem

/-- The idealized kernel is the kernel. -/
theorem preserves_act1 : preserves_Act1_Act1Ideal := trivial

/-- Kernel and reference run, leave the arguments as they were, and end with the same two arrays. -/
theorem algebraic_act1 : algebraic_Act1Ideal_Act1RefIdeal (hAct1Ideal := Act1Ideal.Gen.facts) (hAct1RefIdeal := Act1RefIdeal.Gen.facts) := by
  intro m g m' g' _ hm
  refine ⟨fun c => (Act1Ideal.Gen.dats m 0 c).arrAt 6 Act1Ideal.cfg0.N, fun c => (Act1Ideal.Gen.dats m 0 c).arrAt 7 Act1Ideal.cfg0.N,
    Act1Ideal.Value.run_blocks m g, ?_⟩
  refine (θ_run _ _ _).mono (fun r h c => ?_) (Act1RefIdeal.Value.run_blocks m' g')
  obtain ⟨hv, hw, h0, h1, h2, h3, h4, h5⟩ := h c
  obtain ⟨e0, e1, e2, e3, e4, e5⟩ := hm c
  have e : Act1RefIdeal.Value.act m' c = Act1Ideal.Value.act m c := by
    show Quant.activation1 (m' (c.tc.loc Act1RefIdeal.main_arg0)) (m' (c.tc.loc Act1RefIdeal.main_arg1)) (m' (c.tc.loc Act1RefIdeal.main_arg2))
        (m' (c.tc.loc Act1RefIdeal.main_arg3)) (m' (c.tc.loc Act1RefIdeal.main_arg4)) (m' (c.tc.loc Act1RefIdeal.main_arg5))
      = Quant.activation1 (m (c.tc.loc Act1Ideal.main_arg0)) (m (c.tc.loc Act1Ideal.main_arg1)) (m (c.tc.loc Act1Ideal.main_arg2))
        (m (c.tc.loc Act1Ideal.main_arg3)) (m (c.tc.loc Act1Ideal.main_arg4)) (m (c.tc.loc Act1Ideal.main_arg5))
    rw [e0, e1, e2, e3, e4, e5]
  refine ⟨?_, ?_, h0, h1, h2, h3, h4, h5⟩
  · refine hv.trans ((Act1RefIdeal.Value.codes m' c).trans (Eq.trans ?_ (Act1Ideal.Value.codes m c).symm))
    rw [e]
    rfl
  · refine hw.trans ((Act1RefIdeal.Value.scales m' c).trans (Eq.trans ?_ (Act1Ideal.Value.scales m c).symm))
    rw [e]
    rfl

end Cert

end
-- ==== Proof.Conv1Taps.lean ====
/-
  What one of the nine taps of the convolution's accumulation adds, read at an index, over the extended reals: the dot product
  over the input channels `i` of the weight `w[tap, o, i]` and the 256 lanes of the window that begin at the tap's lane, with
  the first column (or the last) masked where the tap moves a column across the edge of the image.
-/
module

public import proofs.«01_k».proof.Proof.Gen.Conv1Ideal.Skeleton
public import proofs.«01_k».proof.Proof.Roll
public import proofs.«01_k».proof.Proof.Mask

@[expose] public section

set_option maxRecDepth 16384

noncomputable section

namespace Cert.Conv1Ideal.Value

open Idealize.ShloMosaic Idealize.SL.Sem
open Cert.Conv1Ideal Cert.Conv1Ideal.Gen Cert.Mask

/-- Tap 0 (nothing is accumulated yet). -/
theorem tap0 (c : Ideal .f32) (a b : FVec Ideal S1920x128 .bf16) (x2 : Vec Ideal S1x1920x128 .fp8e4m3) (x6 : Vec Ideal S1x1x128 .f32)
    (x3 : Vec Ideal S1x1920x128 .fp8e4m3) (x7 : Vec Ideal S1x1x128 .f32) (w : Vec Ideal S9x1280x1920 .fp8e4m3)
    (o : Fin 1280) (p : Fin 256) :
    k0_pay7 (F := Ideal) (k0_pay5 c a b x2 x6 x3 x7)
        (k0_pay6 (View.ld w (Rect.unit ![0, 0, 0] ![1, 1280, 1920] inb_S9x1280x1920_S1x1280x1920_0_0_0))) (constant S1280x256 .f32 0x00000000#32) (ix2 o p)
      = ∑ i : Fin 1920, w (ix3 0 o i) * (k0_pay4 c a b x2 x6 x3 x7 (ix2 i ⟨p.val + 63, by omega⟩) * notCol 0 p.val) := by
  unfold k0_pay7 k0_pay5 k0_pay6
  dsimp only
  generalize k0_pay4 c a b x2 x6 x3 x7 = W
  rw [Roll.window _ 63 (by decide) (by decide)]
  pointwise
  rw [lane0 p.val (by omega)]
  exact Finset.sum_congr rfl fun i _ => by rw [Roll.lanes_apply]

/-- Tap 1. -/
theorem tap1 (W : FVec Ideal S1920x512 .bf16) (w : Vec Ideal S9x1280x1920 .fp8e4m3) (acc : Vec Ideal S1280x256 .f32) (o : Fin 1280) (p : Fin 256) :
    k0_pay8 (F := Ideal) W (View.ld w (Rect.unit ![1, 0, 0] ![1, 1280, 1920] inb_S9x1280x1920_S1x1280x1920_1_0_0)) acc (ix2 o p)
      = acc (ix2 o p) + ∑ i : Fin 1920, w (ix3 1 o i) * W (ix2 i ⟨p.val + 64, by omega⟩) := by
  unfold k0_pay8
  dsimp only
  rw [Roll.window _ 64 (by decide) (by decide)]
  pointwise
  exact congrArg _ (Finset.sum_congr rfl fun i _ => by rw [Roll.lanes_apply])

/-- Tap 2. -/
theorem tap2 (W : FVec Ideal S1920x512 .bf16) (w : Vec Ideal S9x1280x1920 .fp8e4m3) (acc : Vec Ideal S1280x256 .f32) (o : Fin 1280) (p : Fin 256) :
    k0_pay10 (F := Ideal) (k0_pay9 W (View.ld w (Rect.unit ![2, 0, 0] ![1, 1280, 1920] inb_S9x1280x1920_S1x1280x1920_2_0_0))) acc (ix2 o p)
      = acc (ix2 o p) + ∑ i : Fin 1920, w (ix3 2 o i) * (W (ix2 i ⟨p.val + 65, by omega⟩) * notCol 63 p.val) := by
  unfold k0_pay10 k0_pay9
  dsimp only
  rw [Roll.window _ 65 (by decide) (by decide)]
  pointwise
  rw [lane63 p.val (by omega)]
  exact congrArg _ (Finset.sum_congr rfl fun i _ => by rw [Roll.lanes_apply])

/-- Tap 3. -/
theorem tap3 (W : FVec Ideal S1920x512 .bf16) (w : Vec Ideal S9x1280x1920 .fp8e4m3) (acc : Vec Ideal S1280x256 .f32) (o : Fin 1280) (p : Fin 256) :
    k0_pay11 (F := Ideal) W (View.ld w (Rect.unit ![3, 0, 0] ![1, 1280, 1920] inb_S9x1280x1920_S1x1280x1920_3_0_0)) acc (ix2 o p)
      = acc (ix2 o p) + ∑ i : Fin 1920, w (ix3 3 o i) * (W (ix2 i ⟨p.val + 127, by omega⟩) * notCol 0 p.val) := by
  unfold k0_pay11
  dsimp only
  rw [Roll.window _ 127 (by decide) (by decide)]
  pointwise
  rw [lane0 p.val (by omega)]
  exact congrArg _ (Finset.sum_congr rfl fun i _ => by rw [Roll.lanes_apply])

/-- Tap 4. -/
theorem tap4 (W : FVec Ideal S1920x512 .bf16) (w : Vec Ideal S9x1280x1920 .fp8e4m3) (acc : Vec Ideal S1280x256 .f32) (o : Fin 1280) (p : Fin 256) :
    k0_pay14 (F := Ideal) (k0_pay12 W) (k0_pay13 (View.ld w (Rect.unit ![4, 0, 0] ![1, 1280, 1920] inb_S9x1280x1920_S1x1280x1920_4_0_0))) (constant S1280x256 .f32 0x00000000#32) acc (ix2 o p)
      = acc (ix2 o p) + ∑ i : Fin 1920, w (ix3 4 o i) * W (ix2 i ⟨p.val + 128, by omega⟩) := by
  unfold k0_pay14 k0_pay12 k0_pay13
  dsimp only
  rw [Roll.window _ 128 (by decide) (by decide)]
  pointwise
  exact congrArg _ (Finset.sum_congr rfl fun i _ => by rw [Roll.lanes_apply])

/-- Tap 5. -/
theorem tap5 (W : FVec Ideal S1920x512 .bf16) (w : Vec Ideal S9x1280x1920 .fp8e4m3) (acc : Vec Ideal S1280x256 .f32) (o : Fin 1280) (p : Fin 256) :
    k0_pay15 (F := Ideal) W (View.ld w (Rect.unit ![5, 0, 0] ![1, 1280, 1920] inb_S9x1280x1920_S1x1280x1920_5_0_0)) acc (ix2 o p)
      = acc (ix2 o p) + ∑ i : Fin 1920, w (ix3 5 o i) * (W (ix2 i ⟨p.val + 129, by omega⟩) * notCol 63 p.val) := by
  unfold k0_pay15
  dsimp only
  rw [Roll.window _ 129 (by decide) (by decide)]
  pointwise
  rw [lane63 p.val (by omega)]
  exact congrArg _ (Finset.sum_congr rfl fun i _ => by rw [Roll.lanes_apply])

/-- Tap 6. -/
theorem tap6 (W : FVec Ideal S1920x512 .bf16) (w : Vec Ideal S9x1280x1920 .fp8e4m3) (acc : Vec Ideal S1280x256 .f32) (o : Fin 1280) (p : Fin 256) :
    k0_pay18 (F := Ideal) (k0_pay16 W) k0_pay17 0#32 (View.ld w (Rect.unit ![6, 0, 0] ![1, 1280, 1920] inb_S9x1280x1920_S1x1280x1920_6_0_0)) acc (ix2 o p)
      = acc (ix2 o p) + ∑ i : Fin 1920, w (ix3 6 o i) * (W (ix2 i ⟨p.val + 191, by omega⟩) * notCol 0 p.val) := by
  unfold k0_pay18 k0_pay16 k0_pay17
  dsimp only
  rw [Roll.window _ 191 (by decide) (by decide)]
  pointwise
  rw [lane0 p.val (by omega)]
  exact congrArg _ (Finset.sum_congr rfl fun i _ => by rw [Roll.lanes_apply])

/-- Tap 7. -/
theorem tap7 (W : FVec Ideal S1920x512 .bf16) (w : Vec Ideal S9x1280x1920 .fp8e4m3) (acc : Vec Ideal S1280x256 .f32) (o : Fin 1280) (p : Fin 256) :
    k0_pay19 (F := Ideal) W (View.ld w (Rect.unit ![7, 0, 0] ![1, 1280, 1920] inb_S9x1280x1920_S1x1280x1920_7_0_0)) acc (ix2 o p)
      = acc (ix2 o p) + ∑ i : Fin 1920, w (ix3 7 o i) * W (ix2 i ⟨p.val + 192, by omega⟩) := by
  unfold k0_pay19
  dsimp only
  rw [Roll.window _ 192 (by decide) (by decide)]
  pointwise
  exact congrArg _ (Finset.sum_congr rfl fun i _ => by rw [Roll.lanes_apply])

/-- Tap 8. -/
theorem tap8 (W : FVec Ideal S1920x512 .bf16) (w : Vec Ideal S9x1280x1920 .fp8e4m3) (acc : Vec Ideal S1280x256 .f32) (o : Fin 1280) (p : Fin 256) :
    k0_pay22 (F := Ideal) (k0_pay20 W) (iota .tc S1x256 32 [1] iota_S1x256_d1_w32) k0_pay21 (View.ld w (Rect.unit ![8, 0, 0] ![1, 1280, 1920] inb_S9x1280x1920_S1x1280x1920_8_0_0)) acc (ix2 o p)
      = acc (ix2 o p) + ∑ i : Fin 1920, w (ix3 8 o i) * (W (ix2 i ⟨p.val + 193, by omega⟩) * notCol 63 p.val) := by
  unfold k0_pay22 k0_pay20 k0_pay21
  dsimp only
  rw [Roll.window _ 193 (by decide) (by decide)]
  pointwise
  rw [lane63 p.val (by omega)]
  exact congrArg _ (Finset.sum_congr rfl fun i _ => by rw [Roll.lanes_apply])

end Cert.Conv1Ideal.Value

end
-- ==== Proof.Conv1Window.lean ====
/-
  The window of 512 pixels that one block of the kernel puts together from four blocks of 128: the 256 pixels of its tile
  with 128 pixels before and 128 after; what lies outside the image is 0.
-/
module

public import proofs.«01_k».proof.Proof.Gen.Conv1Ideal.Skeleton
public import proofs.«01_k».proof.Proof.Flat

@[expose] public section

set_option maxRecDepth 16384

noncomputable section

namespace Cert.Conv1Ideal.Value

open Idealize.ShloMosaic Idealize.SL.Sem
open Cert.Conv1Ideal Cert.Conv1Ideal.Gen Cert.Flat

/-- The factor of the last quarter of the window: 0 in the last tile, 1 in the others. -/
theorem mask3 (i : grid0.Coords) : k0_pay1 (F := Ideal) i = if (i 0).val % 12 = 11 then 0 else 1 := by
  pointwise [k0_pay1]
  rw [tile ⟨(i 0).val, (i 0).isLt⟩]
  dsimp only
  rw [tile_eq _ 11 (by decide)]
  split <;> rfl

/-- The window at channel `o` and lane `q`: where `g o` are the pixels of the image, the pixel `256 T + q - 128` of tile `T`, or 0
outside the image. -/
theorem window_apply (i : grid0.Coords) (x0 x1 x2 x3 : Vec Ideal S1x1920x128 .fp8e4m3) (x4 x5 x6 x7 : Vec Ideal S1x1x128 .f32)
    (g : Fin 1920 → Fin 3072 → EReal) (T : ℕ) (hT : T < 12) (hi : (i 0).val % 12 = T)
    (h0 : ∀ (hT0 : T ≠ 0) (o : Fin 1920) (l : Fin 128), x0 (ix3 0 o l) * x4 (ix3 0 0 l) = g o ⟨256 * T - 128 + l.val, by omega⟩)
    (h1 : ∀ (o : Fin 1920) (l : Fin 128), x1 (ix3 0 o l) * x5 (ix3 0 0 l) = g o ⟨256 * T + l.val, by omega⟩)
    (h2 : ∀ (o : Fin 1920) (l : Fin 128), x2 (ix3 0 o l) * x6 (ix3 0 0 l) = g o ⟨256 * T + 128 + l.val, by omega⟩)
    (h3 : ∀ (hT11 : T ≠ 11) (o : Fin 1920) (l : Fin 128), x3 (ix3 0 o l) * x7 (ix3 0 0 l) = g o ⟨256 * T + 256 + l.val, by omega⟩)
    (o : Fin 1920) (q : Fin 512) :
    k0_pay4 (k0_pay1 i) (k0_pay2 i x0 x4) (k0_pay3 x1 x5) x2 x6 x3 x7 (ix2 o q)
      = if h : 128 ≤ 256 * T + q.val ∧ 256 * T + q.val < 3200 then g o ⟨256 * T + q.val - 128, by omega⟩ else 0 := by
  have hq := q.isLt
  rw [mask3]
  pointwise [k0_pay4, k0_pay2, k0_pay3]
  rw [tile ⟨(i 0).val, (i 0).isLt⟩]
  dsimp only
  rw [tile_eq _ 0 (by decide), hi]
  by_cases hq0 : q.val < 128
  · rw [dif_pos hq0]
    by_cases hT0 : T = 0
    · rw [if_pos hT0, dif_neg (by omega)]; rfl
    · rw [if_neg hT0, dif_pos (by omega)]
      exact (h0 hT0 o ⟨q.val, hq0⟩).trans (congrArg (g o) (Fin.ext (by show 256 * T - 128 + q.val = 256 * T + q.val - 128; omega)))
  · rw [dif_neg hq0]
    by_cases hq1 : q.val - 128 < 128
    · rw [dif_pos hq1, dif_pos (by omega)]
      exact (h1 o ⟨q.val - 128, hq1⟩).trans (congrArg (g o) (Fin.ext (by show 256 * T + (q.val - 128) = 256 * T + q.val - 128; omega)))
    · rw [dif_neg hq1]
      by_cases hq2 : q.val - 128 - 128 < 128
      · rw [dif_pos hq2, dif_pos (by omega)]
        exact (h2 o ⟨q.val - 128 - 128, hq2⟩).trans (congrArg (g o) (Fin.ext (by show 256 * T + 128 + (q.val - 128 - 128) = 256 * T + q.val - 128; omega)))
      · rw [dif_neg hq2]
        by_cases hT11 : T = 11
        · rw [if_pos hT11, dif_neg (by omega), mul_zero, mul_zero]
        · rw [if_neg hT11, dif_pos (by omega), mul_one]
          exact (h3 hT11 o ⟨q.val - 128 - 128 - 128, by omega⟩).trans
            (congrArg (g o) (Fin.ext (by show 256 * T + 256 + (q.val - 128 - 128 - 128) = 256 * T + q.val - 128; omega)))

end Cert.Conv1Ideal.Value

end
-- ==== Proof.Act2.lean ====
/-
  The second activation before it is quantised, in plain terms: the convolution of the first activation with its weights,
  scaled and shifted per channel, normalised by groups of 40 channels and passed through SiLU.
-/
module

public import proofs.«01_k».proof.Proof.Conv
public import proofs.«01_k».proof.Proof.Quant

@[expose] public section

noncomputable section

namespace Cert.Conv

open Idealize.ShloMosaic Cert.Quant

/-- The convolution's input at image `b`, channel `i` and pixel `q`: code times scale. -/
def input (a : (⟨3, ![2, 1920, 3072]⟩ : Shape).Idx → EReal) (s : (⟨3, ![2, 1, 3072]⟩ : Shape).Idx → EReal) (b : Fin 2) (i : Fin 1920)
    (q : Fin 3072) : EReal := a (ix3 b i q) * s (ix3 b 0 q)

/-- Its weight at tap (`kh`, `kw`), from input channel `i` to output channel `o`. -/
def weight (w : (⟨4, ![1280, 1920, 3, 3]⟩ : Shape).Idx → EReal) (kh kw : Fin 3) (o : Fin 1280) (i : Fin 1920) : EReal := w (ix4 o i kh kw)

/-- The second activation at image `b`, pixel `q` and channel `o`, of the ten arguments: the first activation's codes [image, channel,
pixel] and scales [image, 1, pixel]; the weights' codes [output channel, input channel, kh, kw] and scales; the bias; the summand per
image and channel; the groups' means and reciprocal deviations; the factors and the summands of the affine map. -/
def activation2 (a : (⟨3, ![2, 1920, 3072]⟩ : Shape).Idx → EReal) (s : (⟨3, ![2, 1, 3072]⟩ : Shape).Idx → EReal)
    (w : (⟨4, ![1280, 1920, 3, 3]⟩ : Shape).Idx → EReal) (ws b1 : (⟨1, ![1280]⟩ : Shape).Idx → EReal)
    (temb : (⟨2, ![2, 1280]⟩ : Shape).Idx → EReal) (mean rstd : (⟨2, ![2, 32]⟩ : Shape).Idx → EReal)
    (gamma beta : (⟨1, ![1280]⟩ : Shape).Idx → EReal) (b : Fin 2) (q : Fin 3072) (o : Fin 1280) : EReal :=
  normSilu (forward (weight w) (input a s b) o q * ws (ix1 o) + b1 (ix1 o)
      + temb (ix2 b o))
    (mean (ix2 b ⟨o.val / 40, by omega⟩)) (rstd (ix2 b ⟨o.val / 40, by omega⟩)) (gamma (ix1 o)) (beta (ix1 o))

end Cert.Conv

end
-- ==== Proof.Conv1Block.lean ====
/-
  What the convolution's kernel stores for one tile of 256 pixels: the codes and the scales of the second activation there.
-/
module

public import proofs.«01_k».proof.Proof.Gen.Conv1Ideal.Frame
public import proofs.«01_k».proof.Proof.Conv1Taps
public import proofs.«01_k».proof.Proof.Conv1Window
public import proofs.«01_k».proof.Proof.Act2
public import proofs.«01_k».proof.Proof.Rows
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Conv1Ideal.Value

open Idealize.ShloMosaic Idealize.ShloMosaic.TcCoe Idealize.SL.Sem
open Cert.Conv1Ideal Cert.Conv1Ideal.Gen Cert.Mask Cert.Conv Cert.Flat Cert.Quant

/-- The nine taps' accumulation, with the window `W` and tap 0's product `A0` given: the convolution. -/
theorem taps (W : FVec Ideal S1920x512 .bf16) (A0 : Vec Ideal S1280x256 .f32) (x8 : Vec Ideal S9x1280x1920 .fp8e4m3)
    (w : Fin 3 → Fin 3 → Fin 1280 → Fin 1920 → EReal) (g : Fin 1920 → Fin 3072 → EReal) (T : ℕ) (hT : T < 12)
    (h8 : ∀ (kh kw : Fin 3) (o : Fin 1280) (i : Fin 1920), x8 (ix3 ⟨3 * kh.val + kw.val, by omega⟩ o i) = w kh kw o i)
    (o : Fin 1280) (p : Fin 256)
    (hW : ∀ (i : Fin 1920) (q : Fin 512), W (ix2 i q) = flat (g i) (256 * T + q.val))
    (hA : A0 (ix2 o p) = ∑ i : Fin 1920, x8 (ix3 0 o i) * (W (ix2 i ⟨p.val + 63, by omega⟩) * notCol 0 p.val)) :
    (k0_pay22 (k0_pay20 W) (iota .tc S1x256 32 [1] iota_S1x256_d1_w32) k0_pay21 (View.ld x8 (Rect.unit ![8, 0, 0] ![1, 1280, 1920] inb_S9x1280x1920_S1x1280x1920_8_0_0)) (k0_pay19 W (View.ld x8 (Rect.unit ![7, 0, 0] ![1, 1280, 1920] inb_S9x1280x1920_S1x1280x1920_7_0_0)) (k0_pay18 (k0_pay16 W) k0_pay17 0#32 (View.ld x8 (Rect.unit ![6, 0, 0] ![1, 1280, 1920] inb_S9x1280x1920_S1x1280x1920_6_0_0)) (k0_pay15 W (View.ld x8 (Rect.unit ![5, 0, 0] ![1, 1280, 1920] inb_S9x1280x1920_S1x1280x1920_5_0_0)) (k0_pay14 (k0_pay12 W) (k0_pay13 (View.ld x8 (Rect.unit ![4, 0, 0] ![1, 1280, 1920] inb_S9x1280x1920_S1x1280x1920_4_0_0))) (constant S1280x256 .f32 0x00000000#32) (k0_pay11 W (View.ld x8 (Rect.unit ![3, 0, 0] ![1, 1280, 1920] inb_S9x1280x1920_S1x1280x1920_3_0_0)) (k0_pay10 (k0_pay9 W (View.ld x8 (Rect.unit ![2, 0, 0] ![1, 1280, 1920] inb_S9x1280x1920_S1x1280x1920_2_0_0))) (k0_pay8 W (View.ld x8 (Rect.unit ![1, 0, 0] ![1, 1280, 1920] inb_S9x1280x1920_S1x1280x1920_1_0_0)) A0)))))))) (ix2 o p)
      = forward w g o ⟨256 * T + p.val, by omega⟩ := by
  have hP : 256 * T + p.val < 3072 := by omega
  have r : ∀ (kh : ℕ) (hk : kh ≤ 2) (q : Fin 512) (hq : q.val = p.val + 65 + 64 * kh) (i : Fin 1920),
      W (ix2 i q) * notCol 63 p.val = pixel (g i) (kh + (256 * T + p.val) / 64) (2 + (256 * T + p.val) % 64) := fun kh hk q hq i => by
    rw [hW, hq, notCol_tile 63 T, show 256 * T + (p.val + 65 + 64 * kh) = 256 * T + p.val + 193 - 64 * (2 - kh) by omega,
      flat_right (g i) _ (2 - kh) hP (by omega), show 2 - (2 - kh) = kh by omega]
  have c : ∀ (kh : ℕ) (hk : kh ≤ 2) (q : Fin 512) (hq : q.val = p.val + 64 + 64 * kh) (i : Fin 1920),
      W (ix2 i q) = pixel (g i) (kh + (256 * T + p.val) / 64) (1 + (256 * T + p.val) % 64) := fun kh hk q hq i => by
    rw [hW, hq, show 256 * T + (p.val + 64 + 64 * kh) = 256 * T + p.val + 192 - 64 * (2 - kh) by omega,
      flat_mid (g i) _ (2 - kh) hP (by omega), show 2 - (2 - kh) = kh by omega]
  have l : ∀ (kh : ℕ) (hk : kh ≤ 2) (q : Fin 512) (hq : q.val = p.val + 63 + 64 * kh) (i : Fin 1920),
      W (ix2 i q) * notCol 0 p.val = pixel (g i) (kh + (256 * T + p.val) / 64) (0 + (256 * T + p.val) % 64) := fun kh hk q hq i => by
    rw [hW, hq, notCol_tile 0 T, show 256 * T + (p.val + 63 + 64 * kh) = 256 * T + p.val + 191 - 64 * (2 - kh) by omega,
      flat_left (g i) _ (2 - kh) hP (by omega), show 2 - (2 - kh) = kh by omega]
  rw [tap8, tap7, tap6, tap5, tap4, tap3, tap2, tap1, hA]
  unfold forward
  refine congrArg₂ _ (congrArg₂ _ (congrArg₂ _ (congrArg₂ _ (congrArg₂ _ (congrArg₂ _ (congrArg₂ _ (congrArg₂ _ ?_ ?_) ?_) ?_) ?_) ?_) ?_) ?_) ?_
  · exact Finset.sum_congr rfl fun i _ => congrArg₂ _ (h8 0 0 o i) (l 0 (by omega) _ (by show p.val + 63 = p.val + 63 + 64 * 0; omega) i)
  · exact Finset.sum_congr rfl fun i _ => congrArg₂ _ (h8 0 1 o i) (c 0 (by omega) _ (by show p.val + 64 = p.val + 64 + 64 * 0; omega) i)
  · exact Finset.sum_congr rfl fun i _ => congrArg₂ _ (h8 0 2 o i) (r 0 (by omega) _ (by show p.val + 65 = p.val + 65 + 64 * 0; omega) i)
  · exact Finset.sum_congr rfl fun i _ => congrArg₂ _ (h8 1 0 o i) (l 1 (by omega) _ (by show p.val + 127 = p.val + 63 + 64 * 1; omega) i)
  · exact Finset.sum_congr rfl fun i _ => congrArg₂ _ (h8 1 1 o i) (c 1 (by omega) _ (by show p.val + 128 = p.val + 64 + 64 * 1; omega) i)
  · exact Finset.sum_congr rfl fun i _ => congrArg₂ _ (h8 1 2 o i) (r 1 (by omega) _ (by show p.val + 129 = p.val + 65 + 64 * 1; omega) i)
  · exact Finset.sum_congr rfl fun i _ => congrArg₂ _ (h8 2 0 o i) (l 2 (by omega) _ (by show p.val + 191 = p.val + 63 + 64 * 2; omega) i)
  · exact Finset.sum_congr rfl fun i _ => congrArg₂ _ (h8 2 1 o i) (c 2 (by omega) _ (by show p.val + 192 = p.val + 64 + 64 * 2; omega) i)
  · exact Finset.sum_congr rfl fun i _ => congrArg₂ _ (h8 2 2 o i) (r 2 (by omega) _ (by show p.val + 193 = p.val + 65 + 64 * 2; omega) i)

/-- The activation's value, from the accumulated convolution. -/
theorem value (acc : Vec Ideal S1280x256 .f32) (ws b1 : Vec Ideal S1280x1 .f32) (te a r : Vec Ideal S1x1280x1 .f32) (g b : Vec Ideal S1280x1 .f32)
    (o : Fin 1280) (p : Fin 256) :
    k0_pay26 (F := Ideal) (k0_pay23 acc ws b1 te) (k0_pay24 a) (k0_pay25 r) g b (ix2 o p)
      = normSilu (acc (ix2 o p) * ws (ix2 o 0) + b1 (ix2 o 0) + te (ix3 0 o 0)) (a (ix3 0 o 0)) (r (ix3 0 o 0)) (g (ix2 o 0)) (b (ix2 o 0)) := by
  pointwise [k0_pay26, k0_pay23, k0_pay24, k0_pay25]
  rfl

/-- One comparison of the search, at every index: the field `f` grows by `b` if it stays below 253 and its power does not pass `v`. -/
def steps (v : FVec Ideal S8x256 .f32) (f : IVec S8x256 32) (b : BitVec 32) : IVec S8x256 32 :=
  select (andi (cmpi .slt (addi f (broadcast S8x256 b)) (broadcast S8x256 253#32))
    (cmpf .oge v (bitcastToFloat .f32 (shli (addi f (broadcast S8x256 b)) (broadcast S8x256 23#32))))) (addi f (broadcast S8x256 b)) f

theorem steps_apply (v : FVec Ideal S8x256 .f32) (f : IVec S8x256 32) (b : BitVec 32) (y : S8x256.Idx) :
    steps v f b y = step (v y) (f y) b := rfl

/-- The codes as stored, from the value `w`, the quotient `v` and the field `k` before the search's last comparison. -/
theorem codes_stored (w : FVec Ideal S1280x256 .f32) (v : FVec Ideal S8x256 .f32) (k : IVec S8x256 32) (o : Fin 1280) (q : Fin 256) :
    k0_pay33 (F := Ideal) w v k 1#32 (ix3 0 o q)
      = min (FloatOps.ofBits .f32 0x43E00000#32 : Ideal .f32) (max (FloatOps.ofBits .f32 0xC3E00000#32 : Ideal .f32)
          (w (ix2 o q) * (FloatOps.ofBits .f32 (inverseWord (steps v k 1#32 (ix2 0 q))) : Ideal .f32))) := by
  have e : k0_pay33 (F := Ideal) w v k 1#32 = shapeCast S1x1280x256 (truncf .fp8e4m3 (minimumf (broadcast S1280x256 (Scalar.ofBits .f32 0x43E00000#32))
      (maximumf (broadcast S1280x256 (Scalar.ofBits .f32 0xC3E00000#32)) (mulf w (broadcastTo S1280x256 (extractStridedSlice S1x256 ![0, 0]
        (fun y => (FloatOps.ofBits .f32 (inverseWord (steps v k 1#32 y)) : Ideal .f32)) slices_S8x256_o0_0_S1x256) broadcasts_S1x256_S1280x256)))) bitsLt_fp8e4m3_f32)
        shapeCasts_S1280x256_S1x1280x256 := rfl
  rw [e]
  pointwise

/-- The scales as stored. -/
theorem scale_stored (v : FVec Ideal S8x256 .f32) (k : IVec S8x256 32) (q : Fin 256) :
    k0_pay34 (F := Ideal) v k 1#32 (ix3 0 0 q) = (FloatOps.ofBits .f32 (scaleWord (steps v k 1#32 (ix2 0 q))) : Ideal .f32) := by
  have e : k0_pay34 (F := Ideal) v k 1#32 = shapeCast S1x1x256 (extractStridedSlice S1x256 ![0, 0]
        (fun y => (FloatOps.ofBits .f32 (scaleWord (steps v k 1#32 y)) : Ideal .f32)) slices_S8x256_o0_0_S1x256) shapeCasts_S1x256_S1x1x256 := rfl
  rw [e]
  pointwise

section

variable (h : FVec Ideal S1280x256 .f32) (a r : FVec Ideal S1280x1 .f32) (g b : Vec Ideal S1280x1 .f32)

/-- The quotient that the scale is made from, the same in all eight rows. -/
theorem quotient (j : Fin 8) (q : Fin 256) :
    k0_pay27 (F := Ideal) h a r g b (ix2 j q) = quot fun i : Fin 1280 => k0_pay26 (F := Ideal) h a r g b (ix2 i q) := by
  unfold k0_pay27
  dsimp only
  generalize k0_pay26 (F := Ideal) h a r g b = w
  have e : multiReduction .maximumf [0] S256 (absf w) 0xFF800000#32 reduces_S1280x256_S256 (.inl rfl) rfl
      = Rows.colMax (absf w) 0xFF800000#32 := Rows.max_eq _ _ _ _ _
  rw [e]
  pointwise
  rw [Rows.colMax_apply]
  rfl

/-- The field before the search's last comparison, of the quotient. -/
theorem before (v : FVec Ideal S8x256 .f32) (hv : k0_pay27 (F := Ideal) h a r g b = v) :
    k0_pay31 v (k0_pay28 h a r g b) (k0_pay29 h a r g b) (k0_pay30 h a r g b)
      = steps v (steps v (steps v (steps v (steps v (steps v (steps v (broadcast S8x256 0#32) 128#32) 64#32) 32#32) 16#32) 8#32) 4#32) 2#32 := by
  subst hv
  rfl

/-- The scale found by the search, as stored. -/
theorem scale_search (q : Fin 256) :
    k0_pay34 (F := Ideal) (k0_pay27 h a r g b) (k0_pay31 (k0_pay27 h a r g b) (k0_pay28 h a r g b) (k0_pay29 h a r g b) (k0_pay30 h a r g b)) 1#32 (ix3 0 0 q)
      = scaleOf (k0_pay27 (F := Ideal) h a r g b (ix2 0 q)) := by
  rw [before h a r g b _ rfl, scale_stored, ← ofBits_scaleWord]
  generalize k0_pay27 (F := Ideal) h a r g b = v
  unfold field
  simp only [steps_apply]
  rfl

/-- The codes as stored. -/
theorem codes_search (o : Fin 1280) (q : Fin 256) :
    k0_pay33 (F := Ideal) (k0_pay26 h a r g b) (k0_pay27 h a r g b) (k0_pay31 (k0_pay27 h a r g b) (k0_pay28 h a r g b) (k0_pay29 h a r g b) (k0_pay30 h a r g b)) 1#32 (ix3 0 o q)
      = min (FloatOps.ofBits .f32 0x43E00000#32 : Ideal .f32) (max (FloatOps.ofBits .f32 0xC3E00000#32 : Ideal .f32)
          (k0_pay26 (F := Ideal) h a r g b (ix2 o q) * Ideal.div 1 (scaleOf (k0_pay27 (F := Ideal) h a r g b (ix2 0 q))))) := by
  rw [before h a r g b _ rfl, codes_stored, ← ofBits_inverseWord]
  generalize k0_pay27 (F := Ideal) h a r g b = v
  unfold field
  simp only [steps_apply]
  rfl

end

end Cert.Conv1Ideal.Value

end
-- ==== Proof.Conv1Out.lean ====
/-
  What one grid point of the convolution's kernel leaves in its two output blocks: the codes and the scales of the second activation
  at the 256 pixels of its tile.
-/
module

public import proofs.«01_k».proof.Proof.Conv1Block

@[expose] public section

set_option maxRecDepth 16384

noncomputable section

namespace Cert.Conv1Ideal.Value

open Idealize.ShloMosaic Idealize.ShloMosaic.TcCoe Idealize.SL.Sem
open Cert.Conv1Ideal Cert.Conv1Ideal.Gen Cert.Conv Cert.Quant

theorem hz3 : (![0, 0, 0] : Fin 3 → Nat) = fun _ => 0 := by decide
theorem hz2 : (![0, 0] : Fin 2 → Nat) = fun _ => 0 := by decide

/-- The channels of pixel `P`, before they are quantised. -/
def channels (w : Fin 3 → Fin 3 → Fin 1280 → Fin 1920 → EReal) (g : Fin 1920 → Fin 3072 → EReal)
    (ws b1 : Vec Ideal S1280x1 .f32) (te a r : Vec Ideal S1x1280x1 .f32) (ga be : Vec Ideal S1280x1 .f32) (P : Fin 3072) (o : Fin 1280) : EReal :=
  normSilu (forward w g o P * ws (ix2 o 0) + b1 (ix2 o 0) + te (ix3 0 o 0)) (a (ix3 0 o 0)) (r (ix3 0 o 0)) (ga (ix2 o 0)) (be (ix2 o 0))

section

variable (acc : Vec Ideal S1280x256 .f32) (ws b1 : Vec Ideal S1280x1 .f32) (te a r : Vec Ideal S1x1280x1 .f32) (ga be : Vec Ideal S1280x1 .f32)
  (w : Fin 3 → Fin 3 → Fin 1280 → Fin 1920 → EReal) (g : Fin 1920 → Fin 3072 → EReal) (T : ℕ) (hT : T < 12)
  (hacc : ∀ (o : Fin 1280) (p : Fin 256), acc (ix2 o p) = forward w g o ⟨256 * T + p.val, by omega⟩)

include hacc

/-- The value before the quantiser, of an accumulator that holds the convolution. -/
theorem value_of (o : Fin 1280) (p : Fin 256) : k0_pay26 (F := Ideal) (k0_pay23 acc ws b1 te) (k0_pay24 a) (k0_pay25 r) ga be (ix2 o p)
    = channels w g ws b1 te a r ga be ⟨256 * T + p.val, by omega⟩ o := by
  rw [value, hacc]
  rfl

/-- The codes made of it. -/
theorem codes_of (o : Fin 1280) (p : Fin 256) :
    k0_pay33 (F := Ideal) (k0_pay26 (k0_pay23 acc ws b1 te) (k0_pay24 a) (k0_pay25 r) ga be) (k0_pay27 (k0_pay23 acc ws b1 te) (k0_pay24 a) (k0_pay25 r) ga be)
      (k0_pay31 (k0_pay27 (k0_pay23 acc ws b1 te) (k0_pay24 a) (k0_pay25 r) ga be) (k0_pay28 (k0_pay23 acc ws b1 te) (k0_pay24 a) (k0_pay25 r) ga be)
        (k0_pay29 (k0_pay23 acc ws b1 te) (k0_pay24 a) (k0_pay25 r) ga be) (k0_pay30 (k0_pay23 acc ws b1 te) (k0_pay24 a) (k0_pay25 r) ga be)) 1#32 (ix3 0 o p)
      = code (channels w g ws b1 te a r ga be ⟨256 * T + p.val, by omega⟩) o := by
  rw [codes_search, quotient]
  simp only [value_of acc ws b1 te a r ga be w g T hT hacc]
  rfl

/-- The scale made of it. -/
theorem scale_of (p : Fin 256) :
    k0_pay34 (F := Ideal) (k0_pay27 (k0_pay23 acc ws b1 te) (k0_pay24 a) (k0_pay25 r) ga be)
      (k0_pay31 (k0_pay27 (k0_pay23 acc ws b1 te) (k0_pay24 a) (k0_pay25 r) ga be) (k0_pay28 (k0_pay23 acc ws b1 te) (k0_pay24 a) (k0_pay25 r) ga be)
        (k0_pay29 (k0_pay23 acc ws b1 te) (k0_pay24 a) (k0_pay25 r) ga be) (k0_pay30 (k0_pay23 acc ws b1 te) (k0_pay24 a) (k0_pay25 r) ga be)) 1#32 (ix3 0 0 p)
      = scale (channels w g ws b1 te a r ga be ⟨256 * T + p.val, by omega⟩) := by
  rw [scale_search, quotient]
  simp only [value_of acc ws b1 te a r ga be w g T hT hacc]
  rfl

end

/-- The block of codes. -/
theorem codes_apply (c : Dev nD) (t : Fin cfg0.N) (x0 : Vec Ideal S1x1920x128 .fp8e4m3) (x1 : Vec Ideal S1x1920x128 .fp8e4m3) (x2 : Vec Ideal S1x1920x128 .fp8e4m3) (x3 : Vec Ideal S1x1920x128 .fp8e4m3) (x4 : Vec Ideal S1x1x128 .f32) (x5 : Vec Ideal S1x1x128 .f32) (x6 : Vec Ideal S1x1x128 .f32) (x7 : Vec Ideal S1x1x128 .f32) (x8 : Vec Ideal S9x1280x1920 .fp8e4m3) (x9 : Vec Ideal S1280x1 .f32) (x10 : Vec Ideal S1280x1 .f32) (x11 : Vec Ideal S1x1280x1 .f32) (x12 : Vec Ideal S1x1280x1 .f32) (x13 : Vec Ideal S1x1280x1 .f32) (x14 : Vec Ideal S1280x1 .f32) (x15 : Vec Ideal S1280x1 .f32)
    (w : Fin 3 → Fin 3 → Fin 1280 → Fin 1920 → EReal) (g : Fin 1920 → Fin 3072 → EReal) (T : ℕ) (hT : T < 12)
    (hi : (grid0.coords t 0).val % 12 = T)
    (h0 : ∀ (hT0 : T ≠ 0) (i : Fin 1920) (l : Fin 128), x0 (ix3 0 i l) * x4 (ix3 0 0 l) = g i ⟨256 * T - 128 + l.val, by omega⟩)
    (h1 : ∀ (i : Fin 1920) (l : Fin 128), x1 (ix3 0 i l) * x5 (ix3 0 0 l) = g i ⟨256 * T + l.val, by omega⟩)
    (h2 : ∀ (i : Fin 1920) (l : Fin 128), x2 (ix3 0 i l) * x6 (ix3 0 0 l) = g i ⟨256 * T + 128 + l.val, by omega⟩)
    (h3 : ∀ (hT11 : T ≠ 11) (i : Fin 1920) (l : Fin 128), x3 (ix3 0 i l) * x7 (ix3 0 0 l) = g i ⟨256 * T + 256 + l.val, by omega⟩)
    (h8 : ∀ (kh kw : Fin 3) (o : Fin 1280) (i : Fin 1920), x8 (ix3 ⟨3 * kh.val + kw.val, by omega⟩ o i) = w kh kw o i)
    (o : Fin 1280) (p : Fin 256) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) x0 x1 x2 x3 x4 x5 x6 x7 x8 x9 x10 x11 x12 x13 x14 x15 (ix3 0 o p)
      = code (channels w g x9 x10 x11 x12 x13 x14 x15 ⟨256 * T + p.val, by omega⟩) o := by
  unfold out0_A_16
  rw [View.read_writes_eq_canon _ _ _ (fun y => cover0_A_16 _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp (config := {zeta := false}) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, View.ld_unit_zero (S := S1280x1) hz2,
    View.ld_unit_zero (S := S1x1280x1) hz3, View.ld_unit_zero (S := S1x1920x128) hz3, View.ld_unit_zero (S := S1x1x128) hz3,
    View.readCov_cons_unit_lit' (S := S1280x256) _ _ _ _ _ (congrFun hz2) (congrFun hz2)]
  exact codes_of _ x9 x10 x11 x12 x13 x14 x15 w g T hT (fun o p => taps _ _ x8 w g T hT h8 o p (window_apply (grid0.coords t) x0 x1 x2 x3 x4 x5 x6 x7 g T hT hi h0 h1 h2 h3) (tap0 _ _ _ _ _ _ _ _ o p)) o p

/-- The block of scales. -/
theorem scale_apply (c : Dev nD) (t : Fin cfg0.N) (x0 : Vec Ideal S1x1920x128 .fp8e4m3) (x1 : Vec Ideal S1x1920x128 .fp8e4m3) (x2 : Vec Ideal S1x1920x128 .fp8e4m3) (x3 : Vec Ideal S1x1920x128 .fp8e4m3) (x4 : Vec Ideal S1x1x128 .f32) (x5 : Vec Ideal S1x1x128 .f32) (x6 : Vec Ideal S1x1x128 .f32) (x7 : Vec Ideal S1x1x128 .f32) (x8 : Vec Ideal S9x1280x1920 .fp8e4m3) (x9 : Vec Ideal S1280x1 .f32) (x10 : Vec Ideal S1280x1 .f32) (x11 : Vec Ideal S1x1280x1 .f32) (x12 : Vec Ideal S1x1280x1 .f32) (x13 : Vec Ideal S1x1280x1 .f32) (x14 : Vec Ideal S1280x1 .f32) (x15 : Vec Ideal S1280x1 .f32)
    (w : Fin 3 → Fin 3 → Fin 1280 → Fin 1920 → EReal) (g : Fin 1920 → Fin 3072 → EReal) (T : ℕ) (hT : T < 12)
    (hi : (grid0.coords t 0).val % 12 = T)
    (h0 : ∀ (hT0 : T ≠ 0) (i : Fin 1920) (l : Fin 128), x0 (ix3 0 i l) * x4 (ix3 0 0 l) = g i ⟨256 * T - 128 + l.val, by omega⟩)
    (h1 : ∀ (i : Fin 1920) (l : Fin 128), x1 (ix3 0 i l) * x5 (ix3 0 0 l) = g i ⟨256 * T + l.val, by omega⟩)
    (h2 : ∀ (i : Fin 1920) (l : Fin 128), x2 (ix3 0 i l) * x6 (ix3 0 0 l) = g i ⟨256 * T + 128 + l.val, by omega⟩)
    (h3 : ∀ (hT11 : T ≠ 11) (i : Fin 1920) (l : Fin 128), x3 (ix3 0 i l) * x7 (ix3 0 0 l) = g i ⟨256 * T + 256 + l.val, by omega⟩)
    (h8 : ∀ (kh kw : Fin 3) (o : Fin 1280) (i : Fin 1920), x8 (ix3 ⟨3 * kh.val + kw.val, by omega⟩ o i) = w kh kw o i)
    (p : Fin 256) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) x0 x1 x2 x3 x4 x5 x6 x7 x8 x9 x10 x11 x12 x13 x14 x15 (ix3 0 0 p)
      = scale (channels w g x9 x10 x11 x12 x13 x14 x15 ⟨256 * T + p.val, by omega⟩) := by
  unfold out0_A_17
  rw [View.read_writes_eq_canon _ _ _ (fun y => cover0_A_17 _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp (config := {zeta := false}) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, View.ld_unit_zero (S := S1280x1) hz2,
    View.ld_unit_zero (S := S1x1280x1) hz3, View.ld_unit_zero (S := S1x1920x128) hz3, View.ld_unit_zero (S := S1x1x128) hz3,
    View.readCov_cons_unit_lit' (S := S1280x256) _ _ _ _ _ (congrFun hz2) (congrFun hz2)]
  exact scale_of _ x9 x10 x11 x12 x13 x14 x15 w g T hT (fun o p => taps _ _ x8 w g T hT h8 o p (window_apply (grid0.coords t) x0 x1 x2 x3 x4 x5 x6 x7 g T hT hi h0 h1 h2 h3) (tap0 _ _ _ _ _ _ _ _ o p)) p

end Cert.Conv1Ideal.Value

end
-- ==== Proof.Conv1Array.lean ====
/-
  The fourth call's kernel, run: its result arrays hold the codes and the scales of the second activation.
-/
module

public import proofs.«01_k».proof.Proof.Gen.Conv1Ideal.Value
public import proofs.«01_k».proof.Proof.Conv1Out
public import Idealize.ShloMosaic.Lib.Pipeline.ValueKit

@[expose] public section

set_option maxRecDepth 16384

noncomputable section

namespace Cert.Conv1Ideal.Value

open Idealize.ShloMosaic Idealize.ShloMosaic.TcCoe Idealize.SL.Sem
open Cert.Conv1Ideal Cert.Conv1Ideal.Gen Cert.Conv Cert.Quant

variable (m : (ℓ : Loc nD τ sig) → Buf (Elt Ideal) ℓ) (ρ : Dev nD → PrngReg)

/-- The blocks of grid point `t`: image `t / 12`, tile `t % 12`; the four code blocks and the four scale blocks are the 128 pixels
before the tile, its two halves and the 128 pixels after it, kept inside the image. -/
theorem idx : ∀ t : Fin cfg0.N,
    win0_0.index t = ![t.val / 12, 0, 2 * (t.val % 12) - 1] ∧ win0_1.index t = ![t.val / 12, 0, 2 * (t.val % 12)]
    ∧ win0_2.index t = ![t.val / 12, 0, 2 * (t.val % 12) + 1] ∧ win0_3.index t = ![t.val / 12, 0, min (2 * (t.val % 12) + 2) 23]
    ∧ win0_4.index t = ![t.val / 12, 0, 2 * (t.val % 12) - 1] ∧ win0_5.index t = ![t.val / 12, 0, 2 * (t.val % 12)]
    ∧ win0_6.index t = ![t.val / 12, 0, 2 * (t.val % 12) + 1] ∧ win0_7.index t = ![t.val / 12, 0, min (2 * (t.val % 12) + 2) 23]
    ∧ win0_8.index t = ![0, 0, 0] ∧ win0_9.index t = ![0, 0] ∧ win0_10.index t = ![0, 0]
    ∧ win0_11.index t = ![t.val / 12, 0, 0] ∧ win0_12.index t = ![t.val / 12, 0, 0] ∧ win0_13.index t = ![t.val / 12, 0, 0]
    ∧ win0_14.index t = ![0, 0] ∧ win0_15.index t = ![0, 0]
    ∧ win0_16.index t = ![t.val / 12, 0, t.val % 12] ∧ win0_17.index t = ![t.val / 12, 0, t.val % 12] := by
  decide +kernel

/-- The grid point's coordinate is its number. -/
theorem coord : ∀ t : Fin cfg0.N, (grid0.coords t 0).val = t.val := by decide +kernel

/-- The convolution's input, as the arguments give it. -/
abbrev inputOf (c : Dev nD) : Fin 2 → Fin 1920 → Fin 3072 → EReal :=
  input (m ((c : Thread nD τ).loc main_arg0)) (m ((c : Thread nD τ).loc main_arg1))

/-- The weights in the arguments. -/
abbrev weightOf (c : Dev nD) : Fin 3 → Fin 3 → Fin 1280 → Fin 1920 → EReal := weight (m ((c : Thread nD τ).loc main_arg2))

/-- The codes of the 128 pixels before the tile. -/
theorem block0 (c : Dev nD) (t : Fin cfg0.N) (i : Fin 1920) (l : Fin 128) (b : Fin 2) (q : Fin 3072) (hb : b.val = t.val / 12)
    (hq : q.val = 256 * (t.val % 12) - 128 + l.val) (h0 : t.val % 12 ≠ 0) :
    iblk m c 0 t (ix3 0 i l) = m ((c : Thread nD τ).loc main_arg0) (ix3 b i q) := by
  blk_ext! [iblk, V, idx t]

/-- The scales of the 128 pixels before the tile. -/
theorem block4 (c : Dev nD) (t : Fin cfg0.N) (l : Fin 128) (b : Fin 2) (q : Fin 3072) (hb : b.val = t.val / 12)
    (hq : q.val = 256 * (t.val % 12) - 128 + l.val) (h0 : t.val % 12 ≠ 0) :
    iblk m c 4 t (ix3 0 0 l) = m ((c : Thread nD τ).loc main_arg1) (ix3 b 0 q) := by
  blk_ext! [iblk, V, idx t]

/-- The codes of the tile's first half. -/
theorem block1 (c : Dev nD) (t : Fin cfg0.N) (i : Fin 1920) (l : Fin 128) (b : Fin 2) (q : Fin 3072) (hb : b.val = t.val / 12)
    (hq : q.val = 256 * (t.val % 12) + l.val) :
    iblk m c 1 t (ix3 0 i l) = m ((c : Thread nD τ).loc main_arg0) (ix3 b i q) := by
  blk_ext! [iblk, V, idx t]

/-- The scales of the tile's first half. -/
theorem block5 (c : Dev nD) (t : Fin cfg0.N) (l : Fin 128) (b : Fin 2) (q : Fin 3072) (hb : b.val = t.val / 12)
    (hq : q.val = 256 * (t.val % 12) + l.val) :
    iblk m c 5 t (ix3 0 0 l) = m ((c : Thread nD τ).loc main_arg1) (ix3 b 0 q) := by
  blk_ext! [iblk, V, idx t]

/-- The codes of the tile's second half. -/
theorem block2 (c : Dev nD) (t : Fin cfg0.N) (i : Fin 1920) (l : Fin 128) (b : Fin 2) (q : Fin 3072) (hb : b.val = t.val / 12)
    (hq : q.val = 256 * (t.val % 12) + 128 + l.val) :
    iblk m c 2 t (ix3 0 i l) = m ((c : Thread nD τ).loc main_arg0) (ix3 b i q) := by
  blk_ext! [iblk, V, idx t]

/-- The scales of the tile's second half. -/
theorem block6 (c : Dev nD) (t : Fin cfg0.N) (l : Fin 128) (b : Fin 2) (q : Fin 3072) (hb : b.val = t.val / 12)
    (hq : q.val = 256 * (t.val % 12) + 128 + l.val) :
    iblk m c 6 t (ix3 0 0 l) = m ((c : Thread nD τ).loc main_arg1) (ix3 b 0 q) := by
  blk_ext! [iblk, V, idx t]

/-- The codes of the 128 pixels after the tile. -/
theorem block3 (c : Dev nD) (t : Fin cfg0.N) (i : Fin 1920) (l : Fin 128) (b : Fin 2) (q : Fin 3072) (hb : b.val = t.val / 12)
    (hq : q.val = 256 * (t.val % 12) + 256 + l.val) (h11 : t.val % 12 ≠ 11) :
    iblk m c 3 t (ix3 0 i l) = m ((c : Thread nD τ).loc main_arg0) (ix3 b i q) := by
  blk_ext! [iblk, V, idx t]

/-- The scales of the 128 pixels after the tile. -/
theorem block7 (c : Dev nD) (t : Fin cfg0.N) (l : Fin 128) (b : Fin 2) (q : Fin 3072) (hb : b.val = t.val / 12)
    (hq : q.val = 256 * (t.val % 12) + 256 + l.val) (h11 : t.val % 12 ≠ 11) :
    iblk m c 7 t (ix3 0 0 l) = m ((c : Thread nD τ).loc main_arg1) (ix3 b 0 q) := by
  blk_ext! [iblk, V, idx t]

/-- The weights, tap by tap. -/
theorem block8 (c : Dev nD) (t : Fin cfg0.N) (kh kw : Fin 3) (o : Fin 1280) (i : Fin 1920) :
    iblk m c 8 t (ix3 ⟨3 * kh.val + kw.val, by omega⟩ o i) = weightOf m c kh kw o i := by
  show _ = m ((c : Thread nD τ).loc main_arg2) (ix4 o i kh kw)
  blk_ext! [iblk, V, idx t]

/-- The weights' scales. -/
theorem block9 (c : Dev nD) (t : Fin cfg0.N) (o : Fin 1280) :
    iblk m c 9 t (ix2 o 0) = m ((c : Thread nD τ).loc main_arg3) (ix1 o) := by
  blk_ext! [iblk, V, idx t]

/-- The bias. -/
theorem block10 (c : Dev nD) (t : Fin cfg0.N) (o : Fin 1280) :
    iblk m c 10 t (ix2 o 0) = m ((c : Thread nD τ).loc main_arg4) (ix1 o) := by
  blk_ext! [iblk, V, idx t]

/-- The summand of the image. -/
theorem block11 (c : Dev nD) (t : Fin cfg0.N) (b : Fin 2) (hb : b.val = t.val / 12) (o : Fin 1280) :
    iblk m c 11 t (ix3 0 o 0) = m ((c : Thread nD τ).loc main_arg5) (ix2 b o) := by
  blk_ext! [iblk, V, idx t]

/-- The means: one per group of 40 channels. -/
theorem block12 (c : Dev nD) (t : Fin cfg0.N) (b : Fin 2) (hb : b.val = t.val / 12) (o : Fin 1280) :
    iblk m c 12 t (ix3 0 o 0) = m ((c : Thread nD τ).loc main_arg6) (ix2 b ⟨o.val / 40, by omega⟩) := by
  blk_ext! [iblk, V, idx t]

/-- The reciprocal deviations: one per group of 40 channels. -/
theorem block13 (c : Dev nD) (t : Fin cfg0.N) (b : Fin 2) (hb : b.val = t.val / 12) (o : Fin 1280) :
    iblk m c 13 t (ix3 0 o 0) = m ((c : Thread nD τ).loc main_arg7) (ix2 b ⟨o.val / 40, by omega⟩) := by
  blk_ext! [iblk, V, idx t]

/-- The factors of the affine map. -/
theorem block14 (c : Dev nD) (t : Fin cfg0.N) (o : Fin 1280) :
    iblk m c 14 t (ix2 o 0) = m ((c : Thread nD τ).loc main_arg8) (ix1 o) := by
  blk_ext! [iblk, V, idx t]

/-- Its summands. -/
theorem block15 (c : Dev nD) (t : Fin cfg0.N) (o : Fin 1280) :
    iblk m c 15 t (ix2 o 0) = m ((c : Thread nD τ).loc main_arg9) (ix1 o) := by
  blk_ext! [iblk, V, idx t]

/-- The activation that the arguments determine. -/
abbrev act (c : Dev nD) : Fin 2 → Fin 3072 → Fin 1280 → EReal :=
  activation2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The channels of a block's pixel are those of the activation. -/
theorem channels_eq (c : Dev nD) (t : Fin cfg0.N) (b : Fin 2) (hb : b.val = t.val / 12) (P : Fin 3072) :
    channels (weightOf m c) (inputOf m c b) (iblk m c 9 t) (iblk m c 10 t) (iblk m c 11 t) (iblk m c 12 t) (iblk m c 13 t) (iblk m c 14 t) (iblk m c 15 t) P = act m c b P := by
  funext o
  unfold channels act activation2
  rw [block9, block10, block11 m c t b hb, block12 m c t b hb, block13 m c t b hb, block14, block15]

set_option maxHeartbeats 4000000 in
/-- What grid point `t` leaves in the block of codes. -/
theorem codes_after (c : Dev nD) (t : Fin cfg0.N) (o : Fin 1280) (p : Fin 256) (b : Fin 2) (P : Fin 3072) (hb : b.val = t.val / 12)
    (hP : P.val = 256 * (t.val % 12) + p.val) : (dats m 0 c).after 16 t (ix3 0 o p) = code (act m c b P) o := by
  have hT : t.val % 12 < 12 := Nat.mod_lt _ (by decide)
  rw [after0_16, show P = ⟨256 * (t.val % 12) + p.val, by omega⟩ from Fin.ext hP]
  refine Eq.trans ?_ (congrArg (fun f : Fin 1280 → EReal => code f o) (channels_eq m c t b hb ⟨256 * (t.val % 12) + p.val, by omega⟩))
  unfold outsAt0
  refine codes_apply c t _ _ _ _ _ _ _ _ _ _ _ _ _ _ _ _ (weightOf m c) (inputOf m c b) (t.val % 12) hT (by rw [coord t]) ?_ ?_ ?_ ?_ ?_ o p
  · exact fun h0 i l => by rw [block0 m c t i l b ⟨256 * (t.val % 12) - 128 + l.val, by omega⟩ hb rfl h0, block4 m c t l b ⟨256 * (t.val % 12) - 128 + l.val, by omega⟩ hb rfl h0]; rfl
  · exact fun i l => by rw [block1 m c t i l b ⟨256 * (t.val % 12) + l.val, by omega⟩ hb rfl, block5 m c t l b ⟨256 * (t.val % 12) + l.val, by omega⟩ hb rfl]; rfl
  · exact fun i l => by rw [block2 m c t i l b ⟨256 * (t.val % 12) + 128 + l.val, by omega⟩ hb rfl, block6 m c t l b ⟨256 * (t.val % 12) + 128 + l.val, by omega⟩ hb rfl]; rfl
  · exact fun h11 i l => by rw [block3 m c t i l b ⟨256 * (t.val % 12) + 256 + l.val, by omega⟩ hb rfl h11, block7 m c t l b ⟨256 * (t.val % 12) + 256 + l.val, by omega⟩ hb rfl h11]; rfl
  · exact fun kh kw o i => block8 m c t kh kw o i

set_option maxHeartbeats 4000000 in
/-- What grid point `t` leaves in the block of scales. -/
theorem scales_after (c : Dev nD) (t : Fin cfg0.N) (p : Fin 256) (b : Fin 2) (P : Fin 3072) (hb : b.val = t.val / 12)
    (hP : P.val = 256 * (t.val % 12) + p.val) : (dats m 0 c).after 17 t (ix3 0 0 p) = scale (act m c b P) := by
  have hT : t.val % 12 < 12 := Nat.mod_lt _ (by decide)
  rw [after0_17, show P = ⟨256 * (t.val % 12) + p.val, by omega⟩ from Fin.ext hP]
  refine Eq.trans ?_ (congrArg (fun f : Fin 1280 → EReal => scale f) (channels_eq m c t b hb ⟨256 * (t.val % 12) + p.val, by omega⟩))
  unfold outsAt0
  refine scale_apply c t _ _ _ _ _ _ _ _ _ _ _ _ _ _ _ _ (weightOf m c) (inputOf m c b) (t.val % 12) hT (by rw [coord t]) ?_ ?_ ?_ ?_ ?_ p
  · exact fun h0 i l => by rw [block0 m c t i l b ⟨256 * (t.val % 12) - 128 + l.val, by omega⟩ hb rfl h0, block4 m c t l b ⟨256 * (t.val % 12) - 128 + l.val, by omega⟩ hb rfl h0]; rfl
  · exact fun i l => by rw [block1 m c t i l b ⟨256 * (t.val % 12) + l.val, by omega⟩ hb rfl, block5 m c t l b ⟨256 * (t.val % 12) + l.val, by omega⟩ hb rfl]; rfl
  · exact fun i l => by rw [block2 m c t i l b ⟨256 * (t.val % 12) + 128 + l.val, by omega⟩ hb rfl, block6 m c t l b ⟨256 * (t.val % 12) + 128 + l.val, by omega⟩ hb rfl]; rfl
  · exact fun h11 i l => by rw [block3 m c t i l b ⟨256 * (t.val % 12) + 256 + l.val, by omega⟩ hb rfl h11, block7 m c t l b ⟨256 * (t.val % 12) + 256 + l.val, by omega⟩ hb rfl h11]; rfl
  · exact fun kh kw o i => block8 m c t kh kw o i

/-- The array of codes after the run. -/
theorem codes (c : Dev nD) : (dats m 0 c).arrAt 16 cfg0.N = fun y => code (act m c (y 0) (y 2)) (y 1) := by
  refine (dats m 0 c).arrAt_eq_of_covers 16 _ (by decide +kernel) fun t hf y => ?_
  have h := fun o p b P hb hP => codes_after m c t o p b P hb hP
  generalize act m c = G at h ⊢
  have y0 : (y 0).val = 0 := Nat.lt_one_iff.mp (y 0).isLt
  have e0 : ((win0_16.blk t).view.emb y 0).val = t.val / 12 + (y 0).val := by blk_simp [idx t]
  have e1 : ((win0_16.blk t).view.emb y 1).val = (y 1).val := by blk_simp [idx t]
  have e2 : ((win0_16.blk t).view.emb y 2).val = t.val % 12 * 256 + (y 2).val := by blk_simp [idx t]
  have hy : y = ix3 0 (y 1) (y 2) := by
    funext a; fin_cases a
    · exact Fin.ext y0
    · rfl
    · rfl
  have e : code (G ((win0_16.blk t).view.emb y 0) ((win0_16.blk t).view.emb y 2)) ((win0_16.blk t).view.emb y 1)
      = code (G ((win0_16.blk t).view.emb y 0) ((win0_16.blk t).view.emb y 2)) (y 1) := by
    congr 1
    exact Fin.ext e1
  have k : (dats m 0 c).after 16 t (ix3 0 (y 1) (y 2)) = code (G ((win0_16.blk t).view.emb y 0) ((win0_16.blk t).view.emb y 2)) (y 1) :=
    h (y 1) (y 2) ((win0_16.blk t).view.emb y 0) ((win0_16.blk t).view.emb y 2) (by rw [e0, y0, Nat.add_zero]) (by rw [e2, Nat.mul_comm])
  exact ((congrArg ((dats m 0 c).after 16 t) hy).trans k).trans e.symm

/-- The array of scales after the run. -/
theorem scales (c : Dev nD) : (dats m 0 c).arrAt 17 cfg0.N = fun y => scale (act m c (y 0) (y 2)) := by
  refine (dats m 0 c).arrAt_eq_of_covers 17 _ (by decide +kernel) fun t hf y => ?_
  have h := fun p b P hb hP => scales_after m c t p b P hb hP
  generalize act m c = G at h ⊢
  have y0 : (y 0).val = 0 := Nat.lt_one_iff.mp (y 0).isLt
  have y1 : (y 1).val = 0 := Nat.lt_one_iff.mp (y 1).isLt
  have e0 : ((win0_17.blk t).view.emb y 0).val = t.val / 12 + (y 0).val := by blk_simp [idx t]
  have e2 : ((win0_17.blk t).view.emb y 2).val = t.val % 12 * 256 + (y 2).val := by blk_simp [idx t]
  have hy : y = ix3 0 0 (y 2) := by
    funext a; fin_cases a
    · exact Fin.ext y0
    · exact Fin.ext y1
    · rfl
  have k : (dats m 0 c).after 17 t (ix3 0 0 (y 2)) = scale (G ((win0_17.blk t).view.emb y 0) ((win0_17.blk t).view.emb y 2)) :=
    h (y 2) ((win0_17.blk t).view.emb y 0) ((win0_17.blk t).view.emb y 2) (by rw [e0, y0, Nat.add_zero]) (by rw [e2, Nat.mul_comm])
  exact (congrArg ((dats m 0 c).after 17 t) hy).trans k

end Cert.Conv1Ideal.Value

end
-- ==== Proof.Conv1RefBody.lean ====
/-
  What the reference of the fourth call computes from its arguments: the codes and the scales of the second activation.
-/
module

public import proofs.«01_k».proof.Proof.Gen.Conv1RefIdeal.Frame
public import proofs.«01_k».proof.Proof.Act2
public import proofs.«01_k».proof.Proof.Rows
public import Idealize.ShloMosaic.Lib.Pointwise
public import Idealize.ShloMosaic.Lib.Pipeline.Value
public import Idealize.ShloMosaic.Lib.Tactic

@[expose] public section

set_option maxRecDepth 16384

noncomputable section

namespace Cert.Conv1RefIdeal.Value

open Idealize.ShloMosaic Idealize.SL.Sem
open Cert.Conv1RefIdeal Cert.Conv1RefIdeal.Gen Cert.Conv Cert.Quant

/-- The padded image: codes times scales inside, 0 on the border. -/
theorem padded (x : Vec Ideal S1x1920x3072 .fp8e4m3) (s : Vec Ideal S1x1x3072 .f32) (i : Fin 1920) (r : Fin 50) (l : Fin 66) :
    k0_pay2 (F := Ideal) x s (ix3 i r l) = pixel (fun q => x (ix3 0 i q) * s (ix3 0 0 q)) r.val l.val := by
  have hy := r.isLt
  have hx := l.isLt
  have z : (((0#32 : BitVec 32).toInt : ℝ) : EReal) = 0 := by simp
  pointwise [k0_pay2]
  simp only [z]
  unfold pixel
  by_cases h : 1 ≤ r.val ∧ r.val ≤ 48 ∧ 1 ≤ l.val ∧ l.val ≤ 64
  · rw [dif_pos h, dif_pos (by omega), dif_neg (by omega), dif_pos (by omega), dif_neg (by omega)]
  · rw [dif_neg h]
    split
    · split
      · rfl
      · split
        · split
          · rfl
          · omega
        · rfl
    · rfl

section

variable (x : Vec Ideal S1x1920x3072 .fp8e4m3) (s : Vec Ideal S1x1x3072 .f32) (w : Vec Ideal S3x3x1280x1920 .fp8e4m3) (ws b1 : Vec Ideal S1280x1 .f32)
  (te : Vec Ideal S1x1280x1 .f32) (a r : Vec Ideal S1x32x1x1 .f32) (g b : Vec Ideal S1280x1 .f32)

/-- The lines of one image up to the normalisation. -/
def normalised : FVec Ideal S1280x3072 .f32 :=
  k0_pay11 (k0_pay2 x s) (k0_pay6 (k0_pay2 x s) (k0_pay3 x s (View.ld w r0_2) (View.ld w r0_3)) (k0_pay4 (View.ld w r0_4)) (k0_pay5 x s)
    (View.ld w r0_5) (View.ld w r0_6) (View.ld w r0_7) (View.ld w r0_8)) (k0_pay7 (View.ld w r0_9)) (k0_pay8 (k0_pay2 x s)) (View.ld w r0_10) ws b1 te a r

/-- The second image's lines compute the same. -/
theorem normalised' :
    k0_pay24 (F := Ideal) (k0_pay16 x s) (k0_pay20 (k0_pay16 x s) (k0_pay17 x s (View.ld w r0_2) (View.ld w r0_3)) (k0_pay18 (View.ld w r0_4)) (k0_pay19 x s)
      (constant S1280x3072 .f32 0x00000000#32) (View.ld w r0_5) (View.ld w r0_6) (View.ld w r0_7) (View.ld w r0_8)) (k0_pay21 (View.ld w r0_9))
      (k0_pay22 (k0_pay16 x s)) (constant S1280x3072 .f32 0x00000000#32) (View.ld w r0_10) ws b1 te a r = normalised x s w ws b1 te a r := rfl

/-- The convolution's value, normalised by its group. -/
theorem normalised_apply (o : Fin 1280) (q : Fin 3072) :
    normalised x s w ws b1 te a r (ix2 o q)
      = (forward (fun kh kw o i => w (ix4 kh kw o i)) (fun i q => x (ix3 0 i q) * s (ix3 0 0 q)) o q * ws (ix2 o 0) + b1 (ix2 o 0) + te (ix3 0 o 0)
          - a (ix4 0 ⟨o.val / 40, by omega⟩ 0 0)) * r (ix4 0 ⟨o.val / 40, by omega⟩ 0 0) := by
  unfold normalised
  pointwise [k0_pay11, k0_pay6, k0_pay3, k0_pay4, k0_pay5, k0_pay7, k0_pay8]
  simp only [padded]
  unfold forward
  pointwise

end

section

variable (G B : FVec Ideal S1280x1 .f32) (h : FVec Ideal S1280x3072 .f32)

/-- The quotient that the scales are made from, of the values `v`. -/
theorem quotient (v : FVec Ideal S1280x3072 .f32) (q : Fin 3072) :
    mulf (shapeCast S1x3072 (multiReduction .maximumf [0] S3072 (absf v) 0xFF800000#32 reduces_S1280x3072_S3072 (.inl rfl) rfl) shapeCasts_S3072_S1x3072)
        (broadcast S1x3072 (Scalar.ofBits .f32 0x3B124925#32)) (ix2 0 q)
      = quot fun i : Fin 1280 => v (ix2 i q) := by
  have e : multiReduction .maximumf [0] S3072 (absf v) 0xFF800000#32 reduces_S1280x3072_S3072 (.inl rfl) rfl
      = Rows.colMax (absf v) 0xFF800000#32 := Rows.max_eq _ _ _ _ _
  rw [e]
  pointwise
  rw [Rows.colMax_apply]
  rfl

/-- The powers that are listed. -/
def powers : FVec Ideal S252x3072 .f32 :=
  exp2 (sitofp .f32 (subi (iota .tc S252x3072 32 [0] iota_S252x3072_d0_w32) (broadcast S252x3072 125#32)))

/-- The choice of the scale among the listed powers. -/
theorem chosen (t : FVec Ideal S1x3072 .f32) (q : Fin 3072) :
    select (cmpf .olt t (broadcast S1x3072 (Scalar.ofBits .f32 0x00800000#32))) (broadcast S1x3072 (Scalar.ofBits .f32 0x3F800000#32))
      (shapeCast S1x3072 (multiReduction .minimumf [0] S3072
        (select (cmpf .ogt powers (broadcastTo S252x3072 t broadcasts_S1x3072_S252x3072)) powers (broadcast S252x3072 (Scalar.ofBits .f32 0x7E800000#32)))
        0x7F800000#32 reduces_S252x3072_S3072 (.inl rfl) rfl) shapeCasts_S3072_S1x3072) (ix2 0 q) = scaleOf (t (ix2 0 q)) := by
  refine Eq.trans ?_ (listed (t (ix2 0 q)))
  generalize hL : (select (cmpf .ogt powers (broadcastTo S252x3072 t broadcasts_S1x3072_S252x3072)) powers
    (broadcast S252x3072 (Scalar.ofBits .f32 0x7E800000#32)) : FVec Ideal S252x3072 .f32) = L
  have e : multiReduction .minimumf [0] S3072 L 0x7F800000#32 reduces_S252x3072_S3072 (.inl rfl) rfl = Rows.colMin L 0x7F800000#32 :=
    Rows.min_eq _ _ _ _ _
  rw [e]
  pointwise
  rw [Rows.colMin_apply]
  subst hL
  refine congrArg (fun z : EReal => if t (ix2 0 q) < Ideal.ofBits .f32 0x00800000#32 then 1 else z) ?_
  refine congrArg (fun f => (Finset.univ : Finset (Fin 252)).fold min (Ideal.ofBits .f32 0x7F800000#32) f) ?_
  funext k
  pointwise [powers]

/-- The scale. -/
theorem scale_eq (q : Fin 3072) : k0_pay13 (F := Ideal) G B h (ix2 0 q) = scale fun i : Fin 1280 => k0_pay12 (F := Ideal) G B h (ix2 i q) := by
  unfold k0_pay13
  dsimp only
  generalize k0_pay12 (F := Ideal) G B h = v
  have k := quotient v q
  generalize mulf (shapeCast S1x3072 (multiReduction .maximumf [0] S3072 (absf v) 0xFF800000#32 reduces_S1280x3072_S3072 (.inl rfl) rfl) shapeCasts_S3072_S1x3072)
    (broadcast S1x3072 (Scalar.ofBits .f32 0x3B124925#32)) = t at k ⊢
  have c := chosen t q
  rw [k] at c
  unfold powers at c
  exact c

/-- The codes made of values `v` and scales `S`, as stored. -/
theorem code_stored (v : FVec Ideal S1280x3072 .f32) (S : FVec Ideal S1x3072 .f32) (i : Fin 1280) (q : Fin 3072) :
    shapeCast S1x1280x3072 (truncf .fp8e4m3 (minimumf (broadcast S1280x3072 (Scalar.ofBits .f32 0x43E00000#32))
        (maximumf (broadcast S1280x3072 (Scalar.ofBits .f32 0xC3E00000#32))
          (mulf v (broadcastTo S1280x3072 (divf (broadcast S1x3072 (Scalar.ofBits .f32 0x3F800000#32)) S) broadcasts_S1x3072_S1280x3072))))
        bitsLt_fp8e4m3_f32) shapeCasts_S1280x3072_S1x1280x3072 (ix3 0 i q)
      = min (Ideal.ofBits .f32 0x43E00000#32) (max (Ideal.ofBits .f32 0xC3E00000#32) (v (ix2 i q) * Ideal.div 1 (S (ix2 0 q)))) := by
  pointwise

/-- The codes as stored. -/
theorem code_eq (i : Fin 1280) (q : Fin 3072) :
    k0_pay14 (F := Ideal) G B h (ix3 0 i q) = code (fun i : Fin 1280 => k0_pay12 (F := Ideal) G B h (ix2 i q)) i := by
  unfold k0_pay14
  have k := scale_eq G B h q
  generalize k0_pay13 (F := Ideal) G B h = S at k ⊢
  generalize k0_pay12 (F := Ideal) G B h = v at k ⊢
  refine (code_stored v S i q).trans ?_
  rw [k]
  rfl

/-- The scales as stored. -/
theorem stored (q : Fin 3072) : k0_pay15 (F := Ideal) G B h (ix3 0 0 q) = scale fun i : Fin 1280 => k0_pay12 (F := Ideal) G B h (ix2 i q) := by
  rw [← scale_eq]
  unfold k0_pay15
  generalize k0_pay13 (F := Ideal) G B h = S
  pointwise

end

/-- The channels of image `n` at pixel `q`, from the whole arrays. -/
def pixelOf (x : Vec Ideal S2x1920x3072 .fp8e4m3) (s : Vec Ideal S2x1x3072 .f32) (w : Vec Ideal S3x3x1280x1920 .fp8e4m3)
    (ws b1 : Vec Ideal S1280x1 .f32) (te : Vec Ideal S2x1280x1 .f32) (a r : Vec Ideal S2x32x1x1 .f32) (g b : Vec Ideal S1280x1 .f32)
    (n : Fin 2) (q : Fin 3072) (o : Fin 1280) : EReal :=
  normSilu (forward (fun kh kw o i => w (ix4 kh kw o i)) (fun i q => x (ix3 n i q) * s (ix3 n 0 q)) o q * ws (ix2 o 0) + b1 (ix2 o 0) + te (ix3 n o 0))
    (a (ix4 n ⟨o.val / 40, by omega⟩ 0 0)) (r (ix4 n ⟨o.val / 40, by omega⟩ 0 0)) (g (ix2 o 0)) (b (ix2 o 0))

section

variable (x : Vec Ideal S2x1920x3072 .fp8e4m3) (s : Vec Ideal S2x1x3072 .f32) (w : Vec Ideal S3x3x1280x1920 .fp8e4m3)
  (ws b1 : Vec Ideal S1280x1 .f32) (te : Vec Ideal S2x1280x1 .f32) (a r : Vec Ideal S2x32x1x1 .f32) (g b : Vec Ideal S1280x1 .f32)

/-- The value before the quantiser, of the first image. -/
theorem channels0 (q : Fin 3072) :
    (fun o : Fin 1280 => k0_pay12 (F := Ideal) (k0_pay9 (View.ld g r0_11)) (k0_pay10 (View.ld b r0_11)) (normalised (View.ld x r0_0) (View.ld s r0_1) w (View.ld ws r0_11)
      (View.ld b1 r0_11) (View.ld te r0_12) (View.ld a r0_13) (View.ld r r0_13)) (ix2 o q)) = pixelOf x s w ws b1 te a r g b 0 q := by
  funext o
  have k := normalised_apply (View.ld x r0_0) (View.ld s r0_1) w (View.ld ws r0_11) (View.ld b1 r0_11) (View.ld te r0_12) (View.ld a r0_13) (View.ld r r0_13) o q
  generalize normalised _ _ w _ _ _ _ _ = H at k ⊢
  pointwise [k0_pay12, k0_pay9, k0_pay10]
  rw [k]
  unfold pixelOf normSilu
  pointwise

/-- The same of the second image. -/
theorem channels1 (q : Fin 3072) :
    (fun o : Fin 1280 => k0_pay12 (F := Ideal) (k0_pay9 (View.ld g r0_11)) (k0_pay10 (View.ld b r0_11)) (normalised (View.ld x r0_15) (View.ld s r0_16) w (View.ld ws r0_11)
      (View.ld b1 r0_11) (View.ld te r0_17) (View.ld a r0_18) (View.ld r r0_18)) (ix2 o q)) = pixelOf x s w ws b1 te a r g b 1 q := by
  funext o
  have k := normalised_apply (View.ld x r0_15) (View.ld s r0_16) w (View.ld ws r0_11) (View.ld b1 r0_11) (View.ld te r0_17) (View.ld a r0_18) (View.ld r r0_18) o q
  generalize normalised _ _ w _ _ _ _ _ = H at k ⊢
  pointwise [k0_pay12, k0_pay9, k0_pay10]
  rw [k]
  unfold pixelOf normSilu
  pointwise

/-- The array of codes. -/
theorem codes_apply (y : S2x1280x3072.Idx) : out0_10 x s w ws b1 te a r g b y = code (pixelOf x s w ws b1 te a r g b (y 0) (y 2)) (y 1) := by
  have c0 := channels0 x s w ws b1 te a r g b
  have c1 := channels1 x s w ws b1 te a r g b
  unfold_out out0_10
  refine View.canon_apply_of_pieces (Val := Elt Ideal) (S := S2x1280x3072) (e := .fp8e4m3)
    (fun y => code (pixelOf x s w ws b1 te a r g b (y 0) (y 2)) (y 1)) _ ?_ y (cover0_10 _ _ y)
  generalize pixelOf x s w ws b1 te a r g b = P at c0 c1 ⊢
  intro p hp
  simp only [List.mem_cons, List.mem_nil_iff, or_false] at hp
  rcases hp with rfl | rfl
  · intro z
    idx_vars z
    have h0 : z0 = 0 := by omega
    subst h0
    have k := code_eq (k0_pay9 (View.ld g r0_11)) (k0_pay10 (View.ld b r0_11)) (normalised (View.ld x r0_15) (View.ld s r0_16) w (View.ld ws r0_11)
      (View.ld b1 r0_11) (View.ld te r0_17) (View.ld a r0_18) (View.ld r r0_18)) z1 z2
    rw [c1] at k
    have e : code (P (r0_19.emb (ix3 0 z1 z2) 0) (r0_19.emb (ix3 0 z1 z2) 2)) (r0_19.emb (ix3 0 z1 z2) 1) = code (P 1 z2) z1 := by
      congr 1
      · congr 1
        apply Fin.ext; show 0 + 1 * z2.val = z2.val; omega
      · apply Fin.ext; show 0 + 1 * z1.val = z1.val; omega
    exact k.trans e.symm
  · intro z
    idx_vars z
    have h0 : z0 = 0 := by omega
    subst h0
    have k := code_eq (k0_pay9 (View.ld g r0_11)) (k0_pay10 (View.ld b r0_11)) (normalised (View.ld x r0_0) (View.ld s r0_1) w (View.ld ws r0_11)
      (View.ld b1 r0_11) (View.ld te r0_12) (View.ld a r0_13) (View.ld r r0_13)) z1 z2
    rw [c0] at k
    have e : code (P (r0_14.emb (ix3 0 z1 z2) 0) (r0_14.emb (ix3 0 z1 z2) 2)) (r0_14.emb (ix3 0 z1 z2) 1) = code (P 0 z2) z1 := by
      congr 1
      · congr 1
        apply Fin.ext; show 0 + 1 * z2.val = z2.val; omega
      · apply Fin.ext; show 0 + 1 * z1.val = z1.val; omega
    exact k.trans e.symm

/-- The array of scales. -/
theorem scale_apply (y : S2x1x3072.Idx) : out0_11 x s w ws b1 te a r g b y = scale (pixelOf x s w ws b1 te a r g b (y 0) (y 2)) := by
  have c0 := channels0 x s w ws b1 te a r g b
  have c1 := channels1 x s w ws b1 te a r g b
  unfold_out out0_11
  refine View.canon_apply_of_pieces (Val := Elt Ideal) (S := S2x1x3072) (e := .f32)
    (fun y => scale (pixelOf x s w ws b1 te a r g b (y 0) (y 2))) _ ?_ y (cover0_11 _ _ y)
  generalize pixelOf x s w ws b1 te a r g b = P at c0 c1 ⊢
  intro p hp
  simp only [List.mem_cons, List.mem_nil_iff, or_false] at hp
  rcases hp with rfl | rfl
  · intro z
    idx_vars z
    have h0 : z0 = 0 := by omega
    have h1 : z1 = 0 := by omega
    subst h0 h1
    have k := stored (k0_pay9 (View.ld g r0_11)) (k0_pay10 (View.ld b r0_11)) (normalised (View.ld x r0_15) (View.ld s r0_16) w (View.ld ws r0_11)
      (View.ld b1 r0_11) (View.ld te r0_17) (View.ld a r0_18) (View.ld r r0_18)) z2
    rw [c1] at k
    have a0 : r0_16.emb (ix3 0 0 z2) 0 = (1 : Fin 2) := rfl
    have a2 : r0_16.emb (ix3 0 0 z2) 2 = z2 := Fin.ext (by show 0 + 1 * z2.val = z2.val; omega)
    have e : scale (P (r0_16.emb (ix3 0 0 z2) 0) (r0_16.emb (ix3 0 0 z2) 2)) = scale (P 1 z2) := congrArg scale (congrArg₂ P a0 a2)
    exact k.trans e.symm
  · intro z
    idx_vars z
    have h0 : z0 = 0 := by omega
    have h1 : z1 = 0 := by omega
    subst h0 h1
    have k := stored (k0_pay9 (View.ld g r0_11)) (k0_pay10 (View.ld b r0_11)) (normalised (View.ld x r0_0) (View.ld s r0_1) w (View.ld ws r0_11)
      (View.ld b1 r0_11) (View.ld te r0_12) (View.ld a r0_13) (View.ld r r0_13)) z2
    rw [c0] at k
    have a0 : r0_1.emb (ix3 0 0 z2) 0 = (0 : Fin 2) := rfl
    have a2 : r0_1.emb (ix3 0 0 z2) 2 = z2 := Fin.ext (by show 0 + 1 * z2.val = z2.val; omega)
    have e : scale (P (r0_1.emb (ix3 0 0 z2) 0) (r0_1.emb (ix3 0 0 z2) 2)) = scale (P 0 z2) := congrArg scale (congrArg₂ P a0 a2)
    exact k.trans e.symm

end

end Cert.Conv1RefIdeal.Value

end
-- ==== Proof.Conv1RefArray.lean ====
/-
  The reference of the fourth call, run: its result arrays hold the codes and the scales of the second activation.
-/
module

public import proofs.«01_k».proof.Proof.Gen.Conv1RefIdeal.Value
public import proofs.«01_k».proof.Proof.Conv1RefBody
public import Idealize.ShloMosaic.Lib.Pipeline.ValueKit

@[expose] public section

set_option maxRecDepth 16384

noncomputable section

namespace Cert.Conv1RefIdeal.Value

open Idealize.ShloMosaic Idealize.ShloMosaic.TcCoe Idealize.SL.Sem
open Cert.Conv1RefIdeal Cert.Conv1RefIdeal.Gen Cert.Conv Cert.Quant

variable (m : (ℓ : Loc nD τ sig) → Buf (Elt Ideal) ℓ) (ρ : Dev nD → PrngReg)

/-- The one grid point's blocks are the arrays. -/
theorem idx : ∀ t : Fin cfg0.N, win0_0.index t = ![0, 0, 0] ∧ win0_1.index t = ![0, 0, 0] ∧ win0_2.index t = ![0, 0, 0, 0]
    ∧ win0_3.index t = ![0, 0] ∧ win0_4.index t = ![0, 0] ∧ win0_5.index t = ![0, 0, 0] ∧ win0_6.index t = ![0, 0, 0, 0]
    ∧ win0_7.index t = ![0, 0, 0, 0] ∧ win0_8.index t = ![0, 0] ∧ win0_9.index t = ![0, 0] ∧ win0_10.index t = ![0, 0, 0]
    ∧ win0_11.index t = ![0, 0, 0] := by
  decide +kernel

/-- The codes of the first activation, in the argument. -/
theorem block0 (c : Dev nD) (t : Fin cfg0.N) (b : Fin 2) (i : Fin 1920) (q : Fin 3072) :
    iblk m c 0 t (ix3 b i q) = m ((c : Thread nD τ).loc main_arg0) (ix3 b i q) := by
  blk_ext! [iblk, V, idx t]

/-- Its scales. -/
theorem block1 (c : Dev nD) (t : Fin cfg0.N) (b : Fin 2) (q : Fin 3072) :
    iblk m c 1 t (ix3 b 0 q) = m ((c : Thread nD τ).loc main_arg1) (ix3 b 0 q) := by
  blk_ext! [iblk, V, idx t]

/-- The weights. -/
theorem block2 (c : Dev nD) (t : Fin cfg0.N) (kh kw : Fin 3) (o : Fin 1280) (i : Fin 1920) :
    iblk m c 2 t (ix4 kh kw o i) = m ((c : Thread nD τ).loc main_arg2) (ix4 o i kh kw) := by
  blk_ext! [iblk, V, idx t]

/-- The weights' scales. -/
theorem block3 (c : Dev nD) (t : Fin cfg0.N) (o : Fin 1280) :
    iblk m c 3 t (ix2 o 0) = m ((c : Thread nD τ).loc main_arg3) (ix1 o) := by
  blk_ext! [iblk, V, idx t]

/-- The bias. -/
theorem block4 (c : Dev nD) (t : Fin cfg0.N) (o : Fin 1280) :
    iblk m c 4 t (ix2 o 0) = m ((c : Thread nD τ).loc main_arg4) (ix1 o) := by
  blk_ext! [iblk, V, idx t]

/-- The summand per image and channel. -/
theorem block5 (c : Dev nD) (t : Fin cfg0.N) (b : Fin 2) (o : Fin 1280) :
    iblk m c 5 t (ix3 b o 0) = m ((c : Thread nD τ).loc main_arg5) (ix2 b o) := by
  blk_ext! [iblk, V, idx t]

/-- The groups' means. -/
theorem block6 (c : Dev nD) (t : Fin cfg0.N) (b : Fin 2) (k : Fin 32) :
    iblk m c 6 t (ix4 b k 0 0) = m ((c : Thread nD τ).loc main_arg6) (ix2 b k) := by
  blk_ext! [iblk, V, idx t]

/-- The groups' reciprocal deviations. -/
theorem block7 (c : Dev nD) (t : Fin cfg0.N) (b : Fin 2) (k : Fin 32) :
    iblk m c 7 t (ix4 b k 0 0) = m ((c : Thread nD τ).loc main_arg7) (ix2 b k) := by
  blk_ext! [iblk, V, idx t]

/-- The factors of the affine map. -/
theorem block8 (c : Dev nD) (t : Fin cfg0.N) (o : Fin 1280) :
    iblk m c 8 t (ix2 o 0) = m ((c : Thread nD τ).loc main_arg8) (ix1 o) := by
  blk_ext! [iblk, V, idx t]

/-- Its summands. -/
theorem block9 (c : Dev nD) (t : Fin cfg0.N) (o : Fin 1280) :
    iblk m c 9 t (ix2 o 0) = m ((c : Thread nD τ).loc main_arg9) (ix1 o) := by
  blk_ext! [iblk, V, idx t]

/-- The activation that the arguments determine. -/
abbrev act (c : Dev nD) : Fin 2 → Fin 3072 → Fin 1280 → EReal :=
  activation2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The pixels of the blocks are those of the activation. -/
theorem pixelOf_eq (c : Dev nD) (t : Fin cfg0.N) :
    pixelOf (iblk m c 0 t) (iblk m c 1 t) (iblk m c 2 t) (iblk m c 3 t) (iblk m c 4 t) (iblk m c 5 t) (iblk m c 6 t) (iblk m c 7 t)
      (iblk m c 8 t) (iblk m c 9 t) = act m c := by
  funext b q i
  unfold pixelOf act activation2 weight input
  simp only [block0, block1, block2, block3, block4, block5, block6, block7, block8, block9]

/-- The array of codes after the run. -/
theorem codes (c : Dev nD) : (dats m 0 c).arrAt 10 cfg0.N = fun y => code (act m c (y 0) (y 2)) (y 1) := by
  refine (dats m 0 c).arrAt_eq_of_covers 10 _ (by decide +kernel) fun t hf y => ?_
  have h := fun y => (codes_apply _ _ _ _ _ _ _ _ _ _ y).trans
    (congrArg (fun f : Fin 2 → Fin 3072 → Fin 1280 → EReal => code (f (y 0) (y 2)) (y 1)) (pixelOf_eq m c t))
  generalize act m c = G at h ⊢
  have e0 : ((win0_10.blk t).view.emb y 0).val = (y 0).val := by blk_simp [idx t]
  have e1 : ((win0_10.blk t).view.emb y 1).val = (y 1).val := by blk_simp [idx t]
  have e2 : ((win0_10.blk t).view.emb y 2).val = (y 2).val := by blk_simp [idx t]
  have e : code (G ((win0_10.blk t).view.emb y 0) ((win0_10.blk t).view.emb y 2)) ((win0_10.blk t).view.emb y 1) = code (G (y 0) (y 2)) (y 1) := by
    congr 1
    · congr 1
      · exact Fin.ext e0
      · exact Fin.ext e2
    · exact Fin.ext e1
  have k : (dats m 0 c).after 10 t y = code (G (y 0) (y 2)) (y 1) := by
    rw [after0_10]
    exact h y
  exact k.trans e.symm

/-- The array of scales after the run. -/
theorem scales (c : Dev nD) : (dats m 0 c).arrAt 11 cfg0.N = fun y => scale (act m c (y 0) (y 2)) := by
  refine (dats m 0 c).arrAt_eq_of_covers 11 _ (by decide +kernel) fun t hf y => ?_
  have h := fun y => (scale_apply _ _ _ _ _ _ _ _ _ _ y).trans
    (congrArg (fun f : Fin 2 → Fin 3072 → Fin 1280 → EReal => scale (f (y 0) (y 2))) (pixelOf_eq m c t))
  generalize act m c = G at h ⊢
  have e0 : ((win0_11.blk t).view.emb y 0).val = (y 0).val := by blk_simp [idx t]
  have e2 : ((win0_11.blk t).view.emb y 2).val = (y 2).val := by blk_simp [idx t]
  have e : scale (G ((win0_11.blk t).view.emb y 0) ((win0_11.blk t).view.emb y 2)) = scale (G (y 0) (y 2)) := by
    congr 1
    congr 1
    · exact Fin.ext e0
    · exact Fin.ext e2
  have k : (dats m 0 c).after 11 t y = scale (G (y 0) (y 2)) := by
    rw [after0_11]
    exact h y
  exact k.trans e.symm

end Cert.Conv1RefIdeal.Value

end
-- ==== Proof.Conv1.lean ====
/-
  The fourth call: over the extended reals the kernel and the reference end with equal arrays of codes and equal arrays
  of scales.
-/
module

public import proofs.«01_k».proof.Defs
public import proofs.«01_k».proof.Proof.Conv1Array
public import proofs.«01_k».proof.Proof.Conv1RefArray
public import Idealize.ShloMosaic.Lib.Bf16Pair

@[expose] public section

noncomputable section

namespace Cert

open Idealize.ShloMosaic Idealize.SL.Sem

/-- The rewrite the idealized kernel rests on: a word of two bfloat16 rows, rotated, is the two rows rotated. -/
theorem preserves_conv1 : preserves_Conv1_Conv1Ideal := IdealRules.bf16_pair.statement _ _

/-- Kernel and reference run, leave the arguments as they were, and end with the same two arrays. -/
theorem algebraic_conv1 : algebraic_Conv1Ideal_Conv1RefIdeal (hConv1Ideal := Conv1Ideal.Gen.facts) (hConv1RefIdeal := Conv1RefIdeal.Gen.facts) := by
  intro m g m' g' _ hm
  refine ⟨fun c => (Conv1Ideal.Gen.dats m 0 c).arrAt 16 Conv1Ideal.cfg0.N, fun c => (Conv1Ideal.Gen.dats m 0 c).arrAt 17 Conv1Ideal.cfg0.N,
    Conv1Ideal.Value.run_blocks m g, ?_⟩
  refine (θ_run _ _ _).mono (fun r h c => ?_) (Conv1RefIdeal.Value.run_blocks m' g')
  obtain ⟨hv, hw, h0, h1, h2, h3, h4, h5, h6, h7, h8, h9⟩ := h c
  obtain ⟨e0, e1, e2, e3, e4, e5, e6, e7, e8, e9⟩ := hm c
  have e : Conv1RefIdeal.Value.act m' c = Conv1Ideal.Value.act m c := by
    show Conv.activation2 (m' (c.tc.loc Conv1RefIdeal.main_arg0)) (m' (c.tc.loc Conv1RefIdeal.main_arg1)) (m' (c.tc.loc Conv1RefIdeal.main_arg2))
        (m' (c.tc.loc Conv1RefIdeal.main_arg3)) (m' (c.tc.loc Conv1RefIdeal.main_arg4)) (m' (c.tc.loc Conv1RefIdeal.main_arg5))
        (m' (c.tc.loc Conv1RefIdeal.main_arg6)) (m' (c.tc.loc Conv1RefIdeal.main_arg7)) (m' (c.tc.loc Conv1RefIdeal.main_arg8))
        (m' (c.tc.loc Conv1RefIdeal.main_arg9))
      = Conv.activation2 (m (c.tc.loc Conv1Ideal.main_arg0)) (m (c.tc.loc Conv1Ideal.main_arg1)) (m (c.tc.loc Conv1Ideal.main_arg2))
        (m (c.tc.loc Conv1Ideal.main_arg3)) (m (c.tc.loc Conv1Ideal.main_arg4)) (m (c.tc.loc Conv1Ideal.main_arg5))
        (m (c.tc.loc Conv1Ideal.main_arg6)) (m (c.tc.loc Conv1Ideal.main_arg7)) (m (c.tc.loc Conv1Ideal.main_arg8))
        (m (c.tc.loc Conv1Ideal.main_arg9))
    rw [e0, e1, e2, e3, e4, e5, e6, e7, e8, e9]
  refine ⟨?_, ?_, h0, h1, h2, h3, h4, h5, h6, h7, h8, h9⟩
  · refine hv.trans ((Conv1RefIdeal.Value.codes m' c).trans (Eq.trans ?_ (Conv1Ideal.Value.codes m c).symm))
    rw [e]
    rfl
  · refine hw.trans ((Conv1RefIdeal.Value.scales m' c).trans (Eq.trans ?_ (Conv1Ideal.Value.scales m c).symm))
    rw [e]
    rfl

end Cert

end
-- ==== Proof.lean ====
/- The claim of this directory, `Cert.Claim`: for each of the four calls, the kernel, its idealization and the idealized reference run
   without fault; the rewrite the idealization rests on holds; and over the extended reals kernel and reference end with equal arrays. -/
module

public import proofs.«01_k».proof.Defs
public import proofs.«01_k».proof.Proof.Gen.Da2.Frame
public import proofs.«01_k».proof.Proof.Gen.Da2Ideal.Frame
public import proofs.«01_k».proof.Proof.Gen.Da2RefIdeal.Frame
public import proofs.«01_k».proof.Proof.Gen.Dw2.Frame
public import proofs.«01_k».proof.Proof.Gen.Dw2Ideal.Frame
public import proofs.«01_k».proof.Proof.Gen.Dw2RefIdeal.Frame
public import proofs.«01_k».proof.Proof.Da2
public import proofs.«01_k».proof.Proof.Dw2
public import proofs.«01_k».proof.Proof.Gen.Act1Ideal.Value
public import proofs.«01_k».proof.Proof.Gen.Act1RefIdeal.Value
public import proofs.«01_k».proof.Proof.Gen.Conv1Ideal.Value
public import proofs.«01_k».proof.Proof.Gen.Conv1RefIdeal.Value
public import proofs.«01_k».proof.Proof.Gen.Act1.Frame
public import proofs.«01_k».proof.Proof.Gen.Act1Ideal.Frame
public import proofs.«01_k».proof.Proof.Gen.Act1RefIdeal.Frame
public import proofs.«01_k».proof.Proof.Gen.Conv1.Frame
public import proofs.«01_k».proof.Proof.Gen.Conv1Ideal.Frame
public import proofs.«01_k».proof.Proof.Gen.Conv1RefIdeal.Frame
public import proofs.«01_k».proof.Proof.Act1
public import proofs.«01_k».proof.Proof.Conv1

@[expose] public section

noncomputable section

namespace Cert.Proof

open Idealize.ShloMosaic Idealize.SL.Sem

/-- All claims: the twelve frames, then for each call what its idealization rests on and the equation of kernel and reference. -/
theorem claim : Cert.Claim := ⟨Cert.Da2.Gen.facts, Cert.Da2Ideal.Gen.facts, Cert.Da2RefIdeal.Gen.facts,
  Cert.Dw2.Gen.facts, Cert.Dw2Ideal.Gen.facts, Cert.Dw2RefIdeal.Gen.facts,
  Cert.Act1.Gen.facts, Cert.Act1Ideal.Gen.facts, Cert.Act1RefIdeal.Gen.facts,
  Cert.Conv1.Gen.facts, Cert.Conv1Ideal.Gen.facts, Cert.Conv1RefIdeal.Gen.facts,
  fun m ρ _ => Cert.Da2.Gen.frame m ρ, fun m ρ _ => Cert.Da2Ideal.Gen.frame m ρ, fun m ρ _ => Cert.Da2RefIdeal.Gen.frame m ρ,
  fun m ρ _ => Cert.Dw2.Gen.frame m ρ, fun m ρ _ => Cert.Dw2Ideal.Gen.frame m ρ, fun m ρ _ => Cert.Dw2RefIdeal.Gen.frame m ρ,
  fun m ρ _ => Cert.Act1.Gen.frame m ρ, fun m ρ _ => Cert.Act1Ideal.Gen.frame m ρ, fun m ρ _ => Cert.Act1RefIdeal.Gen.frame m ρ,
  fun m ρ _ => Cert.Conv1.Gen.frame m ρ, fun m ρ _ => Cert.Conv1Ideal.Gen.frame m ρ, fun m ρ _ => Cert.Conv1RefIdeal.Gen.frame m ρ,
  Cert.preserves_da2, Cert.algebraic_da2,
  Cert.preserves_dw2, Cert.algebraic_dw2,
  Cert.preserves_act1, Cert.algebraic_act1,
  Cert.preserves_conv1, Cert.algebraic_conv1⟩

end Cert.Proof

end
